-- ==== Defs.lean ====
def Pre_Kernel [hPre_dest_in_range : Cert.Pre_dest_in_range.Facts] (m : (ℓ : Loc Cert.Kernel.nD Cert.Kernel.τ Cert.Kernel.sig) → Buf (Elt Bits) ℓ) : Prop :=
  ∀ c : Dev Cert.Kernel.nD,
    (Cert.Pre_dest_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_range : Cert.Pre_dest_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dest_in_range [hPre_dest_in_range : Cert.Pre_dest_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_range : Cert.Pre_dest_in_range.Facts] (m : (ℓ : Loc Cert.Reference.nD Cert.Reference.τ Cert.Reference.sig) → Buf (Elt Bits) ℓ) : Prop :=
  ∀ c : Dev Cert.Reference.nD,
    (Cert.Pre_dest_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_blocks_in_range : Cert.Pre_blocks_in_range.Facts] (m : (ℓ : Loc Cert.Kernel5.nD Cert.Kernel5.τ Cert.Kernel5.sig) → Buf (Elt Bits) ℓ) : Prop :=
  ∀ c : Dev Cert.Kernel5.nD,
    (Cert.Pre_blocks_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_blocks_in_range : Cert.Pre_blocks_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_blocks_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_blocks_in_range [hPre_blocks_in_range : Cert.Pre_blocks_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_blocks_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_dest_in_range : Cert.Pre_dest_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_range : Cert.Pre_dest_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_dest_in_range [hReferenceIdeal : Cert.ReferenceIdeal.Facts] [hPre_dest_in_range : Cert.Pre_dest_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dest_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_range : Cert.Pre_dest_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_blocks_in_range : Cert.Pre_blocks_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_blocks_in_range : Cert.Pre_blocks_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_blocks_in_range [hReference5Ideal : Cert.Reference5Ideal.Facts] [hPre_blocks_in_range : Cert.Pre_blocks_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_blocks_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_range : Cert.Pre_dest_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_range : Cert.Pre_dest_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_blocks_in_range : Cert.Pre_blocks_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v22)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v22) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_dest_in_range : Cert.Pre_dest_in_range.Facts) (hPre_blocks_in_range : Cert.Pre_blocks_in_range.Facts),
    quiescent_Kernel (hKernel := hKernel) (hPre_dest_in_range := hPre_dest_in_range)
    ∧ quiescent_KernelIdeal (hKernelIdeal := hKernelIdeal) (hPre_dest_in_range := hPre_dest_in_range)
    ∧ quiescent_ReferenceIdeal (hReferenceIdeal := hReferenceIdeal)
    ∧ quiescent_ReferenceIdeal_pre_dest_in_range (hReferenceIdeal := hReferenceIdeal) (hPre_dest_in_range := hPre_dest_in_range)
    ∧ quiescent_Reference (hReference := hReference) (hPre_dest_in_range := hPre_dest_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_blocks_in_range := hPre_blocks_in_range)
    ∧ quiescent_Kernel5Ideal (hKernel5Ideal := hKernel5Ideal) (hPre_blocks_in_range := hPre_blocks_in_range)
    ∧ quiescent_Reference5Ideal (hReference5Ideal := hReference5Ideal)
    ∧ quiescent_Reference5Ideal_pre_blocks_in_range (hReference5Ideal := hReference5Ideal) (hPre_blocks_in_range := hPre_blocks_in_range)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_dest_in_range := hPre_dest_in_range)
    ∧ bitexact_Kernel_Reference (hKernel := hKernel) (hReference := hReference) (hPre_dest_in_range := hPre_dest_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_blocks_in_range := hPre_blocks_in_range)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_blocks_in_range.lean ====
abbrev S40960x4096 : Shape := ⟨2, ![40960, 4096]⟩
abbrev S160 : Shape := ⟨1, ![160]⟩
abbrev S1 : Shape := ⟨1, ![1]⟩
abbrev S32x4096x1024 : Shape := ⟨3, ![32, 4096, 1024]⟩
abbrev S32x1024 : Shape := ⟨2, ![32, 1024]⟩
abbrev S32x512x4096 : Shape := ⟨3, ![32, 512, 4096]⟩
abbrev S32x4096 : Shape := ⟨2, ![32, 4096]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S40960x4096 .f32) (main_arg1 : IVec S160 32) (main_arg2 : IVec S1 32) (main_arg3 : FVec F S32x4096x1024 .f32) (main_arg4 : FVec F S32x1024 .f32) (main_arg5 : FVec F S32x512x4096 .f32) (main_arg6 : FVec F S32x4096 .f32) : IVec S_ 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 160#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_dest_in_range.lean ====
abbrev S40960x4096 : Shape := ⟨2, ![40960, 4096]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S40960x4096 .f32) (main_arg1 : IVec S32768 32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 40960#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Kernel.lean ====
abbrev S40960x4096 : Shape := ⟨2, ![40960, 4096]⟩
abbrev S32768 : Shape := ⟨1, ![32768]⟩
abbrev S1310720x128 : Shape := ⟨2, ![1310720, 128]⟩
abbrev S1048576x128 : Shape := ⟨2, ![1048576, 128]⟩
abbrev S_ : Shape := ⟨0, ![]⟩
abbrev S1 : Shape := ⟨1, ![1]⟩
abbrev S32x128 : Shape := ⟨2, ![32, 128]⟩
abbrev S8192x128 : Shape := ⟨2, ![8192, 128]⟩

abbrev nBuf : Space → Nat
  | .hbm => 3
  | .vmem => 0
  | .smem => 1
  | _ => 0

abbrev bufTy : (tb : Table) → Fin (tcTables nBuf tb) → BufTy
  | .hbm, ⟨0, _⟩ => ⟨S40960x4096, .f32⟩
  | .hbm, ⟨1, _⟩ => ⟨S1310720x128, .f32⟩
  | .hbm, ⟨2, _⟩ => ⟨S1048576x128, .f32⟩
  | .local _ .smem, ⟨0, _⟩ => ⟨S32768, .i32⟩
  | _, _ => ⟨S40960x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg1 : Ref sig .tc := ⟨.smem, 0, rfl⟩

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8192_i32 : BitVec 32 := 8192#32
  let v0 : BitVec 32 := Scalar.addi c0_i32 c8192_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32 : BitVec 32 := 4#32
  let v2 : BitVec 32 := Scalar.muli arg5 c4_i32
  let c0_i32_3 : BitVec 32 := 0#32
  let v3 : BitVec 32 := Scalar.addi v2 c0_i32_3
  let v4 : Index := Scalar.indexCast v3
  ![v4.toNat]
def k0_mult1 (v5 : BitVec 32) : BitVec 32 :=
  let c32_i32 : BitVec 32 := 32#32
  let v7 : BitVec 32 := Scalar.muli v5 c32_i32
  v7

def k0_mult2 (k0_t1 : Fin k0_t1_loop.trips) : BitVec 32 :=
  let c0_i32_4 : BitVec 32 := 0#32
  let c0_i32 : BitVec 32 := 0#32
  let c1_i32 : BitVec 32 := 1#32
  let arg5 : BitVec 32 := Scf.iv c0_i32 c1_i32 k0_t1
  let v6 : BitVec 32 := Scalar.addi c0_i32_4 arg5
  let c32_i32_5 : BitVec 32 := 32#32
  let v9 : BitVec 32 := Scalar.muli v6 c32_i32_5
  v9
def k0_off2 (k0_t1 : Fin k0_t1_loop.trips) : Fin 2 → Nat :=
  let c0_i32_4 : BitVec 32 := 0#32
  let c0_i32 : BitVec 32 := 0#32
  let c1_i32 : BitVec 32 := 1#32
  let arg5 : BitVec 32 := Scf.iv c0_i32 c1_i32 k0_t1
  let v6 : BitVec 32 := Scalar.addi c0_i32_4 arg5
  let c32_i32_5 : BitVec 32 := 32#32
  let v9 : BitVec 32 := Scalar.muli v6 c32_i32_5
  let v10 : BitVec 32 := v9
  let c0_i32_6 : BitVec 32 := 0#32
  ![v10.toNat, 0]
def k0_off3 (v5 : BitVec 32) : Fin 2 → Nat :=
  let c32_i32 : BitVec 32 := 32#32
  let v7 : BitVec 32 := Scalar.muli v5 c32_i32
  let v8 : BitVec 32 := v7
  let c0_i32_7 : BitVec 32 := 0#32
  ![v8.toNat, 0]

def k0_chk1 (v5 : BitVec 32) : Prop :=
  (32 ∣ (k0_mult1 v5).toNat) ∧
  (∀ a, (k0_off3 v5) a + S32x128.size a ≤ S1310720x128.size a)
theorem k0_mult1_dvd : ∀ (v5 : BitVec 32) (k0_hw1 : k0_chk1 v5), 32 ∣ (k0_mult1 v5).toNat := fun v5 k0_hw1 => k0_hw1.1
theorem k0_off3_inb : ∀ (v5 : BitVec 32) (k0_hw1 : k0_chk1 v5), ∀ a, (k0_off3 v5) a + S32x128.size a ≤ S1310720x128.size a := fun v5 k0_hw1 => k0_hw1.2

def k0_off4 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32_8 : BitVec 32 := 4#32
  let v13 : BitVec 32 := Scalar.muli arg5 c4_i32_8
  let c1_i32_9 : BitVec 32 := 1#32
  let v14 : BitVec 32 := Scalar.addi v13 c1_i32_9
  let v15 : Index := Scalar.indexCast v14
  ![v15.toNat]
def k0_mult3 (v16 : BitVec 32) : BitVec 32 :=
  let c32_i32_11 : BitVec 32 := 32#32
  let v18 : BitVec 32 := Scalar.muli v16 c32_i32_11
  v18

def k0_mult4 (k0_t1 : Fin k0_t1_loop.trips) : BitVec 32 :=
  let c8192_i32_10 : BitVec 32 := 8192#32
  let c0_i32 : BitVec 32 := 0#32
  let c1_i32 : BitVec 32 := 1#32
  let arg5 : BitVec 32 := Scf.iv c0_i32 c1_i32 k0_t1
  let v17 : BitVec 32 := Scalar.addi c8192_i32_10 arg5
  let c32_i32_12 : BitVec 32 := 32#32
  let v20 : BitVec 32 := Scalar.muli v17 c32_i32_12
  v20
def k0_off5 (k0_t1 : Fin k0_t1_loop.trips) : Fin 2 → Nat :=
  let c8192_i32_10 : BitVec 32 := 8192#32
  let c0_i32 : BitVec 32 := 0#32
  let c1_i32 : BitVec 32 := 1#32
  let arg5 : BitVec 32 := Scf.iv c0_i32 c1_i32 k0_t1
  let v17 : BitVec 32 := Scalar.addi c8192_i32_10 arg5
  let c32_i32_12 : BitVec 32 := 32#32
  let v20 : BitVec 32 := Scalar.muli v17 c32_i32_12
  let v21 : BitVec 32 := v20
  let c0_i32_13 : BitVec 32 := 0#32
  ![v21.toNat, 0]
def k0_off6 (v16 : BitVec 32) : Fin 2 → Nat :=
  let c32_i32_11 : BitVec 32 := 32#32
  let v18 : BitVec 32 := Scalar.muli v16 c32_i32_11
  let v19 : BitVec 32 := v18
  let c0_i32_14 : BitVec 32 := 0#32
  ![v19.toNat, 0]

def k0_chk2 (v16 : BitVec 32) : Prop :=
  (32 ∣ (k0_mult3 v16).toNat) ∧
  (∀ a, (k0_off6 v16) a + S32x128.size a ≤ S1310720x128.size a)
theorem k0_mult3_dvd : ∀ (v16 : BitVec 32) (k0_hw2 : k0_chk2 v16), 32 ∣ (k0_mult3 v16).toNat := fun v16 k0_hw2 => k0_hw2.1
theorem k0_off6_inb : ∀ (v16 : BitVec 32) (k0_hw2 : k0_chk2 v16), ∀ a, (k0_off6 v16) a + S32x128.size a ≤ S1310720x128.size a := fun v16 k0_hw2 => k0_hw2.2

def k0_off7 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32_15 : BitVec 32 := 4#32
  let v24 : BitVec 32 := Scalar.muli arg5 c4_i32_15
  let c2_i32 : BitVec 32 := 2#32
  let v25 : BitVec 32 := Scalar.addi v24 c2_i32
  let v26 : Index := Scalar.indexCast v25
  ![v26.toNat]
def k0_mult5 (v27 : BitVec 32) : BitVec 32 :=
  let c32_i32_16 : BitVec 32 := 32#32
  let v29 : BitVec 32 := Scalar.muli v27 c32_i32_16
  v29

def k0_mult6 (k0_t1 : Fin k0_t1_loop.trips) : BitVec 32 :=
  let c16384_i32 : BitVec 32 := 16384#32
  let c0_i32 : BitVec 32 := 0#32
  let c1_i32 : BitVec 32 := 1#32
  let arg5 : BitVec 32 := Scf.iv c0_i32 c1_i32 k0_t1
  let v28 : BitVec 32 := Scalar.addi c16384_i32 arg5
  let c32_i32_17 : BitVec 32 := 32#32
  let v31 : BitVec 32 := Scalar.muli v28 c32_i32_17
  v31
def k0_off8 (k0_t1 : Fin k0_t1_loop.trips) : Fin 2 → Nat :=
  let c16384_i32 : BitVec 32 := 16384#32
  let c0_i32 : BitVec 32 := 0#32
  let c1_i32 : BitVec 32 := 1#32
  let arg5 : BitVec 32 := Scf.iv c0_i32 c1_i32 k0_t1
  let v28 : BitVec 32 := Scalar.addi c16384_i32 arg5
  let c32_i32_17 : BitVec 32 := 32#32
  let v31 : BitVec 32 := Scalar.muli v28 c32_i32_17
  let v32 : BitVec 32 := v31
  let c0_i32_18 : BitVec 32 := 0#32
  ![v32.toNat, 0]
def k0_off9 (v27 : BitVec 32) : Fin 2 → Nat :=
  let c32_i32_16 : BitVec 32 := 32#32
  let v29 : BitVec 32 := Scalar.muli v27 c32_i32_16
  let v30 : BitVec 32 := v29
  let c0_i32_19 : BitVec 32 := 0#32
  ![v30.toNat, 0]

def k0_chk3 (v27 : BitVec 32) : Prop :=
  (32 ∣ (k0_mult5 v27).toNat) ∧
  (∀ a, (k0_off9 v27) a + S32x128.size a ≤ S1310720x128.size a)
theorem k0_mult5_dvd : ∀ (v27 : BitVec 32) (k0_hw3 : k0_chk3 v27), 32 ∣ (k0_mult5 v27).toNat := fun v27 k0_hw3 => k0_hw3.1
theorem k0_off9_inb : ∀ (v27 : BitVec 32) (k0_hw3 : k0_chk3 v27), ∀ a, (k0_off9 v27) a + S32x128.size a ≤ S1310720x128.size a := fun v27 k0_hw3 => k0_hw3.2

def k0_off10 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32_20 : BitVec 32 := 4#32
  let v35 : BitVec 32 := Scalar.muli arg5 c4_i32_20
  let c3_i32 : BitVec 32 := 3#32
  let v36 : BitVec 32 := Scalar.addi v35 c3_i32
  let v37 : Index := Scalar.indexCast v36
  ![v37.toNat]
def k0_mult7 (v38 : BitVec 32) : BitVec 32 :=
  let c32_i32_21 : BitVec 32 := 32#32
  let v40 : BitVec 32 := Scalar.muli v38 c32_i32_21
  v40

def k0_mult8 (k0_t1 : Fin k0_t1_loop.trips) : BitVec 32 :=
  let c24576_i32 : BitVec 32 := 24576#32
  let c0_i32 : BitVec 32 := 0#32
  let c1_i32 : BitVec 32 := 1#32
  let arg5 : BitVec 32 := Scf.iv c0_i32 c1_i32 k0_t1
  let v39 : BitVec 32 := Scalar.addi c24576_i32 arg5
  let c32_i32_22 : BitVec 32 := 32#32
  let v42 : BitVec 32 := Scalar.muli v39 c32_i32_22
  v42
def k0_off11 (k0_t1 : Fin k0_t1_loop.trips) : Fin 2 → Nat :=
  let c24576_i32 : BitVec 32 := 24576#32
  let c0_i32 : BitVec 32 := 0#32
  let c1_i32 : BitVec 32 := 1#32
  let arg5 : BitVec 32 := Scf.iv c0_i32 c1_i32 k0_t1
  let v39 : BitVec 32 := Scalar.addi c24576_i32 arg5
  let c32_i32_22 : BitVec 32 := 32#32
  let v42 : BitVec 32 := Scalar.muli v39 c32_i32_22
  let v43 : BitVec 32 := v42
  let c0_i32_23 : BitVec 32 := 0#32
  ![v43.toNat, 0]
def k0_off12 (v38 : BitVec 32) : Fin 2 → Nat :=
  let c32_i32_21 : BitVec 32 := 32#32
  let v40 : BitVec 32 := Scalar.muli v38 c32_i32_21
  let v41 : BitVec 32 := v40
  let c0_i32_24 : BitVec 32 := 0#32
  ![v41.toNat, 0]

def k0_chk4 (v38 : BitVec 32) : Prop :=
  (32 ∣ (k0_mult7 v38).toNat) ∧
  (∀ a, (k0_off12 v38) a + S32x128.size a ≤ S1310720x128.size a)
theorem k0_mult7_dvd : ∀ (v38 : BitVec 32) (k0_hw4 : k0_chk4 v38), 32 ∣ (k0_mult7 v38).toNat := fun v38 k0_hw4 => k0_hw4.1
theorem k0_off12_inb : ∀ (v38 : BitVec 32) (k0_hw4 : k0_chk4 v38), ∀ a, (k0_off12 v38) a + S32x128.size a ≤ S1310720x128.size a := fun v38 k0_hw4 => k0_hw4.2

@[reducible] def k0_t2_loop : Scf.Loop 32 :=
  let c0_i32_1 : BitVec 32 := 0#32
  let c128_i32 : BitVec 32 := 128#32
  let v1 : BitVec 32 := Scalar.addi c0_i32_1 c128_i32
  let c1_i32_2 : BitVec 32 := 1#32
  ⟨c0_i32_1, v1, c1_i32_2⟩
-- ==== Reference.lean ====
abbrev S40960x4096 : Shape := ⟨2, ![40960, 4096]⟩
abbrev S32768 : Shape := ⟨1, ![32768]⟩
abbrev S_ : Shape := ⟨0, ![]⟩
abbrev S32768x1 : Shape := ⟨2, ![32768, 1]⟩
abbrev S32768x4096 : Shape := ⟨2, ![32768, 4096]⟩
abbrev S8192x4x4096 : Shape := ⟨3, ![8192, 4, 4096]⟩
abbrev S4x8192x4096 : Shape := ⟨3, ![4, 8192, 4096]⟩
abbrev S1048576x128 : Shape := ⟨2, ![1048576, 128]⟩

abbrev nBuf : Space → Nat
  | .hbm => 14
  | .vmem => 0
  | .smem => 0
  | _ => 0

abbrev bufTy : (tb : Table) → Fin (tcTables nBuf tb) → BufTy
  | .hbm, ⟨0, _⟩ => ⟨S40960x4096, .f32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S32768x4096, .f32⟩
  | .hbm, ⟨11, _⟩ => ⟨S8192x4x4096, .f32⟩
  | .hbm, ⟨12, _⟩ => ⟨S4x8192x4096, .f32⟩
  | .hbm, ⟨13, _⟩ => ⟨S1048576x128, .f32⟩
  | _, _ => ⟨S40960x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel2.lean ====
abbrev S2x4096x4096 : Shape := ⟨3, ![2, 4096, 4096]⟩
abbrev S2x4096x1024 : Shape := ⟨3, ![2, 4096, 1024]⟩
abbrev S3x1024x4096 : Shape := ⟨3, ![3, 1024, 4096]⟩
abbrev S3x4096x4096 : Shape := ⟨3, ![3, 4096, 4096]⟩
abbrev S3x4096 : Shape := ⟨2, ![3, 4096]⟩
abbrev S4096x4096 : Shape := ⟨2, ![4096, 4096]⟩
abbrev S4096 : Shape := ⟨1, ![4096]⟩
abbrev S2x1x4096 : Shape := ⟨3, ![2, 1, 4096]⟩
abbrev S8192x4096 : Shape := ⟨2, ![8192, 4096]⟩
abbrev S8192x1024 : Shape := ⟨2, ![8192, 1024]⟩
abbrev S3x1x4096 : Shape := ⟨3, ![3, 1, 4096]⟩
abbrev S512x4096 : Shape := ⟨2, ![512, 4096]⟩
abbrev S3x4096x256 : Shape := ⟨3, ![3, 4096, 256]⟩
abbrev S3x1x256 : Shape := ⟨3, ![3, 1, 256]⟩
abbrev S512x1024 : Shape := ⟨2, ![512, 1024]⟩
abbrev S3x1024x256 : Shape := ⟨3, ![3, 1024, 256]⟩
abbrev S512x256 : Shape := ⟨2, ![512, 256]⟩
abbrev S1x4096x256 : Shape := ⟨3, ![1, 4096, 256]⟩
abbrev S4096x256 : Shape := ⟨2, ![4096, 256]⟩
abbrev S1x1x256 : Shape := ⟨3, ![1, 1, 256]⟩
abbrev S1x256 : Shape := ⟨2, ![1, 256]⟩
abbrev S1x1024x256 : Shape := ⟨3, ![1, 1024, 256]⟩
abbrev S1024x256 : Shape := ⟨2, ![1024, 256]⟩
abbrev S1024x4096 : Shape := ⟨2, ![1024, 4096]⟩
abbrev S4096x512 : Shape := ⟨2, ![4096, 512]⟩
abbrev S1024x512 : Shape := ⟨2, ![1024, 512]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 28
  | .vmem => 31
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S3x1024x4096, .f32⟩
  | .hbm, ⟨6, _⟩ => ⟨S3x4096x4096, .f32⟩
  | .hbm, ⟨7, _⟩ => ⟨S3x4096, .f32⟩
  | .hbm, ⟨8, _⟩ => ⟨S4096x4096, .f32⟩
  | .hbm, ⟨9, _⟩ => ⟨S4096, .f32⟩
  | .hbm, ⟨10, _⟩ => ⟨S2x1x4096, .f32⟩
  | .hbm, ⟨11, _⟩ => ⟨S2x4096x4096, .bf16⟩
  | .hbm, ⟨12, _⟩ => ⟨S8192x4096, .bf16⟩
  | .hbm, ⟨13, _⟩ => ⟨S2x4096x1024, .bf16⟩
  | .hbm, ⟨14, _⟩ => ⟨S8192x1024, .bf16⟩
  | .hbm, ⟨15, _⟩ => ⟨S2x4096x1024, .bf16⟩
  | .hbm, ⟨16, _⟩ => ⟨S8192x1024, .bf16⟩
  | .hbm, ⟨17, _⟩ => ⟨S2x4096x1024, .bf16⟩
  | .hbm, ⟨18, _⟩ => ⟨S8192x1024, .bf16⟩
  | .hbm, ⟨19, _⟩ => ⟨S3x4096x4096, .bf16⟩
  | .hbm, ⟨20, _⟩ => ⟨S3x1024x4096, .bf16⟩
  | .hbm, ⟨21, _⟩ => ⟨S3x1x4096, .f32⟩
  | .hbm, ⟨22, _⟩ => ⟨S8192x4096, .bf16⟩
  | .hbm, ⟨23, _⟩ => ⟨S4096x4096, .bf16⟩
  | .hbm, ⟨24, _⟩ => ⟨S8192x4096, .f32⟩
  | .hbm, ⟨25, _⟩ => ⟨S2x4096x4096, .f32⟩
  | .hbm, ⟨26, _⟩ => ⟨S1x4096, .f32⟩
  | .hbm, ⟨27, _⟩ => ⟨S2x4096x4096, .f32⟩
  | .local _ .vmem, ⟨0, _⟩ => ⟨S512x4096, .bf16⟩
  | .local _ .vmem, ⟨1, _⟩ => ⟨S512x4096, .bf16⟩
  | .local _ .vmem, ⟨2, _⟩ => ⟨S3x4096x256, .bf16⟩
  | .local _ .vmem, ⟨3, _⟩ => ⟨S3x4096x256, .bf16⟩
  | .local _ .vmem, ⟨4, _⟩ => ⟨S3x1x256, .f32⟩
  | .local _ .vmem, ⟨5, _⟩ => ⟨S3x1x256, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S3x1024x256, .bf16⟩
  | .local _ .vmem, ⟨13, _⟩ => ⟨S3x1024x256, .bf16⟩
  | .local _ .vmem, ⟨14, _⟩ => ⟨S512x256, .bf16⟩
  | .local _ .vmem, ⟨15, _⟩ => ⟨S512x256, .bf16⟩
  | .local _ .vmem, ⟨16, _⟩ => ⟨S1024x4096, .bf16⟩
  | .local _ .vmem, ⟨17, _⟩ => ⟨S1024x4096, .bf16⟩
  | .local _ .vmem, ⟨18, _⟩ => ⟨S4096x512, .bf16⟩
  | .local _ .vmem, ⟨19, _⟩ => ⟨S4096x512, .bf16⟩
  | .local _ .vmem, ⟨20, _⟩ => ⟨S1024x512, .f32⟩
  | .local _ .vmem, ⟨21, _⟩ => ⟨S1024x512, .f32⟩
  | .local _ .vmem, ⟨22, _⟩ => ⟨S1x256x4096, .f32⟩
  | .local _ .vmem, ⟨23, _⟩ => ⟨S1x256x4096, .f32⟩
  | .local _ .vmem, ⟨24, _⟩ => ⟨S1x256x4096, .f32⟩
  | .local _ .vmem, ⟨25, _⟩ => ⟨S1x256x4096, .f32⟩
  | .local _ .vmem, ⟨26, _⟩ => ⟨S1x4096, .f32⟩
  | .local _ .vmem, ⟨27, _⟩ => ⟨S1x1x4096, .f32⟩
  | .local _ .vmem, ⟨28, _⟩ => ⟨S1x1x4096, .f32⟩
  | .local _ .vmem, ⟨29, _⟩ => ⟨S1x256x4096, .f32⟩
  | .local _ .vmem, ⟨30, _⟩ => ⟨S1x256x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== Reference2Ideal.lean ====
abbrev S2x4096x4096 : Shape := ⟨3, ![2, 4096, 4096]⟩
abbrev S2x4096x1024 : Shape := ⟨3, ![2, 4096, 1024]⟩
abbrev S3x1024x4096 : Shape := ⟨3, ![3, 1024, 4096]⟩
abbrev S3x4096x4096 : Shape := ⟨3, ![3, 4096, 4096]⟩
abbrev S3x4096 : Shape := ⟨2, ![3, 4096]⟩
abbrev S4096x4096 : Shape := ⟨2, ![4096, 4096]⟩
abbrev S4096 : Shape := ⟨1, ![4096]⟩
abbrev S2x1x4096 : Shape := ⟨3, ![2, 1, 4096]⟩
abbrev S1x4096x4096 : Shape := ⟨3, ![1, 4096, 4096]⟩
abbrev S1x4096 : Shape := ⟨2, ![1, 4096]⟩
abbrev S1x1x4096 : Shape := ⟨3, ![1, 1, 4096]⟩
abbrev S_ : Shape := ⟨0, ![]⟩
abbrev S1x1024x4096 : Shape := ⟨3, ![1, 1024, 4096]⟩
abbrev S1024x4096 : Shape := ⟨2, ![1024, 4096]⟩
abbrev S2x4096 : Shape := ⟨2, ![2, 4096]⟩
abbrev S2x4096x1 : Shape := ⟨3, ![2, 4096, 1]⟩

abbrev nBuf : Space → Nat
  | .hbm => 93
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S3x1024x4096, .f32⟩
  | .hbm, ⟨6, _⟩ => ⟨S3x4096x4096, .f32⟩
  | .hbm, ⟨7, _⟩ => ⟨S3x4096, .f32⟩
  | .hbm, ⟨8, _⟩ => ⟨S4096x4096, .f32⟩
  | .hbm, ⟨9, _⟩ => ⟨S4096, .f32⟩
  | .hbm, ⟨10, _⟩ => ⟨S2x1x4096, .f32⟩
  | .hbm, ⟨11, _⟩ => ⟨S1x4096x4096, .f32⟩
  | .hbm, ⟨12, _⟩ => ⟨S4096x4096, .f32⟩
  | .hbm, ⟨13, _⟩ => ⟨S2x4096x4096, .f32⟩
  | .hbm, ⟨14, _⟩ => ⟨S1x4096, .f32⟩
  | .hbm, ⟨15, _⟩ => ⟨S4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S_, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S2x4096x4096, .f32⟩
  | .hbm, ⟨26, _⟩ => ⟨S2x4096x4096, .f32⟩
  | .hbm, ⟨27, _⟩ => ⟨S1x1024x4096, .f32⟩
  | .hbm, ⟨28, _⟩ => ⟨S1024x4096, .f32⟩
  | .hbm, ⟨29, _⟩ => ⟨S2x4096x4096, .f32⟩
  | .hbm, ⟨30, _⟩ => ⟨S2x4096x4096, .f32⟩
  | .hbm, ⟨31, _⟩ => ⟨S1x4096x4096, .f32⟩
  | .hbm, ⟨32, _⟩ => ⟨S4096x4096, .f32⟩
  | .hbm, ⟨33, _⟩ => ⟨S2x4096x4096, .f32⟩
  | .hbm, ⟨34, _⟩ => ⟨S1x4096, .f32⟩
  | .hbm, ⟨35, _⟩ => ⟨S4096, .f32⟩
  | .hbm, ⟨36, _⟩ => ⟨S1x1x4096, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S2x4096x4096, .f32⟩
  | .hbm, ⟨41, _⟩ => ⟨S_, .f32⟩
  | .hbm, ⟨42, _⟩ => ⟨S2x4096x4096, .f32⟩
  | .hbm, ⟨43, _⟩ => ⟨S2x4096x4096, .f32⟩
  | .hbm, ⟨44, _⟩ => ⟨S_, .f32⟩
  | .hbm, ⟨45, _⟩ => ⟨S2x4096x4096, .f32⟩
  | .hbm, ⟨46, _⟩ => ⟨S2x4096x4096, .f32⟩
  | .hbm, ⟨47, _⟩ => ⟨S1x1024x4096, .f32⟩
  | .hbm, ⟨48, _⟩ => ⟨S1024x4096, .f32⟩
  | .hbm, ⟨49, _⟩ => ⟨S2x4096x4096, .f32⟩
  | .hbm, ⟨50, _⟩ => ⟨S2x4096x4096, .f32⟩
  | .hbm, ⟨51, _⟩ => ⟨S2x4096x4096, .f32⟩
  | .hbm, ⟨52, _⟩ => ⟨S1x4096x4096, .f32⟩
  | .hbm, ⟨53, _⟩ => ⟨S4096x4096, .f32⟩
  | .hbm, ⟨54, _⟩ => ⟨S2x4096x4096, .f32⟩
  | .hbm, ⟨55, _⟩ => ⟨S1x4096, .f32⟩
  | .hbm, ⟨56, _⟩ => ⟨S4096, .f32⟩
  | .hbm, ⟨57, _⟩ => ⟨S1x1x4096, .f32⟩
  | .hbm, ⟨58, _⟩ => ⟨S2x4096x4096, .f32⟩
  | .hbm, ⟨59, _⟩ => ⟨S2x4096x4096, .f32⟩
  | .hbm, ⟨60, _⟩ => ⟨S2x4096x4096, .f32⟩
  | .hbm, ⟨61, _⟩ => ⟨S2x4096x4096, .f32⟩
  | .hbm, ⟨62, _⟩ => ⟨S_, .f32⟩
  | .hbm, ⟨63, _⟩ => ⟨S2x4096x4096, .f32⟩
  | .hbm, ⟨64, _⟩ => ⟨S2x4096x4096, .f32⟩
  | .hbm, ⟨65, _⟩ => ⟨S_, .f32⟩
  | .hbm, ⟨66, _⟩ => ⟨S2x4096x4096, .f32⟩
  | .hbm, ⟨67, _⟩ => ⟨S2x4096x4096, .f32⟩
  | .hbm, ⟨68, _⟩ => ⟨S1x1024x4096, .f32⟩
  | .hbm, ⟨69, _⟩ => ⟨S1024x4096, .f32⟩
  | .hbm, ⟨70, _⟩ => ⟨S2x4096x4096, .f32⟩
  | .hbm, ⟨71, _⟩ => ⟨S2x4096x4096, .f32⟩
  | .hbm, ⟨72, _⟩ => ⟨S2x4096x4096, .f32⟩
  | .hbm, ⟨73, _⟩ => ⟨S2x4096x4096, .f32⟩
  | .hbm, ⟨74, _⟩ => ⟨S2x4096x4096, .f32⟩
  | .hbm, ⟨75, _⟩ => ⟨S_, .f32⟩
  | .hbm, ⟨76, _⟩ => ⟨S2x4096, .f32⟩
  | .hbm, ⟨77, _⟩ => ⟨S2x4096x1, .f32⟩
  | .hbm, ⟨78, _⟩ => ⟨S_, .f32⟩
  | .hbm, ⟨79, _⟩ => ⟨S2x4096x1, .f32⟩
  | .hbm, ⟨80, _⟩ => ⟨S2x4096x1, .f32⟩
  | .hbm, ⟨81, _⟩ => ⟨S_, .f32⟩
  | .hbm, ⟨82, _⟩ => ⟨S2x4096x1, .f32⟩
  | .hbm, ⟨83, _⟩ => ⟨S2x4096x1, .f32⟩
  | .hbm, ⟨84, _⟩ => ⟨S2x4096x1, .f32⟩
  | .hbm, ⟨85, _⟩ => ⟨S2x4096x4096, .f32⟩
  | .hbm, ⟨86, _⟩ => ⟨S2x4096x4096, .f32⟩
  | .hbm, ⟨87, _⟩ => ⟨S1x1x4096, .f32⟩
  | .hbm, ⟨88, _⟩ => ⟨S2x4096x4096, .f32⟩
  | .hbm, ⟨89, _⟩ => ⟨S2x4096x4096, .f32⟩
  | .hbm, ⟨90, _⟩ => ⟨S2x4096x4096, .f32⟩
  | .hbm, ⟨91, _⟩ => ⟨S2x4096x4096, .f32⟩
  | .hbm, ⟨92, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Kernel3.lean ====
abbrev S2x4096x4096 : Shape := ⟨3, ![2, 4096, 4096]⟩
abbrev S1048576x128 : Shape := ⟨2, ![1048576, 128]⟩
abbrev S8192x4 : Shape := ⟨2, ![8192, 4]⟩
abbrev S4096 : Shape := ⟨1, ![4096]⟩
abbrev S2x1x4096 : Shape := ⟨3, ![2, 1, 4096]⟩
abbrev S4x262144x128 : Shape := ⟨3, ![4, 262144, 128]⟩
abbrev S_ : Shape := ⟨0, ![]⟩
abbrev S8192x128 : Shape := ⟨2, ![8192, 128]⟩
abbrev S1x4096 : Shape := ⟨2, ![1, 4096]⟩
abbrev S1x128x4096 : Shape := ⟨3, ![1, 128, 4096]⟩
abbrev S4x4096x128 : Shape := ⟨3, ![4, 4096, 128]⟩
abbrev S128x128 : Shape := ⟨2, ![128, 128]⟩
abbrev S1x1x4096 : Shape := ⟨3, ![1, 1, 4096]⟩
abbrev S1x128x128 : Shape := ⟨3, ![1, 128, 128]⟩
abbrev S128x4096 : Shape := ⟨2, ![128, 4096]⟩
abbrev S128x1 : Shape := ⟨2, ![128, 1]⟩
abbrev S128 : Shape := ⟨1, ![128]⟩

abbrev nBuf : Space → Nat
  | .hbm => 11
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S1048576x128, .f32⟩
  | .hbm, ⟨2, _⟩ => ⟨S8192x4, .f32⟩
  | .hbm, ⟨3, _⟩ => ⟨S4096, .f32⟩
  | .hbm, ⟨4, _⟩ => ⟨S2x1x4096, .f32⟩
  | .hbm, ⟨5, _⟩ => ⟨S4x262144x128, .f32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S1x4096, .f32⟩
  | .hbm, ⟨10, _⟩ => ⟨S2x4096x4096, .f32⟩
  | .local _ .vmem, ⟨0, _⟩ => ⟨S1x128x4096, .f32⟩
  | .local _ .vmem, ⟨1, _⟩ => ⟨S1x128x4096, .f32⟩
  | .local _ .vmem, ⟨2, _⟩ => ⟨S4x4096x128, .f32⟩
  | .local _ .vmem, ⟨3, _⟩ => ⟨S4x4096x128, .f32⟩
  | .local _ .vmem, ⟨4, _⟩ => ⟨S128x128, .f32⟩
  | .local _ .vmem, ⟨5, _⟩ => ⟨S128x128, .f32⟩
  | .local _ .vmem, ⟨6, _⟩ => ⟨S1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x128x4096, .f32⟩
  | .local _ .vmem, ⟨10, _⟩ => ⟨S1x128x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2x4096x4096 : Shape := ⟨3, ![2, 4096, 4096]⟩
abbrev S1048576x128 : Shape := ⟨2, ![1048576, 128]⟩
abbrev S8192x4 : Shape := ⟨2, ![8192, 4]⟩
abbrev S4096 : Shape := ⟨1, ![4096]⟩
abbrev S2x1x4096 : Shape := ⟨3, ![2, 1, 4096]⟩
abbrev S4x8192x4096 : Shape := ⟨3, ![4, 8192, 4096]⟩
abbrev S1x8192x4096 : Shape := ⟨3, ![1, 8192, 4096]⟩
abbrev S8192x4096 : Shape := ⟨2, ![8192, 4096]⟩
abbrev S8192x1 : Shape := ⟨2, ![8192, 1]⟩
abbrev S8192 : Shape := ⟨1, ![8192]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1048576x128, .f32⟩
  | .hbm, ⟨2, _⟩ => ⟨S8192x4, .f32⟩
  | .hbm, ⟨3, _⟩ => ⟨S4096, .f32⟩
  | .hbm, ⟨4, _⟩ => ⟨S2x1x4096, .f32⟩
  | .hbm, ⟨5, _⟩ => ⟨S4x8192x4096, .f32⟩
  | .hbm, ⟨6, _⟩ => ⟨S1x8192x4096, .f32⟩
  | .hbm, ⟨7, _⟩ => ⟨S8192x4096, .f32⟩
  | .hbm, ⟨8, _⟩ => ⟨S8192x1, .f32⟩
  | .hbm, ⟨9, _⟩ => ⟨S8192, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S1x8192x4096, .f32⟩
  | .hbm, ⟨17, _⟩ => ⟨S8192x4096, .f32⟩
  | .hbm, ⟨18, _⟩ => ⟨S8192x1, .f32⟩
  | .hbm, ⟨19, _⟩ => ⟨S8192, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S1x8192x4096, .f32⟩
  | .hbm, ⟨25, _⟩ => ⟨S8192x4096, .f32⟩
  | .hbm, ⟨26, _⟩ => ⟨S8192x1, .f32⟩
  | .hbm, ⟨27, _⟩ => ⟨S8192, .f32⟩
  | .hbm, ⟨28, _⟩ => ⟨S8192x1, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S1x8192x4096, .f32⟩
  | .hbm, ⟨33, _⟩ => ⟨S8192x4096, .f32⟩
  | .hbm, ⟨34, _⟩ => ⟨S8192x1, .f32⟩
  | .hbm, ⟨35, _⟩ => ⟨S8192, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S2x4096x4096, .f32⟩
  | .hbm, ⟨41, _⟩ => ⟨S2x4096x4096, .f32⟩
  | .hbm, ⟨42, _⟩ => ⟨S_, .f32⟩
  | .hbm, ⟨43, _⟩ => ⟨S2x4096, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S_, .f32⟩
  | .hbm, ⟨49, _⟩ => ⟨S2x4096x1, .f32⟩
  | .hbm, ⟨50, _⟩ => ⟨S2x4096x1, .f32⟩
  | .hbm, ⟨51, _⟩ => ⟨S2x4096x1, .f32⟩
  | .hbm, ⟨52, _⟩ => ⟨S2x4096x4096, .f32⟩
  | .hbm, ⟨53, _⟩ => ⟨S2x4096x4096, .f32⟩
  | .hbm, ⟨54, _⟩ => ⟨S1x1x4096, .f32⟩
  | .hbm, ⟨55, _⟩ => ⟨S2x4096x4096, .f32⟩
  | .hbm, ⟨56, _⟩ => ⟨S2x4096x4096, .f32⟩
  | .hbm, ⟨57, _⟩ => ⟨S2x4096x4096, .f32⟩
  | .hbm, ⟨58, _⟩ => ⟨S2x4096x4096, .f32⟩
  | .hbm, ⟨59, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel4.lean ====
abbrev S2x4096x4096 : Shape := ⟨3, ![2, 4096, 4096]⟩
abbrev S4096 : Shape := ⟨1, ![4096]⟩
abbrev S2x1x4096 : Shape := ⟨3, ![2, 1, 4096]⟩
abbrev S4096x7496 : Shape := ⟨2, ![4096, 7496]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩
abbrev S8192x4096 : Shape := ⟨2, ![8192, 4096]⟩
abbrev S4096x3072 : Shape := ⟨2, ![4096, 3072]⟩
abbrev S4096x6144 : Shape := ⟨2, ![4096, 6144]⟩
abbrev S8192x6144 : Shape := ⟨2, ![8192, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 14
  | .vmem => 15
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S4096x7496, .f32⟩
  | .hbm, ⟨5, _⟩ => ⟨S1x4096, .f32⟩
  | .hbm, ⟨6, _⟩ => ⟨S2x4096x4096, .bf16⟩
  | .hbm, ⟨7, _⟩ => ⟨S8192x4096, .bf16⟩
  | .hbm, ⟨8, _⟩ => ⟨S4096x3072, .f32⟩
  | .hbm, ⟨9, _⟩ => ⟨S4096x3072, .f32⟩
  | .hbm, ⟨10, _⟩ => ⟨S4096x6144, .f32⟩
  | .hbm, ⟨11, _⟩ => ⟨S4096x6144, .bf16⟩
  | .hbm, ⟨12, _⟩ => ⟨S8192x6144, .bf16⟩
  | .hbm, ⟨13, _⟩ => ⟨S8192x6144, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | .local _ .vmem, ⟨9, _⟩ => ⟨S1024x4096, .bf16⟩
  | .local _ .vmem, ⟨10, _⟩ => ⟨S1024x4096, .bf16⟩
  | .local _ .vmem, ⟨11, _⟩ => ⟨S4096x512, .bf16⟩
  | .local _ .vmem, ⟨12, _⟩ => ⟨S4096x512, .bf16⟩
  | .local _ .vmem, ⟨13, _⟩ => ⟨S1024x512, .bf16⟩
  | .local _ .vmem, ⟨14, _⟩ => ⟨S1024x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference4Ideal.lean ====
abbrev S2x4096x4096 : Shape := ⟨3, ![2, 4096, 4096]⟩
abbrev S4096 : Shape := ⟨1, ![4096]⟩
abbrev S2x1x4096 : Shape := ⟨3, ![2, 1, 4096]⟩
abbrev S4096x7496 : Shape := ⟨2, ![4096, 7496]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x4096x7496 : Shape := ⟨3, ![2, 4096, 7496]⟩
abbrev S2x4096x3072 : Shape := ⟨3, ![2, 4096, 3072]⟩
abbrev S2x4096x6144 : Shape := ⟨3, ![2, 4096, 6144]⟩
abbrev S8192x6144 : Shape := ⟨2, ![8192, 6144]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S4096x7496, .f32⟩
  | .hbm, ⟨5, _⟩ => ⟨S2x4096x4096, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S1x1x4096, .f32⟩
  | .hbm, ⟨19, _⟩ => ⟨S2x4096x4096, .f32⟩
  | .hbm, ⟨20, _⟩ => ⟨S2x4096x4096, .f32⟩
  | .hbm, ⟨21, _⟩ => ⟨S_, .f32⟩
  | .hbm, ⟨22, _⟩ => ⟨S2x1x4096, .f32⟩
  | .hbm, ⟨23, _⟩ => ⟨S2x1x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S2x4096x4096, .f32⟩
  | .hbm, ⟨28, _⟩ => ⟨S2x4096x7496, .f32⟩
  | .hbm, ⟨29, _⟩ => ⟨S2x4096x3072, .f32⟩
  | .hbm, ⟨30, _⟩ => ⟨S2x4096x3072, .f32⟩
  | .hbm, ⟨31, _⟩ => ⟨S2x4096x6144, .f32⟩
  | .hbm, ⟨32, _⟩ => ⟨S8192x6144, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel5.lean ====
abbrev S40960x4096 : Shape := ⟨2, ![40960, 4096]⟩
abbrev S160 : Shape := ⟨1, ![160]⟩
abbrev S1 : Shape := ⟨1, ![1]⟩
abbrev S32x4096x1024 : Shape := ⟨3, ![32, 4096, 1024]⟩
abbrev S32x1024 : Shape := ⟨2, ![32, 1024]⟩
abbrev S32x512x4096 : Shape := ⟨3, ![32, 512, 4096]⟩
abbrev S32x4096 : Shape := ⟨2, ![32, 4096]⟩
abbrev S1310720x128 : Shape := ⟨2, ![1310720, 128]⟩
abbrev S32x1x1024 : Shape := ⟨3, ![32, 1, 1024]⟩
abbrev S32x1x4096 : Shape := ⟨3, ![32, 1, 4096]⟩
abbrev S8192x128 : Shape := ⟨2, ![8192, 128]⟩
abbrev S1x4096x1024 : Shape := ⟨3, ![1, 4096, 1024]⟩
abbrev S1x1x1024 : Shape := ⟨3, ![1, 1, 1024]⟩
abbrev S1x512x4096 : Shape := ⟨3, ![1, 512, 4096]⟩
abbrev S1x1x4096 : Shape := ⟨3, ![1, 1, 4096]⟩
abbrev S256x128 : Shape := ⟨2, ![256, 128]⟩
abbrev S256x4096 : Shape := ⟨2, ![256, 4096]⟩
abbrev S4096x1024 : Shape := ⟨2, ![4096, 1024]⟩
abbrev S256x1024 : Shape := ⟨2, ![256, 1024]⟩
abbrev S1x1024 : Shape := ⟨2, ![1, 1024]⟩
abbrev S256x512 : Shape := ⟨2, ![256, 512]⟩
abbrev S512x4096 : Shape := ⟨2, ![512, 4096]⟩
abbrev S1x4096 : Shape := ⟨2, ![1, 4096]⟩

abbrev nBuf : Space → Nat
  | .hbm => 11
  | .vmem => 12
  | .smem => 2
  | _ => 0

abbrev bufTy : (tb : Table) → Fin (tcTables nBuf tb) → BufTy
  | .hbm, ⟨0, _⟩ => ⟨S40960x4096, .f32⟩
  | .hbm, ⟨1, _⟩ => ⟨S32x4096x1024, .f32⟩
  | .hbm, ⟨2, _⟩ => ⟨S32x1024, .f32⟩
  | .hbm, ⟨3, _⟩ => ⟨S32x512x4096, .f32⟩
  | .hbm, ⟨4, _⟩ => ⟨S32x4096, .f32⟩
  | .hbm, ⟨5, _⟩ => ⟨S1310720x128, .f32⟩
  | .hbm, ⟨6, _⟩ => ⟨S32x4096x1024, .bf16⟩
  | .hbm, ⟨7, _⟩ => ⟨S32x512x4096, .bf16⟩
  | .hbm, ⟨8, _⟩ => ⟨S32x1x1024, .f32⟩
  | .hbm, ⟨9, _⟩ => ⟨S32x1x4096, .f32⟩
  | .hbm, ⟨10, _⟩ => ⟨S1310720x128, .f32⟩
  | .local _ .vmem, ⟨0, _⟩ => ⟨S8192x128, .f32⟩
  | .local _ .vmem, ⟨1, _⟩ => ⟨S8192x128, .f32⟩
  | .local _ .vmem, ⟨2, _⟩ => ⟨S1x4096x1024, .bf16⟩
  | .local _ .vmem, ⟨3, _⟩ => ⟨S1x4096x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x512x4096, .bf16⟩
  | .local _ .vmem, ⟨7, _⟩ => ⟨S1x512x4096, .bf16⟩
  | .local _ .vmem, ⟨8, _⟩ => ⟨S1x1x4096, .f32⟩
  | .local _ .vmem, ⟨9, _⟩ => ⟨S1x1x4096, .f32⟩
  | .local _ .vmem, ⟨10, _⟩ => ⟨S8192x128, .f32⟩
  | .local _ .vmem, ⟨11, _⟩ => ⟨S8192x128, .f32⟩
  | .local _ .smem, ⟨0, _⟩ => ⟨S160, .i32⟩
  | .local _ .smem, ⟨1, _⟩ => ⟨S1, .i32⟩
  | _, _ => ⟨S40960x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S40960x4096 : Shape := ⟨2, ![40960, 4096]⟩
abbrev S160 : Shape := ⟨1, ![160]⟩
abbrev S1 : Shape := ⟨1, ![1]⟩
abbrev S32x4096x1024 : Shape := ⟨3, ![32, 4096, 1024]⟩
abbrev S32x1024 : Shape := ⟨2, ![32, 1024]⟩
abbrev S32x512x4096 : Shape := ⟨3, ![32, 512, 4096]⟩
abbrev S32x4096 : Shape := ⟨2, ![32, 4096]⟩
abbrev S160x256x4096 : Shape := ⟨3, ![160, 256, 4096]⟩
abbrev S_ : Shape := ⟨0, ![]⟩
abbrev S160x1 : Shape := ⟨2, ![160, 1]⟩
abbrev S160x4096x1024 : Shape := ⟨3, ![160, 4096, 1024]⟩
abbrev S160x256x1024 : Shape := ⟨3, ![160, 256, 1024]⟩
abbrev S160x1024 : Shape := ⟨2, ![160, 1024]⟩
abbrev S160x1x1024 : Shape := ⟨3, ![160, 1, 1024]⟩
abbrev S160x256x512 : Shape := ⟨3, ![160, 256, 512]⟩
abbrev S160x512x4096 : Shape := ⟨3, ![160, 512, 4096]⟩
abbrev S160x4096 : Shape := ⟨2, ![160, 4096]⟩
abbrev S160x1x4096 : Shape := ⟨3, ![160, 1, 4096]⟩
abbrev S160x1x1 : Shape := ⟨3, ![160, 1, 1]⟩
abbrev S1x1x1 : Shape := ⟨3, ![1, 1, 1]⟩
abbrev S1310720x128 : Shape := ⟨2, ![1310720, 128]⟩

abbrev nBuf : Space → Nat
  | .hbm => 92
  | .vmem => 0
  | .smem => 0
  | _ => 0

abbrev bufTy : (tb : Table) → Fin (tcTables nBuf tb) → BufTy
  | .hbm, ⟨0, _⟩ => ⟨S40960x4096, .f32⟩
  | .hbm, ⟨1, _⟩ => ⟨S160, .i32⟩
  | .hbm, ⟨2, _⟩ => ⟨S1, .i32⟩
  | .hbm, ⟨3, _⟩ => ⟨S32x4096x1024, .f32⟩
  | .hbm, ⟨4, _⟩ => ⟨S32x1024, .f32⟩
  | .hbm, ⟨5, _⟩ => ⟨S32x512x4096, .f32⟩
  | .hbm, ⟨6, _⟩ => ⟨S32x4096, .f32⟩
  | .hbm, ⟨7, _⟩ => ⟨S160x256x4096, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x4096x1024, .f32⟩
  | .hbm, ⟨17, _⟩ => ⟨S160x256x1024, .f32⟩
  | .hbm, ⟨18, _⟩ => ⟨S_, .i32⟩
  | .hbm, ⟨19, _⟩ => ⟨S160, .i32⟩
  | .hbm, ⟨20, _⟩ => ⟨S160, .i1⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S160, .i32⟩
  | .hbm, ⟨25, _⟩ => ⟨S160x1, .i32⟩
  | .hbm, ⟨26, _⟩ => ⟨S160x1024, .f32⟩
  | .hbm, ⟨27, _⟩ => ⟨S160x1x1024, .f32⟩
  | .hbm, ⟨28, _⟩ => ⟨S160x256x1024, .f32⟩
  | .hbm, ⟨29, _⟩ => ⟨S160x256x1024, .f32⟩
  | .hbm, ⟨30, _⟩ => ⟨S160x256x512, .f32⟩
  | .hbm, ⟨31, _⟩ => ⟨S_, .f32⟩
  | .hbm, ⟨32, _⟩ => ⟨S160x256x512, .f32⟩
  | .hbm, ⟨33, _⟩ => ⟨S160x256x512, .f32⟩
  | .hbm, ⟨34, _⟩ => ⟨S160x256x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S160x256x512, .f32⟩
  | .hbm, ⟨39, _⟩ => ⟨S160x256x512, .f32⟩
  | .hbm, ⟨40, _⟩ => ⟨S_, .f32⟩
  | .hbm, ⟨41, _⟩ => ⟨S160x256x512, .f32⟩
  | .hbm, ⟨42, _⟩ => ⟨S160x256x512, .f32⟩
  | .hbm, ⟨43, _⟩ => ⟨S_, .f32⟩
  | .hbm, ⟨44, _⟩ => ⟨S160x256x512, .f32⟩
  | .hbm, ⟨45, _⟩ => ⟨S160x256x512, .f32⟩
  | .hbm, ⟨46, _⟩ => ⟨S160x256x512, .f32⟩
  | .hbm, ⟨47, _⟩ => ⟨S160x256x512, .f32⟩
  | .hbm, ⟨48, _⟩ => ⟨S_, .f32⟩
  | .hbm, ⟨49, _⟩ => ⟨S160x256x512, .f32⟩
  | .hbm, ⟨50, _⟩ => ⟨S160x256x512, .f32⟩
  | .hbm, ⟨51, _⟩ => ⟨S_, .f32⟩
  | .hbm, ⟨52, _⟩ => ⟨S160x256x512, .f32⟩
  | .hbm, ⟨53, _⟩ => ⟨S160x256x512, .f32⟩
  | .hbm, ⟨54, _⟩ => ⟨S160x256x512, .f32⟩
  | .hbm, ⟨55, _⟩ => ⟨S_, .f32⟩
  | .hbm, ⟨56, _⟩ => ⟨S160x256x512, .f32⟩
  | .hbm, ⟨57, _⟩ => ⟨S160x256x512, .f32⟩
  | .hbm, ⟨58, _⟩ => ⟨S160x256x512, .f32⟩
  | .hbm, ⟨59, _⟩ => ⟨S_, .i32⟩
  | .hbm, ⟨60, _⟩ => ⟨S160, .i32⟩
  | .hbm, ⟨61, _⟩ => ⟨S160, .i1⟩
  | .hbm, ⟨62, _⟩ => ⟨S_, .i32⟩
  | .hbm, ⟨63, _⟩ => ⟨S160, .i32⟩
  | .hbm, ⟨64, _⟩ => ⟨S160, .i32⟩
  | .hbm, ⟨65, _⟩ => ⟨S160, .i32⟩
  | .hbm, ⟨66, _⟩ => ⟨S160x1, .i32⟩
  | .hbm, ⟨67, _⟩ => ⟨S160x512x4096, .f32⟩
  | .hbm, ⟨68, _⟩ => ⟨S160x256x4096, .f32⟩
  | .hbm, ⟨69, _⟩ => ⟨S_, .i32⟩
  | .hbm, ⟨70, _⟩ => ⟨S160, .i32⟩
  | .hbm, ⟨71, _⟩ => ⟨S160, .i1⟩
  | .hbm, ⟨72, _⟩ => ⟨S_, .i32⟩
  | .hbm, ⟨73, _⟩ => ⟨S160, .i32⟩
  | .hbm, ⟨74, _⟩ => ⟨S160, .i32⟩
  | .hbm, ⟨75, _⟩ => ⟨S160, .i32⟩
  | .hbm, ⟨76, _⟩ => ⟨S160x1, .i32⟩
  | .hbm, ⟨77, _⟩ => ⟨S160x4096, .f32⟩
  | .hbm, ⟨78, _⟩ => ⟨S160x1x4096, .f32⟩
  | .hbm, ⟨79, _⟩ => ⟨S160x256x4096, .f32⟩
  | .hbm, ⟨80, _⟩ => ⟨S160x256x4096, .f32⟩
  | .hbm, ⟨81, _⟩ => ⟨S160, .i32⟩
  | .hbm, ⟨82, _⟩ => ⟨S160x1x1, .i32⟩
  | .hbm, ⟨83, _⟩ => ⟨S1x1x1, .i32⟩
  | .hbm, ⟨84, _⟩ => ⟨S160x1x1, .i32⟩
  | .hbm, ⟨85, _⟩ => ⟨S160x1x1, .i1⟩
  | .hbm, ⟨86, _⟩ => ⟨S_, .f32⟩
  | .hbm, ⟨87, _⟩ => ⟨S_, .f32⟩
  | .hbm, ⟨88, _⟩ => ⟨S160x256x4096, .i1⟩
  | .hbm, ⟨89, _⟩ => ⟨S160x256x4096, .f32⟩
  | .hbm, ⟨90, _⟩ => ⟨S160x256x4096, .f32⟩
  | .hbm, ⟨91, _⟩ => ⟨S1310720x128, .f32⟩
  | _, _ => ⟨S40960x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel6.lean ====
abbrev S2x4096 : Shape := ⟨2, ![2, 4096]⟩
abbrev S2x4096x24576 : Shape := ⟨3, ![2, 4096, 24576]⟩
abbrev S2x24576 : Shape := ⟨2, ![2, 24576]⟩
abbrev S_ : Shape := ⟨0, ![]⟩
abbrev S8x4096 : Shape := ⟨2, ![8, 4096]⟩
abbrev S2x1x24576 : Shape := ⟨3, ![2, 1, 24576]⟩
abbrev S2x8x24576 : Shape := ⟨3, ![2, 8, 24576]⟩
abbrev S1x4096x1024 : Shape := ⟨3, ![1, 4096, 1024]⟩
abbrev S1x1x1024 : Shape := ⟨3, ![1, 1, 1024]⟩
abbrev S1x8x1024 : Shape := ⟨3, ![1, 8, 1024]⟩
abbrev S4096x1024 : Shape := ⟨2, ![4096, 1024]⟩
abbrev S8x1024 : Shape := ⟨2, ![8, 1024]⟩
abbrev S1x1024 : Shape := ⟨2, ![1, 1024]⟩
abbrev S2x2x24576 : Shape := ⟨3, ![2, 2, 24576]⟩

abbrev nBuf : Space → Nat
  | .hbm => 9
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S2x4096x24576, .f32⟩
  | .hbm, ⟨2, _⟩ => ⟨S2x24576, .f32⟩
  | .hbm, ⟨3, _⟩ => ⟨S_, .i32⟩
  | .hbm, ⟨4, _⟩ => ⟨S_, .f32⟩
  | .hbm, ⟨5, _⟩ => ⟨S8x4096, .f32⟩
  | .hbm, ⟨6, _⟩ => ⟨S2x1x24576, .f32⟩
  | .hbm, ⟨7, _⟩ => ⟨S2x8x24576, .f32⟩
  | .hbm, ⟨8, _⟩ => ⟨S2x2x24576, .f32⟩
  | .local _ .vmem, ⟨0, _⟩ => ⟨S8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x4096 : Shape := ⟨2, ![2, 4096]⟩
abbrev S2x4096x24576 : Shape := ⟨3, ![2, 4096, 24576]⟩
abbrev S2x24576 : Shape := ⟨2, ![2, 24576]⟩
abbrev S_ : Shape := ⟨0, ![]⟩
abbrev S2x24576x2 : Shape := ⟨3, ![2, 24576, 2]⟩
abbrev S2x2x24576 : Shape := ⟨3, ![2, 2, 24576]⟩
abbrev S2x1x24576 : Shape := ⟨3, ![2, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096x24576, .f32⟩
  | .hbm, ⟨2, _⟩ => ⟨S2x24576, .f32⟩
  | .hbm, ⟨3, _⟩ => ⟨S2x4096, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x24576x2, .f32⟩
  | .hbm, ⟨13, _⟩ => ⟨S2x2x24576, .f32⟩
  | .hbm, ⟨14, _⟩ => ⟨S2x1x24576, .f32⟩
  | .hbm, ⟨15, _⟩ => ⟨S2x2x24576, .f32⟩
  | .hbm, ⟨16, _⟩ => ⟨S2x2x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S8192x6144 : Shape := ⟨2, ![8192, 6144]⟩
abbrev S3x1024 : Shape := ⟨2, ![3, 1024]⟩
abbrev S_ : Shape := ⟨0, ![]⟩
abbrev S8x1024 : Shape := ⟨2, ![8, 1024]⟩
abbrev S8192x1024 : Shape := ⟨2, ![8192, 1024]⟩
abbrev S4096x256 : Shape := ⟨2, ![4096, 256]⟩
abbrev S8x256 : Shape := ⟨2, ![8, 256]⟩
abbrev S1x256 : Shape := ⟨2, ![1, 256]⟩

abbrev nBuf : Space → Nat
  | .hbm => 8
  | .vmem => 10
  | .smem => 0
  | _ => 0

abbrev bufTy : (tb : Table) → Fin (tcTables nBuf tb) → BufTy
  | .hbm, ⟨0, _⟩ => ⟨S8192x6144, .f32⟩
  | .hbm, ⟨1, _⟩ => ⟨S3x1024, .f32⟩
  | .hbm, ⟨2, _⟩ => ⟨S8192x6144, .bf16⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8192x1024, .bf16⟩
  | .hbm, ⟨7, _⟩ => ⟨S8192x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S8x256, .f32⟩
  | .local _ .vmem, ⟨7, _⟩ => ⟨S8x256, .f32⟩
  | .local _ .vmem, ⟨8, _⟩ => ⟨S4096x256, .bf16⟩
  | .local _ .vmem, ⟨9, _⟩ => ⟨S4096x256, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8192x6144 : Shape := ⟨2, ![8192, 6144]⟩
abbrev S3x1024 : Shape := ⟨2, ![3, 1024]⟩
abbrev S2x4096x6144 : Shape := ⟨3, ![2, 4096, 6144]⟩
abbrev S2x4096x3072 : Shape := ⟨3, ![2, 4096, 3072]⟩
abbrev S2x4096x1024 : Shape := ⟨3, ![2, 4096, 1024]⟩
abbrev S_ : Shape := ⟨0, ![]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S3x1024, .f32⟩
  | .hbm, ⟨2, _⟩ => ⟨S2x4096x6144, .f32⟩
  | .hbm, ⟨3, _⟩ => ⟨S2x4096x3072, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S_, .i32⟩
  | .hbm, ⟨9, _⟩ => ⟨S_, .f32⟩
  | .hbm, ⟨10, _⟩ => ⟨S2x4098x1024, .f32⟩
  | .hbm, ⟨11, _⟩ => ⟨S1x1024, .f32⟩
  | .hbm, ⟨12, _⟩ => ⟨S1024, .f32⟩
  | .hbm, ⟨13, _⟩ => ⟨S2x4096x1024, .f32⟩
  | .hbm, ⟨14, _⟩ => ⟨S1x1x1024, .f32⟩
  | .hbm, ⟨15, _⟩ => ⟨S2x4096x1024, .f32⟩
  | .hbm, ⟨16, _⟩ => ⟨S2x4096x1024, .f32⟩
  | .hbm, ⟨17, _⟩ => ⟨S1x1024, .f32⟩
  | .hbm, ⟨18, _⟩ => ⟨S1024, .f32⟩
  | .hbm, ⟨19, _⟩ => ⟨S2x4096x1024, .f32⟩
  | .hbm, ⟨20, _⟩ => ⟨S1x1x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S1x1024, .f32⟩
  | .hbm, ⟨25, _⟩ => ⟨S1024, .f32⟩
  | .hbm, ⟨26, _⟩ => ⟨S2x4096x1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S8192x1024, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Kernel8.lean ====
abbrev S2x4096x4096 : Shape := ⟨3, ![2, 4096, 4096]⟩
abbrev S8192x128 : Shape := ⟨2, ![8192, 128]⟩
abbrev S4096x7496 : Shape := ⟨2, ![4096, 7496]⟩
abbrev S512 : Shape := ⟨1, ![512]⟩
abbrev S512x2048 : Shape := ⟨2, ![512, 2048]⟩
abbrev S4096x512 : Shape := ⟨2, ![4096, 512]⟩
abbrev S4096x64 : Shape := ⟨2, ![4096, 64]⟩
abbrev S_ : Shape := ⟨0, ![]⟩
abbrev S4096x128 : Shape := ⟨2, ![4096, 128]⟩
abbrev S4096x32 : Shape := ⟨2, ![4096, 32]⟩
abbrev S512x8x256 : Shape := ⟨3, ![512, 8, 256]⟩
abbrev S512x8x128 : Shape := ⟨3, ![512, 8, 128]⟩
abbrev S512x1024 : Shape := ⟨2, ![512, 1024]⟩
abbrev S8192x4096 : Shape := ⟨2, ![8192, 4096]⟩
abbrev S1x512 : Shape := ⟨2, ![1, 512]⟩
abbrev S8192x2048 : Shape := ⟨2, ![8192, 2048]⟩
abbrev S8192x1024 : Shape := ⟨2, ![8192, 1024]⟩
abbrev S512x4096 : Shape := ⟨2, ![512, 4096]⟩
abbrev S512x128 : Shape := ⟨2, ![512, 128]⟩
abbrev S512x512 : Shape := ⟨2, ![512, 512]⟩
abbrev S512x1 : Shape := ⟨2, ![512, 1]⟩

abbrev nBuf : Space → Nat
  | .hbm => 31
  | .vmem => 16
  | .smem => 0
  | _ => 0

abbrev bufTy : (tb : Table) → Fin (tcTables nBuf tb) → BufTy
  | .hbm, ⟨0, _⟩ => ⟨S2x4096x4096, .f32⟩
  | .hbm, ⟨1, _⟩ => ⟨S8192x128, .f32⟩
  | .hbm, ⟨2, _⟩ => ⟨S8192x128, .f32⟩
  | .hbm, ⟨3, _⟩ => ⟨S4096x7496, .f32⟩
  | .hbm, ⟨4, _⟩ => ⟨S512, .f32⟩
  | .hbm, ⟨5, _⟩ => ⟨S512x2048, .f32⟩
  | .hbm, ⟨6, _⟩ => ⟨S4096x512, .f32⟩
  | .hbm, ⟨7, _⟩ => ⟨S4096x512, .bf16⟩
  | .hbm, ⟨8, _⟩ => ⟨S4096x64, .f32⟩
  | .hbm, ⟨9, _⟩ => ⟨S_, .f32⟩
  | .hbm, ⟨10, _⟩ => ⟨S4096x64, .f32⟩
  | .hbm, ⟨11, _⟩ => ⟨S4096x128, .f32⟩
  | .hbm, ⟨12, _⟩ => ⟨S4096x128, .bf16⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x128, .f32⟩
  | .hbm, ⟨17, _⟩ => ⟨S4096x128, .bf16⟩
  | .hbm, ⟨18, _⟩ => ⟨S512x8x256, .f32⟩
  | .hbm, ⟨19, _⟩ => ⟨S512x8x128, .f32⟩
  | .hbm, ⟨20, _⟩ => ⟨S512x1024, .f32⟩
  | .hbm, ⟨21, _⟩ => ⟨S512x1024, .bf16⟩
  | .hbm, ⟨22, _⟩ => ⟨S512x8x128, .f32⟩
  | .hbm, ⟨23, _⟩ => ⟨S512x1024, .f32⟩
  | .hbm, ⟨24, _⟩ => ⟨S512x1024, .bf16⟩
  | .hbm, ⟨25, _⟩ => ⟨S2x4096x4096, .bf16⟩
  | .hbm, ⟨26, _⟩ => ⟨S8192x4096, .bf16⟩
  | .hbm, ⟨27, _⟩ => ⟨S1x512, .f32⟩
  | .hbm, ⟨28, _⟩ => ⟨S8192x2048, .bf16⟩
  | .hbm, ⟨29, _⟩ => ⟨S8192x1024, .bf16⟩
  | .hbm, ⟨30, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S1x512, .f32⟩
  | .local _ .vmem, ⟨4, _⟩ => ⟨S512x1024, .bf16⟩
  | .local _ .vmem, ⟨5, _⟩ => ⟨S512x1024, .bf16⟩
  | .local _ .vmem, ⟨6, _⟩ => ⟨S4096x128, .bf16⟩
  | .local _ .vmem, ⟨7, _⟩ => ⟨S4096x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S2x4096x4096 : Shape := ⟨3, ![2, 4096, 4096]⟩
abbrev S8192x128 : Shape := ⟨2, ![8192, 128]⟩
abbrev S4096x7496 : Shape := ⟨2, ![4096, 7496]⟩
abbrev S512 : Shape := ⟨1, ![512]⟩
abbrev S512x2048 : Shape := ⟨2, ![512, 2048]⟩
abbrev S2x4096x7496 : Shape := ⟨3, ![2, 4096, 7496]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x2048 : Shape := ⟨3, ![2, 4096, 2048]⟩
abbrev S2x4096x8x256 : Shape := ⟨4, ![2, 4096, 8, 256]⟩
abbrev S2x4096x8x128 : Shape := ⟨4, ![2, 4096, 8, 128]⟩
abbrev S8192x1024 : Shape := ⟨2, ![8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S8192x128, .f32⟩
  | .hbm, ⟨2, _⟩ => ⟨S8192x128, .f32⟩
  | .hbm, ⟨3, _⟩ => ⟨S4096x7496, .f32⟩
  | .hbm, ⟨4, _⟩ => ⟨S512, .f32⟩
  | .hbm, ⟨5, _⟩ => ⟨S512x2048, .f32⟩
  | .hbm, ⟨6, _⟩ => ⟨S2x4096x7496, .f32⟩
  | .hbm, ⟨7, _⟩ => ⟨S2x4096x512, .f32⟩
  | .hbm, ⟨8, _⟩ => ⟨S2x4096x512, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x512, .f32⟩
  | .hbm, ⟨20, _⟩ => ⟨S2x4096x512, .f32⟩
  | .hbm, ⟨21, _⟩ => ⟨S1x1x512, .f32⟩
  | .hbm, ⟨22, _⟩ => ⟨S2x4096x512, .f32⟩
  | .hbm, ⟨23, _⟩ => ⟨S2x4096x512, .f32⟩
  | .hbm, ⟨24, _⟩ => ⟨S2x4096x2048, .f32⟩
  | .hbm, ⟨25, _⟩ => ⟨S2x4096x8x256, .f32⟩
  | .hbm, ⟨26, _⟩ => ⟨S2x4096x8x128, .f32⟩
  | .hbm, ⟨27, _⟩ => ⟨S8192x1024, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Gather.lean ====
/-
  The kernel `moe_gather`: its body copies, for every token `t` and every choice `k < 4`, the 32 rows of the grouped array `y`
  that the table names at position `4 t + k` to the rows of block `8192 k + t` of the result, 32768 copies in flight on
  one semaphore, and then waits 128 times for 256 copies' amount. Here: the copies as one batch, the two loops' invariants,
  the body's run, and the run of the whole program, for any float instance.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameValue
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources: the pipeline library's beside the transfers' counters. -/
local notation "𝕄" => MT nD τ sig Unit (Elt F) ℕ (Pipeline.UD sig nD τ) ℕ

/-! ## The arrays and the copies' places -/

/-- The table, the grouped rows and the result, as the body names them. -/
abbrev tblM : Memref sig .tc .smem S32768 .i32 := Memref.whole main_arg1
abbrev srcM : Memref sig .tc .hbm S1310720x128 .f32 := Memref.whole main_v0
abbrev dstM : Memref sig .tc .hbm S1048576x128 .f32 := Memref.whole main_v1

/-- The table's word at position `j`. -/
def word (T : S32768.Idx → BitVec 32) (j : Fin 32768) : BitVec 32 := T (fun a => ⟨j.val, by fin_cases a; exact j.isLt⟩)

/-- The copy that writes row `r` of the result: block `r / 32` is block `8192 k + t`, the copy's number is `4 t + k`. -/
def copyOf (i : S1048576x128.Idx) : Fin 32768 :=
  ⟨4 * (((i 0).val / 32) % 8192) + ((i 0).val / 32) / 8192, by have := (i 0).isLt; simp only [Shape.size] at this; dsimp at this; omega⟩

/-- Where the result's element comes from: the same row inside the block that the table names, the same lane. -/
def gsrc (T : S32768.Idx → BitVec 32) (i : S1048576x128.Idx) : S1310720x128.Idx := fun a =>
  ⟨if a = 0 then (32 * (word T (copyOf i)).toNat + (i 0).val % 32) % 1310720 else (i 1).val, by
    have h1 := (i 1).isLt
    fin_cases a
    · simp; exact Nat.mod_lt _ (by decide)
    · simpa using h1⟩

/-- The gathered array. -/
def gathered (T : S32768.Idx → BitVec 32) (Y : S1310720x128.Idx → Elt F .f32) : S1048576x128.Idx → Elt F .f32 :=
  fun i => Y (gsrc T i)

/-- The elements of the result that copy `j` writes, -/
def dstSet (j : Fin 32768) : Finset S1048576x128.Idx := Finset.univ.filter fun i => copyOf i = j
/-- and those of `y` that it reads. -/
def srcSet (T : S32768.Idx → BitVec 32) (j : Fin 32768) : Finset S1310720x128.Idx :=
  Finset.univ.filter fun i => (i 0).val / 32 = (word T j).toNat

theorem dstSet_disjoint (j j' : Fin 32768) (h : j ≠ j') : Disjoint (dstSet j) (dstSet j') := by
  rw [Finset.disjoint_left]; intro i hi hi'
  simp only [dstSet, Finset.mem_filter, Finset.mem_univ, true_and] at hi hi'
  exact h (hi.symm.trans hi')

theorem mem_dstSet (i : S1048576x128.Idx) : i ∈ dstSet (copyOf i) := by simp [dstSet]

theorem dstSet_cover : Finset.univ.biUnion dstSet = Finset.univ := by
  ext i; simp [dstSet]

/-- The two windows of a copy at given row offsets. -/
abbrev srcW (o : Fin 2 → ℕ) (h : ∀ a, o a + S32x128.size a ≤ S1310720x128.size a) : Memref sig .tc .hbm S32x128 .f32 :=
  srcM.slice (Rect.unit (s := S1310720x128) o S32x128.size h) (fun _ => rfl)
abbrev dstW (o : Fin 2 → ℕ) (h : ∀ a, o a + S32x128.size a ≤ S1048576x128.size a) : Memref sig .tc .hbm S32x128 .f32 :=
  dstM.slice (Rect.unit (s := S1048576x128) o S32x128.size h) (fun _ => rfl)

theorem srcW_set (T : S32768.Idx → BitVec 32) (j : Fin 32768) (o : Fin 2 → ℕ) (h : ∀ a, o a + S32x128.size a ≤ S1310720x128.size a)
    (h0 : o 0 = 32 * (word T j).toNat) (h1 : o 1 = 0) : (srcW o h).view.set = srcSet T j := by
  show ((View.whole main_v0).slice _).set = _
  rw [View.set_slice_whole]
  ext (i : S1310720x128.Idx)
  have hi : (i 1).val < 128 := (i 1).isLt
  refine Rect.mem_set_unit.trans ?_
  refine (show _ ↔ _ from (Fin.forall_fin_two (p := fun a : Fin 2 => o a ≤ (i a).val ∧ (i a).val < o a + S32x128.size a))).trans ?_
  change (o 0 ≤ (i 0).val ∧ (i 0).val < o 0 + 32) ∧ (o 1 ≤ (i 1).val ∧ (i 1).val < o 1 + 128) ↔ _
  rw [h0, h1]
  simp only [srcSet, Finset.mem_filter, Finset.mem_univ, true_and]
  omega

/-- The result's block row of copy `j`. -/
def dstRow (j : ℕ) : ℕ := 8192 * (j % 4) + j / 4

theorem dstW_set (j : Fin 32768) (o : Fin 2 → ℕ) (h : ∀ a, o a + S32x128.size a ≤ S1048576x128.size a)
    (h0 : o 0 = 32 * dstRow j.val) (h1 : o 1 = 0) : (dstW o h).view.set = dstSet j := by
  show ((View.whole main_v1).slice _).set = _
  rw [View.set_slice_whole]
  ext (i : S1048576x128.Idx)
  have hi : (i 1).val < 128 := (i 1).isLt
  have hi0 : (i 0).val < 1048576 := (i 0).isLt
  have hj := j.isLt
  refine Rect.mem_set_unit.trans ?_
  refine (show _ ↔ _ from (Fin.forall_fin_two (p := fun a : Fin 2 => o a ≤ (i a).val ∧ (i a).val < o a + S32x128.size a))).trans ?_
  change (o 0 ≤ (i 0).val ∧ (i 0).val < o 0 + 32) ∧ (o 1 ≤ (i 1).val ∧ (i 1).val < o 1 + 128) ↔ _
  rw [h0, h1]
  simp only [dstSet, copyOf, Finset.mem_filter, Finset.mem_univ, true_and, Fin.ext_iff, dstRow]
  omega

/-- A copy's landing is the gathered array on the copy's elements. -/
theorem landed_eq (T : S32768.Idx → BitVec 32) (c : Dev nD) (j : Fin 32768) (hT : (word T j).toNat < 40960)
    (os : Fin 2 → ℕ) (hs : ∀ a, os a + S32x128.size a ≤ S1310720x128.size a) (hs0 : os 0 = 32 * (word T j).toNat) (hs1 : os 1 = 0)
    (od : Fin 2 → ℕ) (hd : ∀ a, od a + S32x128.size a ≤ S1048576x128.size a) (hd0 : od 0 = 32 * dstRow j.val) (hd1 : od 1 = 0)
    (Y : Buf (Elt F) (srcM.view.loc (c : Thread nD τ))) (f : Buf (Elt F) (dstM.view.loc (c : Thread nD τ))) :
    ∀ i ∈ dstSet j, (dstW od hd).view.write (Elt F) f (ReadAs.same.apply ((srcW os hs).view.read (Elt F) Y)) Finset.univ i = gathered T Y i := by
  intro i hi
  rw [← dstW_set j od hd hd0 hd1] at hi
  obtain ⟨x, -, rfl⟩ := Finset.mem_map.mp hi
  rw [View.write_emb_of_mem _ _ (Finset.mem_univ x)]
  show Y ((srcW os hs).view.emb x) = Y (gsrc T ((dstW od hd).view.emb x))
  congr 1
  funext a
  apply Fin.ext
  have hx0 : (x 0).val < 32 := (x 0).isLt
  have hj := j.isLt
  have q0 : ((dstW od hd).view.emb x 0).val = od 0 + 1 * (x 0).val := rfl
  have q1 : ((dstW od hd).view.emb x 1).val = od 1 + 1 * (x 1).val := rfl
  have p0 : ((srcW os hs).view.emb x 0).val = os 0 + 1 * (x 0).val := rfl
  have p1 : ((srcW os hs).view.emb x 1).val = os 1 + 1 * (x 1).val := rfl
  have hc : copyOf ((dstW od hd).view.emb x) = j := by
    have : (dstW od hd).view.emb x ∈ dstSet j := by rw [← dstW_set j od hd hd0 hd1]; exact hi
    simpa [dstSet] using this
  fin_cases a
  · show ((srcW os hs).view.emb x 0).val = _
    simp only [gsrc]
    rw [hc, q0, p0, hs0, hd0]
    simp only [Fin.zero_eta, if_true, Fin.isValue]
    simp only [dstRow]
    omega
  · show ((srcW os hs).view.emb x 1).val = _
    simp only [gsrc]
    rw [q1, p1, hs1, hd1]
    simp

/-! ## The batch of copies -/

/-- The semaphore the copies are counted on. -/
abbrev cell : SemLoc sig := SemLoc.dma cc0_scratch0.sem

/-- One copy's amount. -/
abbrev N : ℕ := main_v1.dmaCredit S32x128 .f32

theorem wait_amount : main_v1.dmaCredit S8192x128 .f32 = 256 * N := by decide
theorem N_pos : 0 < N := by decide
theorem wait_le (t n : ℕ) (ht : t < 128) : t * (256 * n) + 256 * n ≤ n * 32768 := by
  have h := Nat.mul_le_mul_right (256 * n) (show t + 1 ≤ 128 from ht)
  rw [Nat.succ_mul] at h
  omega

theorem ret_bind' {E : Type → Type} {α β : Type} (x : α) (k : α → Prog E β) : (Prog.ret x).bind k = k x := rfl

theorem prog_bind {E : Type → Type} {α β : Type} (p : Prog E α) (k : α → Prog E β) : p.bind k = (p >>= k) := rfl

theorem bigSep_issued_step {m : ℕ} (k : ℕ) (hk : k < m) (Φ : Fin m → sProp 𝕄) :
    bigSep (Transfers.issued (k + 1)) Φ = iprop(Φ ⟨k, hk⟩ ∗ bigSep (Transfers.issued k) Φ) := by
  rw [Transfers.issued_succ hk, bigSep_insert (Transfers.not_mem_issued hk)]
  rfl

/-- A word in range, times 32. -/
theorem mul32 (v : BitVec 32) (hv : v.toNat < 40960) : (Scalar.muli v 32#32).toNat = 32 * v.toNat := by
  simp only [Scalar.muli, IntOp.muli, BitVec.toNat_mul, BitVec.toNat_ofNat]
  omega

theorem off3_zero (v : BitVec 32) (hv : v.toNat < 40960) : k0_off3 v 0 = 32 * v.toNat := mul32 v hv
theorem off6_zero (v : BitVec 32) (hv : v.toNat < 40960) : k0_off6 v 0 = 32 * v.toNat := mul32 v hv
theorem off9_zero (v : BitVec 32) (hv : v.toNat < 40960) : k0_off9 v 0 = 32 * v.toNat := mul32 v hv
theorem off12_zero (v : BitVec 32) (hv : v.toNat < 40960) : k0_off12 v 0 = 32 * v.toNat := mul32 v hv

theorem inRange (o : Fin 2 → ℕ) (v : ℕ) (hv : v < 40960) (h0 : o 0 = 32 * v) (h1 : o 1 = 0) :
    ∀ a, o a + S32x128.size a ≤ S1310720x128.size a := by
  refine Fin.forall_fin_two.mpr ⟨?_, ?_⟩
  · show o 0 + 32 ≤ 1310720; omega
  · show o 1 + 128 ≤ 128; omega

theorem chk1 (v : BitVec 32) (hv : v.toNat < 40960) : k0_chk1 v :=
  ⟨⟨_, mul32 v hv⟩, inRange _ _ hv (off3_zero v hv) rfl⟩
theorem chk2 (v : BitVec 32) (hv : v.toNat < 40960) : k0_chk2 v :=
  ⟨⟨_, mul32 v hv⟩, inRange _ _ hv (off6_zero v hv) rfl⟩
theorem chk3 (v : BitVec 32) (hv : v.toNat < 40960) : k0_chk3 v :=
  ⟨⟨_, mul32 v hv⟩, inRange _ _ hv (off9_zero v hv) rfl⟩
theorem chk4 (v : BitVec 32) (hv : v.toNat < 40960) : k0_chk4 v :=
  ⟨⟨_, mul32 v hv⟩, inRange _ _ hv (off12_zero v hv) rfl⟩

/-- The copies of trip `t`. -/
def nth (t : Fin k0_t1_loop.trips) (k : ℕ) (hk : k < 4) : Fin 32768 :=
  ⟨4 * t.val + k, by have : t.val < 8192 := t.isLt; omega⟩

/-- Two families held are two others held, when each pair is. -/
theorem regroup {B₀ : Type} [Fintype B₀] (A B C D : B₀ → sProp 𝕄) (h : ∀ j, iprop(A j ∗ B j) ⊢ iprop(C j ∗ D j)) :
    iprop(bigSep Finset.univ A ∗ bigSep Finset.univ B) ⊢ iprop(bigSep Finset.univ C ∗ bigSep Finset.univ D) :=
  (Entails.of_eq (BI.bigSep_sep Finset.univ A B).symm).trans
    ((BI.bigSep_mono fun j _ => h j).trans (Entails.of_eq (BI.bigSep_sep Finset.univ C D)))

/-- A buffer held whole is held part by part, for parts that are disjoint and cover it. -/
theorem blocks_of {ℓ : Loc nD τ sig} {n : ℕ} (I : Fin n → Finset (Idx ℓ)) (hd : ∀ b b', b ≠ b' → Disjoint (I b) (I b'))
    (hc : ∀ i, ∃ j, i ∈ I j) (f : Buf (Elt F) ℓ) : (ℓ ↦{fullShare} f : sProp 𝕄) = bigSep Finset.univ fun b => ℓ ↦[I b]{fullShare} f :=
  Ring.pointsTo_blocks I hd (Finset.eq_univ_iff_forall.mpr fun i => Finset.mem_biUnion.mpr (by
    obtain ⟨j, hj⟩ := hc i
    exact ⟨j, Finset.mem_univ _, hj⟩)) f

/-- The result's part that copy `j` writes, held at contents `f`; -/
def dstAt (c : Dev nD) (f : Buf (Elt F) (dstM.view.loc (c : Thread nD τ))) (j : Fin 32768) : sProp 𝕄 :=
  dstM.view.loc (c : Thread nD τ) ↦[dstSet j]{fullShare} f
/-- and copy `j`'s share of the whole of `y`. -/
def srcAt (c : Dev nD) (Y : Buf (Elt F) (srcM.view.loc (c : Thread nD τ))) (j : Fin 32768) : sProp 𝕄 :=
  srcM.view.loc (c : Thread nD τ) ↦[Finset.univ]{Transfers.shareTokN fullShare j.val} Y

theorem dstSet_all (i : S1048576x128.Idx) : ∃ j, i ∈ dstSet j := ⟨copyOf i, mem_dstSet i⟩

/-- The result held whole is held copy by copy. -/
theorem dst_blocks (c : Dev nD) (f : Buf (Elt F) (dstM.view.loc (c : Thread nD τ))) :
    (dstM.view.loc (c : Thread nD τ) ↦{fullShare} f : sProp 𝕄) = bigSep Finset.univ (dstAt c f) := by
  unfold dstAt
  apply blocks_of
  · exact dstSet_disjoint
  · exact dstSet_all

/-- `y` held whole is a share kept back and a share for every copy. -/
theorem src_toks (c : Dev nD) (Y : Buf (Elt F) (srcM.view.loc (c : Thread nD τ))) :
    (srcM.view.loc (c : Thread nD τ) ↦{fullShare} Y : sProp 𝕄)
      ⊣⊢ iprop((srcM.view.loc (c : Thread nD τ) ↦{Transfers.shareDrop fullShare 32768} Y) ∗ bigSep Finset.univ (srcAt c Y)) := by
  unfold srcAt
  exact Transfers.pointsTo_toks fullShare 32768

section Body

variable (c : Dev nD) (T : S32768.Idx → BitVec 32) (Y : Buf (Elt F) (srcM.view.loc (c : Thread nD τ)))
  (f₀ : Buf (Elt F) (dstM.view.loc (c : Thread nD τ)))

/-- What copy `j` hands back: its block of the result, gathered, and the share of its block of `y`. -/
def deliv (j : Fin 32768) : sProp 𝕄 :=
  iprop((dstM.view.loc (c : Thread nD τ) ↦[dstSet j]{fullShare} gathered T Y)
    ∗ (srcM.view.loc (c : Thread nD τ) ↦[srcSet T j]{Transfers.shareTokN fullShare j.val} Y))

instance deliv_storable (j : Fin 32768) : Storable (upEmb : UEmb _ 𝕄) (deliv c T Y j) := by
  unfold deliv; infer_instance

/-- What copy `j` is issued with: its block of the result at the old contents, and a share of `y`. -/
def ready (j : Fin 32768) : sProp 𝕄 := iprop(dstAt c f₀ j ∗ srcAt c Y j)

/-- What is kept back of `y` when copy `j` is issued: that share off the copy's block. -/
def kept (j : Fin 32768) : sProp 𝕄 :=
  (srcM.view.loc (c : Thread nD τ) ↦[Finset.univ \ srcSet T j]{Transfers.shareTokN fullShare j.val} Y)

/-- The state with `k` copies issued and `u` units waited for. -/
def state (k u : ℕ) : sProp 𝕄 :=
  iprop(Transfers.Batch (Lvl := ℕ) (countersEmb (U := Pipeline.UD sig nD τ)) (c : Thread nD τ) cell () N (deliv c T Y) k u
    ∗ bigSep (Transfers.pending k) (ready c Y f₀) ∗ bigSep (Transfers.issued k) (kept c T Y))

/-- Issuing the next copy. -/
theorem wp_issue (j : Fin 32768) (n : ℕ) (hn : n = j.val) (hT : (word T j).toNat < 40960)
    (os : Fin 2 → ℕ) (hs : ∀ a, os a + S32x128.size a ≤ S1310720x128.size a) (hs0 : os 0 = 32 * (word T j).toNat) (hs1 : os 1 = 0)
    (od : Fin 2 → ℕ) (hd : ∀ a, od a + S32x128.size a ≤ S1048576x128.size a) (hd0 : od 0 = 32 * dstRow j.val) (hd1 : od 1 = 0)
    {α : Type} {hws : (srcW os hs).view.WordExact} {hwd : (dstW od hd).view.WordExact}
    {hsem : DmaTarget.Typed (nD := nD) (τ := τ) (p := Proc.tc) .hbm cell (.here (dstW od hd))}
    {k : PUnit → Prog (TpuEff nD τ sig (Elt F) Λ₀ .tc) α} {Q : α → sProp 𝕄} :
    state c T Y f₀ n 0
      ⊢ iprop((state c T Y f₀ (n + 1) 0 -∗ wp frame (wpE (defs₀ (F := F)) Variants.none (c : Thread nD τ) none) Set.univ (k ⟨⟩) Q)
          -∗ wp frame (wpE (defs₀ (F := F)) Variants.none (c : Thread nD τ) none) Set.univ
              (.op (.enqueueDma (srcW os hs) (.here (dstW od hd)) cell hws hwd hsem) k) Q) := by
  subst hn
  have hsub : srcSet T j ⊆ Finset.univ := Finset.subset_univ _
  unfold state
  iintro ⟨HB, HP, HI⟩ Hk
  ihave HP' := (show bigSep (Transfers.pending j.val) (ready c Y f₀)
      ⊢ iprop(ready c Y f₀ j ∗ bigSep (Transfers.pending (j.val + 1)) (ready c Y f₀))
    from Entails.of_eq (Transfers.bigSep_pending_step _ j.val j.isLt)) $$ HP
  unfold ready dstAt srcAt
  icases HP' with ⟨⟨Hd, Hs⟩, HP⟩
  ihave Hs' := (pointsTo_split_subset hsub).1 $$ Hs
  icases Hs' with ⟨Hs, Hr⟩
  iapply (Transfers.wp_dmaBatch (countersEmb (U := Pipeline.UD sig nD τ)) Variants.none (c : Thread nD τ) none (src := srcW os hs) (dst := dstW od hd)
    (q := Transfers.shareTokN fullShare j.val) (fs := Y) (Sd := dstSet j) (fd := f₀)
    () N rfl (dstW_set j od hd hd0 hd1).subset (D := deliv c T Y) (j := j.val) (u := 0) j.isLt (Nat.zero_le _) ?hD) $$ [Hs Hd HB]
  case hD =>
    rw [srcW_set T j os hs hs0 hs1]
    unfold deliv
    iintro ⟨H1, H2⟩
    isplitl [H1]
    · iapply (Entails.of_eq (pointsTo_congr (landed_eq T c j hT os hs hs0 hs1 od hd hd0 hd1 Y f₀))) $$ H1
    · iexact H2
  · isplitl [Hs]; · rw [srcW_set T j os hs hs0 hs1]; iexact Hs
    isplitl [Hd]; · iexact Hd
    iexact HB
  iintro HB
  iapply Hk
  isplitl [HB]; · iexact HB
  isplitl [HP]; · iexact HP
  iapply (Entails.of_eq (bigSep_issued_step j.val j.isLt (kept c T Y)).symm)
  isplitl [Hr]; · unfold kept; iexact Hr
  iexact HI

/-- The table, held at share `q`. -/
abbrev tblPt (q : PosShare TreeShare) : sProp 𝕄 := tblM.view.loc (c : Thread nD τ) ↦{q} T

/-- A word read from the table at position `j`. -/
theorem read_word (j : Fin 32768) (o : Fin 1 → ℕ) (h : ∀ a, o a + S1.size a ≤ S32768.size a) (ho : o = ![j.val]) (x : S1.Idx) :
    View.readAt (Elt F) tblM.view (Rect.unit (s := S32768) o S1.size h).toLoadRect T x = word T j := by
  have hx : (x 0).val < 1 := (x 0).isLt
  subst ho
  refine congrArg T (funext fun a => Fin.ext ?_)
  fin_cases a
  show j.val + 1 * (x 0).val = j.val
  omega

theorem dst0 (t : Fin k0_t1_loop.trips) (k : ℕ) (hk : k < 4) (o : Fin 2 → ℕ) (z : ℕ) (ho : o = ![32 * t.val + 262144 * k, z]) :
    o 0 = 32 * dstRow (nth t k hk).val := by
  subst ho
  show 32 * t.val + 262144 * k = 32 * (8192 * ((4 * t.val + k) % 4) + (4 * t.val + k) / 4)
  omega

/-- One trip of the first loop issues the four copies of its token. -/
theorem trip (q : PosShare TreeShare) (hT : ∀ j, (word T j).toNat < 40960) (i : grid0.Coords) (t : Fin k0_t1_loop.trips) (Q : Unit → sProp 𝕄) :
    iprop(tblPt c T q ∗ state c T Y f₀ (4 * t.val) 0
        ∗ (iprop(tblPt c T q ∗ state c T Y f₀ (4 * (t.val + 1)) 0) -∗ Q ()))
      ⊢ wp frame (wpE (defs₀ (F := F)) Variants.none (c : Thread nD τ) none) Set.univ
          (k0_t1_body i tblM (Memref.isWhole_whole _) srcM (Memref.isWhole_whole _) dstM (Memref.isWhole_whole _) cc0_scratch0 t ()) Q := by
  have ht : t.val < 8192 := t.isLt
  unfold k0_t1_body
  simp only [k0_part1_eq_skeleton]
  unfold k0_part1_skel
  iintro ⟨HT, HS, Hk⟩
  sl_exec
  have r0 : trip.sl.r (F := F) T t = word T (nth t 0 (by omega)) := read_word T (F := F) _ _ _ (k0_off1_eq t) _
  have h0 : (trip.sl.r (F := F) T t).toNat < 40960 := by rw [r0]; exact hT _
  iapply (wp_assume _ _ _ _ (chk1 _ h0))
  iapply (wp_issue c T Y f₀ (nth t 0 (by omega)) (4 * t.val) rfl (hT _) _ _ ((off3_zero _ h0).trans (by rw [r0])) rfl (k0_off2 t) _
    (dst0 t 0 (by omega) _ _ (k0_off2_eq t)) rfl) $$ HS
  iintro HS
  simp only [ret_bind', prog_bind]
  sl_exec
  have r1 : trip.sl.r_1 (F := F) T t = word T (nth t 1 (by omega)) := read_word T (F := F) _ _ _ (k0_off4_eq t) _
  have h1 : (trip.sl.r_1 (F := F) T t).toNat < 40960 := by rw [r1]; exact hT _
  iapply (wp_assume _ _ _ _ (chk2 _ h1))
  iapply (wp_issue c T Y f₀ (nth t 1 (by omega)) (4 * t.val + 1) rfl (hT _) _ _ ((off6_zero _ h1).trans (by rw [r1])) rfl (k0_off5 t) _
    (dst0 t 1 (by omega) _ _ (k0_off5_eq t)) (by rw [k0_off5_eq]; rfl)) $$ HS
  iintro HS
  simp only [ret_bind', prog_bind]
  sl_exec
  have r2 : trip.sl.r_2 (F := F) T t = word T (nth t 2 (by omega)) := read_word T (F := F) _ _ _ (k0_off7_eq t) _
  have h2 : (trip.sl.r_2 (F := F) T t).toNat < 40960 := by rw [r2]; exact hT _
  iapply (wp_assume _ _ _ _ (chk3 _ h2))
  iapply (wp_issue c T Y f₀ (nth t 2 (by omega)) (4 * t.val + 2) rfl (hT _) _ _ ((off9_zero _ h2).trans (by rw [r2])) rfl (k0_off8 t) _
    (dst0 t 2 (by omega) _ _ (k0_off8_eq t)) (by rw [k0_off8_eq]; rfl)) $$ HS
  iintro HS
  simp only [ret_bind', prog_bind]
  sl_exec
  have r3 : trip.sl.r_3 (F := F) T t = word T (nth t 3 (by omega)) := read_word T (F := F) _ _ _ (k0_off10_eq t) _
  have h3 : (trip.sl.r_3 (F := F) T t).toNat < 40960 := by rw [r3]; exact hT _
  iapply (wp_assume _ _ _ _ (chk4 _ h3))
  iapply (wp_issue c T Y f₀ (nth t 3 (by omega)) (4 * t.val + 3) rfl (hT _) _ _ ((off12_zero _ h3).trans (by rw [r3])) rfl (k0_off11 t) _
    (dst0 t 3 (by omega) _ _ (k0_off11_eq t)) (by rw [k0_off11_eq]; rfl)) $$ HS
  iintro HS
  simp only [ret_bind', prog_bind]
  sl_exec
  sl_step
  iapply Hk
  isplitl [HT]; · iexact HT
  iexact HS

/-- One trip of the second loop waits for 256 copies' amount. -/
theorem trip2 (i : grid0.Coords) (t : Fin k0_t2_loop.trips) (W : Waits sig Unit) (Q : Unit → sProp 𝕄) :
    iprop(state c T Y f₀ 32768 (t.val * (256 * N)) ∗ owes (c : Thread nD τ) 0 W
        ∗ (iprop(state c T Y f₀ 32768 ((t.val + 1) * (256 * N)) ∗ (∃ W', owes (c : Thread nD τ) 0 W')) -∗ Q ()))
      ⊢ wp frame (wpE (defs₀ (F := F)) Variants.none (c : Thread nD τ) none) Set.univ
          (k0_t2_body i tblM (Memref.isWhole_whole _) srcM (Memref.isWhole_whole _) dstM (Memref.isWhole_whole _) cc0_scratch0 t ()) Q := by
  have ht : t.val < 128 := t.isLt
  have hN := N_pos
  unfold k0_t2_body state
  iintro ⟨⟨HB, HP, HI⟩, HW, Hk⟩
  iapply (Transfers.wp_waitBatchMul (countersEmb (U := Pipeline.UD sig nD τ)) Variants.none (c : Thread nD τ) none () 256 wait_amount
    (D := deliv c T Y) (j := 32768) (u := t.val * (256 * N)) (wait_le _ _ ht) (W := W)) $$ [HB HW]
  · isplitl [HB]; · iexact HB
    iexact HW
  iintro ⟨HB, HW⟩
  simp only [ret_bind']
  sl_step
  iapply Hk
  isplitl [HB HP HI]
  · isplitl [HB]; · rw [show (t.val + 1) * (256 * N) = t.val * (256 * N) + 256 * N from Nat.succ_mul _ _]; iexact HB
    isplitl [HP]; · iexact HP
    iexact HI
  iexists _; iexact HW

theorem ready_all : iprop(bigSep Finset.univ (dstAt c f₀) ∗ bigSep Finset.univ (srcAt c Y))
    ⊢ iprop(bigSep Finset.univ (ready c Y f₀) ∗ bigSep Finset.univ (fun _ : Fin 32768 => (iprop(emp) : sProp 𝕄))) := by
  refine regroup _ _ _ _ fun j => ?_
  unfold ready
  iintro ⟨H1, H2⟩
  isplitl [H1 H2]
  · isplitl [H1]; · iexact H1
    iexact H2
  iempintro

theorem collect_all : iprop(bigSep Finset.univ (deliv c T Y) ∗ bigSep Finset.univ (kept c T Y))
    ⊢ iprop(bigSep Finset.univ (dstAt c (gathered T Y)) ∗ bigSep Finset.univ (srcAt c Y)) := by
  refine regroup _ _ _ _ fun j => ?_
  unfold deliv kept dstAt srcAt
  iintro ⟨⟨H1, H2⟩, H3⟩
  isplitl [H1]; · iexact H1
  iapply (pointsTo_split_subset (Finset.subset_univ (srcSet T j))).2
  isplitl [H2]; · iexact H2
  iexact H3

/-- The body: from the table, `y` and the result whole, the semaphore at zero and nothing owed, to the result gathered. -/
theorem body_run (q : PosShare TreeShare) (hT : ∀ j, (word T j).toNat < 40960) (i : grid0.Coords) (W : Waits sig Unit) (K : Unit → sProp 𝕄) :
    iprop(tblPt c T q ∗ (srcM.view.loc (c : Thread nD τ) ↦{fullShare} Y) ∗ (dstM.view.loc (c : Thread nD τ) ↦{fullShare} f₀)
        ∗ semVal ((c : Thread nD τ), cell) 0 ∗ owes (c : Thread nD τ) 0 W
        ∗ (iprop(tblPt c T q ∗ (srcM.view.loc (c : Thread nD τ) ↦{fullShare} Y) ∗ (dstM.view.loc (c : Thread nD τ) ↦{fullShare} gathered T Y)
            ∗ semVal ((c : Thread nD τ), cell) 0 ∗ (∃ W', owes (c : Thread nD τ) 0 W')) -∗ K ()))
      ⊢ wp frame (wpE (defs₀ (F := F)) Variants.none (c : Thread nD τ) none) Set.univ
          (cc0_moe_gather i tblM (Memref.isWhole_whole _) srcM (Memref.isWhole_whole _) dstM (Memref.isWhole_whole _) cc0_scratch0) K := by
  simp only [cc0_moe_gather_eq_skeleton]; unfold cc0_moe_gather_skel
  rw [dst_blocks c f₀, dst_blocks c (gathered T Y)]
  iintro ⟨HT, HY, HF, Hv, HW, Hk⟩
  ihave HY' := (src_toks c Y).1 $$ HY
  icases HY' with ⟨HY, Hs⟩
  imod (Transfers.batch_alloc' (Lvl := ℕ) (countersEmb (U := Pipeline.UD sig nD τ)) (c : Thread nD τ) () N (deliv c T Y) (sm := cell) (E := Set.univ)) $$ Hv with HB
  ihave HS := (show iprop(Transfers.Batch (Lvl := ℕ) (countersEmb (U := Pipeline.UD sig nD τ)) (c : Thread nD τ) cell () N (deliv c T Y) 0 0
      ∗ bigSep Finset.univ (dstAt c f₀) ∗ bigSep Finset.univ (srcAt c Y))
      ⊢ state c T Y f₀ 0 0 from by
    unfold state
    rw [Transfers.issued_zero, bigSep_empty, ← Transfers.bigSep_pending_zero (ready c Y f₀)]
    iintro ⟨HB, HF, Hs⟩
    isplitl [HB]; · iexact HB
    isplitl [HF Hs]
    · ihave H := (ready_all c Y f₀) $$ [HF Hs]
      · isplitl [HF]; · iexact HF
        iexact Hs
      icases H with ⟨H, -⟩
      iexact H
    iempintro) $$ [HB HF Hs]
  · isplitl [HB]; · iexact HB
    isplitl [HF]; · iexact HF
    iexact Hs
  rw [wp_bind]
  iapply (Scf.wp_for _ _ _ _ _ _ _ _ _ (fun k _ => iprop(tblPt c T q ∗ state c T Y f₀ (4 * k) 0))
    (fun t _ => by
      iintro ⟨HT, HS⟩
      iapply (trip c T Y f₀ q hT i t _)
      isplitl [HT]; · iexact HT
      isplitl [HS]; · iexact HS
      iintro ⟨HT, HS⟩
      isplitl [HT]; · iexact HT
      iexact HS))
  isplitl [HT HS]
  · isplitl [HT]; · iexact HT
    iexact HS
  iintro %_ ⟨HT, HS⟩
  rw [wp_bind]
  iapply (Scf.wp_for _ _ _ _ _ _ _ _ _ (fun k _ => iprop(state c T Y f₀ 32768 (k * (256 * N)) ∗ (∃ W, owes (c : Thread nD τ) 0 W)))
    (fun t _ => by
      iintro ⟨HS, ⟨%W, HW⟩⟩
      iapply (trip2 c T Y f₀ i t W _)
      isplitl [HS]; · iexact HS
      isplitl [HW]; · iexact HW
      iintro ⟨HS, HW⟩
      isplitl [HS]; · iexact HS
      iexact HW))
  isplitl [HS HW]
  · isplitl [HS]; · rw [Nat.zero_mul]; iexact HS
    iexists _; iexact HW
  rw [show Scf.trips k0_t2_loop.lb k0_t2_loop.ub k0_t2_loop.st = 128 from rfl]
  iintro %_ ⟨HS, HW⟩
  unfold state
  icases HS with ⟨HB, -, HI⟩
  rw [Transfers.issued_all rfl]
  ihave HB' := (show Transfers.Batch (Lvl := ℕ) (countersEmb (U := Pipeline.UD sig nD τ)) (c : Thread nD τ) cell () N (deliv c T Y) 32768 (128 * (256 * N))
      ⊢ Transfers.Batch (Lvl := ℕ) (countersEmb (U := Pipeline.UD sig nD τ)) (c : Thread nD τ) cell () N (deliv c T Y) 32768 (N * 32768) from by
    rw [show 128 * (256 * N) = N * 32768 from by omega]) $$ HB
  imod (Transfers.batch_collect' (countersEmb (U := Pipeline.UD sig nD τ)) (c : Thread nD τ) N_pos) $$ HB' with ⟨HD, Hv⟩
  ihave HD' := (collect_all c T Y) $$ [HD HI]
  · isplitl [HD]; · iexact HD
    iexact HI
  icases HD' with ⟨HF, Hs⟩
  sl_step
  iapply Hk
  isplitl [HT]; · iexact HT
  isplitl [HY Hs]
  · iapply (src_toks c Y).2
    isplitl [HY]; · iexact HY
    iexact Hs
  isplitl [HF]; · iexact HF
  isplitl [Hv]; · iexact Hv
  iexact HW

end Body

end Cert.KernelIdeal.Hand

end
-- ==== Proof.Run.lean ====
/-
  The run of the whole gather program: the host reshapes `y` into rows of 128 lanes, and the region runs the body once, with the
  table prefetched. Every buffer but the result keeps its contents and the result holds the gathered rows.
-/
module

public import proofs.«01_k».proof.Proof.Gather

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers as the region finds them: what the host has computed. -/
def V (c : Dev nD) (b : Ref sig .tc) : Buf (Elt F) ((c.tc : Thread nD τ).loc b) :=
  StableHlo.after hostOps0 (fun b => m (c, b)) b

/-- The table and the rows of `y`. -/
abbrev tbl (c : Dev nD) : S32768.Idx → BitVec 32 := V m c main_arg1
abbrev rows (c : Dev nD) : Buf (Elt F) (srcM.view.loc (c : Thread nD τ)) := V m c main_v0

/-- The buffers as the region leaves them: the result gathered. -/
def G (c : Dev nD) (b : Ref sig .tc) : Buf (Elt F) ((c.tc : Thread nD τ).loc b) :=
  if h : b = main_v1 then h ▸ (gathered (tbl m c) (rows m c) : Buf (Elt F) ((c.tc : Thread nD τ).loc main_v1)) else V m c b

theorem G_v1 (c : Dev nD) : G m c main_v1 = gathered (tbl m c) (rows m c) := by unfold G; rw [dif_pos rfl]

/-- The prefetched table's contents. -/
def adm : (p : Fin 1) → (pcfgs (F := F) p).Adm := fun _ => ⟨fun k => V m (0 : Fin 1) (pre0.ref k), trivial⟩

abbrev osem0 : Fin 1 → SemLoc sig := fun _ => cell
theorem ownSemFacts0 : Pipeline.OwnSemFacts spec0 osem0 := by decide
theorem ownSems0_one (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cell) 0) := by
  rw [Pipeline.ownSems0_eq_of_list c osem0 [0] (by decide) (by decide)]; rfl

abbrev H0 : Finset (Ref sig .tc) := {main_v0}
abbrev R0 : Finset (Ref sig .tc) := {main_v1}
theorem H0_sub : H0 ⊆ Pipeline.restRefsP sig pre0 spec0 := by decide
theorem R0_sub : R0 ⊆ Pipeline.restRefsP sig pre0 spec0 \ H0 := by decide

/-- What the body is given: with the result at contents `f`. -/
def held (c : Dev nD) (f : Buf (Elt F) (dstM.view.loc (c : Thread nD τ))) : sProp 𝕄 :=
  iprop((∃ r, prngReg c r) ∗ tblPt c (tbl m c) fullShare.right ∗ (srcM.view.loc (c : Thread nD τ) ↦{fullShare} rows m c)
    ∗ (dstM.view.loc (c : Thread nD τ) ↦{fullShare} f) ∗ semVal ((c : Thread nD τ), cell) 0)

/-- The proof data of the one region: no windows, before the one point the result as the host left it, after it gathered. -/
def dats (_ : Fin 1) (c : Dev nD) : Dat τ (Elt F) Unit ℕ (Pipeline.UD sig nD τ) ℕ (cfg0 (adm m 0)) c where
  A w := w.elim0
  after w t := w.elim0
  Φ t := if t.val = 0 then held m c (V m c main_v1) else held m c (gathered (tbl m c) (rows m c))
  q w := w.elim0
  owed _ := 0

theorem hin (c : Dev nD) : iprop(Pipeline.ΦDRG osem0 spec0 H0 R0 (V m) (V m) c ∗ Pipeline.ΦT pre0 (adm m 0).1 c) ⊢ (dats m 0 c).Φ 0 := by
  rw [Pipeline.ΦDRG_eq, scopedRest0_eq, ownSems0_one, BI.bigSep_singleton, Pipeline.routed_singleton]
  show _ ⊢ held m c (V m c main_v1)
  unfold held Pipeline.ΦT Pipeline.prefHeld
  obtain rfl : c = (0 : Fin 1) := Subsingleton.elim _ _
  rw [BI.bigSep_eq_bigSepL_of_eq [0] (by decide) (by decide)]
  show iprop(_ ∗ tblPt (0 : Fin 1) (tbl m (0 : Fin 1)) fullShare.right) ⊢ _
  iintro ⟨⟨-, Hg, Hs, HH, HR⟩, HT⟩
  isplitl [Hg]; · iexact Hg
  isplitl [HT]; · iexact HT
  isplitl [HH]; · iexact HH
  isplitl [HR]; · iexact HR
  iexact Hs

theorem hout (c : Dev nD) : (dats m 0 c).Φ (Fin.last (cfg0 (adm m 0)).N) ⊢ Pipeline.ΦDRG osem0 spec0 H0 R0 (V m) (G m) c := by
  rw [Pipeline.ΦDRG_eq, scopedRest0_eq, ownSems0_one, BI.bigSep_singleton, Pipeline.routed_singleton, G_v1]
  show held m c (gathered (tbl m c) (rows m c)) ⊢ _
  unfold held
  iintro ⟨Hg, HT, HH, HR, Hs⟩
  isplitr; · iempintro
  isplitl [Hg]; · iexact Hg
  isplitl [Hs]; · iexact Hs
  isplitl [HH]; · iexact HH
  iexact HR

/-- The body at the one point. -/
theorem sound_body (hT : ∀ c j, (word (tbl m c) j).toNat < 40960) (c : Dev nD) (t : Fin (cfg0 (adm m 0)).N) :
    iprop((dats m 0 c).Φ t.castSucc ∗ (dats m 0 c).owesAt () t.castSucc)
      ⊢ wp frame (wpE (defs₀ (F := F)) Variants.none c none) Set.univ
          (cc0_moe_gather (grid0.coords t) tblM (Memref.isWhole_whole _) srcM (Memref.isWhole_whole _) dstM (Memref.isWhole_whole _) cc0_scratch0)
          (fun _ => iprop((dats m 0 c).Φ t.succ ∗ (dats m 0 c).owesAt () t.succ)) := by
  obtain rfl : t = t0_0 := fin_N0 t
  rw [show (dats m 0 c).Φ (Fin.castSucc t0_0) = held m c (V m c main_v1) from rfl,
    show (dats m 0 c).Φ (Fin.succ t0_0) = held m c (gathered (tbl m c) (rows m c)) from rfl]
  unfold Dat.owesAt Pipeline.owesWithin
  rw [show (dats m 0 c).owed (Fin.castSucc t0_0) = 0 from rfl, show (dats m 0 c).owed (Fin.succ t0_0) = 0 from rfl]
  unfold held
  iintro ⟨⟨Hg, HT, HY, HF, Hs⟩, ⟨%W, -, HW⟩⟩
  iapply (body_run c (tbl m c) (rows m c) (V m c main_v1) fullShare.right (hT c) (grid0.coords t0_0) W _)
  isplitl [HT]; · iexact HT
  isplitl [HY]; · iexact HY
  isplitl [HF]; · iexact HF
  isplitl [Hs]; · iexact Hs
  isplitl [HW]; · iexact HW
  iintro ⟨HT, HY, HF, Hs, ⟨%W', HW⟩⟩
  isplitl [Hg HT HY HF Hs]
  · isplitl [Hg]; · iexact Hg
    isplitl [HT]; · iexact HT
    isplitl [HY]; · iexact HY
    isplitl [HF]; · iexact HF
    iexact Hs
  iexists W'; isplitr; · ipureintro; exact fun _ _ => Or.inl trivial
  iexact HW

theorem defs₀_row (t : Fin (cfg0 (adm m 0)).N) :
    defs₀ (F := F) .tc (cfg0 (adm m 0)).body ((cfg0 (adm m 0)).bodyArgs t ((cfg0 (adm m 0)).slots t))
      = cc0_moe_gather (grid0.coords t) tblM (Memref.isWhole_whole _) srcM (Memref.isWhole_whole _) dstM (Memref.isWhole_whole _) cc0_scratch0 := by
  unfold defs₀; rw [Defs.onTc_tc]

theorem body_obligation (hT : ∀ c j, (word (tbl m c) j).toNat < 40960) (c : Dev nD) :
    BodyObligation (dats (F := F) m 0 c) (defs₀ (F := F)) Variants.none () Set.univ := fun t => by
  rw [defs₀_row]
  refine triple_restated (sound_body m hT c t) rfl ?_ fun _ => ?_
  · iintro ⟨H1, H2, -⟩
    isplitl [H1]; · iexact H1
    iexact H2
  · iintro ⟨H1, H2⟩
    isplitl [H1]; · iexact H1
    isplitl [H2]; · iexact H2
    rw [show (Finset.univ : Finset (Fin (cfg0 (adm m 0)).W)) = ∅ from rfl, bigSep_empty]
    iempintro

set_option backward.isDefEq.respectTransparency.types false in
theorem run_main (hT : ∀ c j, (word (tbl m c) j).toNat < 40960) :
    θ_run defs (onTc (τ := τ) (main (F := F))) ⟨m, fun _ => 0, ρ⟩
      (fun r => Pipeline.FramePostRG (Pipeline.pin (pcfgs (F := F)) (adm m)) (dats m) 0 R0 (V m) (G m) r ∧ r.2.sem = fun _ => 0) :=
  Pipeline.θ_run_frameP_dmaRG (Q' := _) (pcfgs (F := F)) (adm m) (dats m) (0 : Fin 1) launch0 osem0 defs₀ Variants.none ownSemFacts0 H0 R0 H0_sub R0_sub m ρ main
    (hbody := fun c => (body_obligation m hT c).loose) (hshare := fun c w => w.elim0)
    (howed := fun _ _ => rfl) (V := V m)
    (hmain := Pipeline.hmainP_prefix (pcfgs (F := F)) 0 defs₀ Variants.none m main hostOps0 hostOps0_sub (by repeat constructor) main_chain)
    (hA := fun c w => w.elim0) (hpf := fun c k => by obtain rfl : c = (0 : Fin 1) := Subsingleton.elim _ _; rfl) (G := G m)
    (hin := hin m) (hout := hout m)

end Cert.KernelIdeal.Hand

end
-- ==== Proof.Values.lean ====
/-
  The values: what the precondition says of the table's words, what the gather program's result is as a function of its
  arguments, and that the reference's composed operations give the same array, at any float values.
-/
module

public import proofs.«01_k».proof.Defs
public import proofs.«01_k».proof.Proof.Run
public import proofs.«01_k».proof.Proof.Gen.ReferenceIdeal.Run
public import proofs.«01_k».proof.Proof.Gen.Pre_dest_in_range
public import Idealize.ShloMosaic.Lib.Routing.Ops

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The precondition, read at a word: every word of `dest` names one of the 40960 rows of `y`. -/
theorem word_lt (Y : S40960x4096.Idx → Elt F .f32) (T : S32768.Idx → BitVec 32)
    (h : Cert.Pre_dest_in_range.fn (F := F) Y T = fun _ => 1#1) (x : S32768.Idx) : (T x).toNat < 40960 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  have e := congrFun h x
  simp only [Pre_dest_in_range.fn, andi, cmpi, broadcastInDim, constantI, IntOp.cmpi, hand, hone, Bool.and_eq_true] at e
  obtain ⟨hge, hlt⟩ := e
  simp only [BitVec.sle, BitVec.slt, decide_eq_true_eq, BitVec.toInt, BitVec.toNat_ofNat] at hge hlt
  omega

/-- The result as a function of the two arguments: the rows of `y`, regarded as rows of 128 lanes, gathered by `dest`. -/
def taken (Y : S40960x4096.Idx → Elt F .f32) (T : S32768.Idx → BitVec 32) : S1048576x128.Idx → Elt F .f32 :=
  gathered T (shapeCast S1310720x128 Y shapeCasts_S40960x4096_S1310720x128)

/-- One element of it: row `r`, lane `l` of the result is row `dest (4 t + k)` of `y` at column `128 (r % 32) + l`. -/
theorem taken_apply (Y : S40960x4096.Idx → Elt F .f32) (T : S32768.Idx → BitVec 32) (hT : ∀ x, (T x).toNat < 40960)
    (i : S1048576x128.Idx) (k : S40960x4096.Idx) (h0 : (k 0).val = (word T (copyOf i)).toNat)
    (h1 : (k 1).val = 128 * ((i 0).val % 32) + (i 1).val) : taken Y T i = Y k := by
  unfold taken gathered
  refine Idealize.ShloMosaic.shapeCast_apply _ _ _ _ ?_
  have hw : (word T (copyOf i)).toNat < 40960 := hT _
  rw [Shape.rowMajor_val_two, Shape.rowMajor_val_two]
  show (k 0).val * 4096 + (k 1).val = (gsrc T i 0).val * 128 + (gsrc T i 1).val
  have e0 : (gsrc T i 0).val = (32 * (word T (copyOf i)).toNat + (i 0).val % 32) % 1310720 := rfl
  have e1 : (gsrc T i 1).val = (i 1).val := rfl
  rw [e0, e1, h0, h1]
  omega

end Cert.KernelIdeal.Hand

namespace Cert.ReferenceIdeal.Hand

open Cert.ReferenceIdeal Cert.ReferenceIdeal.Gen
open Idealize.ShloMosaic Idealize.ShloMosaic.TcCoe
open Idealize.ShloMosaic.ValueIdx (ix2 ix3)
open Cert.KernelIdeal.Hand (taken taken_apply word copyOf)

variable {F : FTy → Type} [FloatOps F]

/-- The reference's indices: `dest`, wrapped where negative, one column. -/
def wrapped (T : S32768.Idx → BitVec 32) : S32768x1.Idx → BitVec 32 :=
  broadcastInDim S32768x1 ![0] bcast_S32768_S32768x1_0
    (select (cmpi .slt T (broadcastInDim S32768 ![] bcast_S_S32768 (constantI S_ 32 0#32)))
      (addi T (broadcastInDim S32768 ![] bcast_S_S32768 (constantI S_ 32 40960#32))) T)

/-- A word in range is not wrapped. -/
theorem wrapped_apply (T : S32768.Idx → BitVec 32) (hT : ∀ x, (T x).toNat < 40960) (j : Fin 32768) :
    wrapped T (ix2 j (0 : Fin 1)) = word T j := by
  unfold wrapped
  have h := hT (fun a => ⟨j.val, by fin_cases a; exact j.isLt⟩)
  rw [Idealize.ShloMosaic.broadcastInDim_apply _ _ _ _ (fun a => ⟨j.val, by fin_cases a; exact j.isLt⟩ : S32768.Idx)
    (fun a => by fin_cases a; rfl)]
  simp only [select, cmpi, broadcastInDim, constantI, IntOp.cmpi]
  have hn : ∀ w : BitVec 32, w.toNat < 40960 → BitVec.slt w 0#32 = false := by
    intro w hw
    simp only [BitVec.slt, decide_eq_false_iff_not, BitVec.toInt, BitVec.toNat_ofNat]
    omega
  rw [hn _ h]
  rfl

/-- The reference's operations, composed. -/
def composed (Y : S40960x4096.Idx → Elt F .f32) (T : S32768.Idx → BitVec 32) : S1048576x128.Idx → Elt F .f32 :=
  shapeCast _ (transpose S4x8192x4096 [1, 0, 2]
    (shapeCast _ (Host.gather gather_S40960x4096_S32768x1_S32768x4096_1_0_n_n_0_1_14096 Y (wrapped T))
      shapeCasts_S32768x4096_S8192x4x4096) transposes_S8192x4x4096_S4x8192x4096_1_0_2) shapeCasts_S4x8192x4096_S1048576x128

/-- They give the gathered rows. -/
theorem composed_eq (Y : S40960x4096.Idx → Elt F .f32) (T : S32768.Idx → BitVec 32) (hT : ∀ x, (T x).toNat < 40960) :
    composed Y T = taken Y T := by
  funext i
  have hi0 : (i 0).val < 1048576 := (i 0).isLt
  have hi1 : (i 1).val < 128 := (i 1).isLt
  have hcol : 128 * ((i 0).val % 32) + (i 1).val < 4096 := by omega
  have hw : (word T (copyOf i)).toNat < 40960 := hT _
  rw [taken_apply Y T hT i (ix2 ⟨(word T (copyOf i)).toNat, hw⟩ ⟨_, hcol⟩) rfl rfl]
  unfold composed
  rw [Idealize.ShloMosaic.shapeCast_apply _ _ i
      (ix3 ⟨((i 0).val / 32) / 8192, by omega⟩ ⟨((i 0).val / 32) % 8192, by omega⟩ ⟨128 * ((i 0).val % 32) + (i 1).val, hcol⟩ : S4x8192x4096.Idx)
      (by
          rw [Shape.rowMajor_val_two, Shape.rowMajor_val_three]
          show ((((i 0).val / 32) / 8192) * 8192 + ((i 0).val / 32) % 8192) * 4096 + (128 * ((i 0).val % 32) + (i 1).val) = (i 0).val * 128 + (i 1).val
          omega)]
  rw [Idealize.ShloMosaic.transpose_apply _ _ _ _
      (ix3 ⟨((i 0).val / 32) % 8192, by omega⟩ ⟨((i 0).val / 32) / 8192, by omega⟩ ⟨128 * ((i 0).val % 32) + (i 1).val, hcol⟩ : S8192x4x4096.Idx)
      (fun b => by fin_cases b <;> rfl)]
  rw [Idealize.ShloMosaic.shapeCast_apply _ _ _ (ix2 (copyOf i) ⟨128 * ((i 0).val % 32) + (i 1).val, hcol⟩ : S32768x4096.Idx)
      (by
        rw [Shape.rowMajor_val_two, Shape.rowMajor_val_three]
        show (4 * (((i 0).val / 32) % 8192) + ((i 0).val / 32) / 8192) * 4096 + (128 * ((i 0).val % 32) + (i 1).val)
          = ((((i 0).val / 32) % 8192) * 4 + ((i 0).val / 32) / 8192) * 4096 + (128 * ((i 0).val % 32) + (i 1).val)
        omega)]
  exact Routing.gather_row _ rfl rfl rfl rfl rfl Y (wrapped T) (copyOf i) ⟨_, hcol⟩ ⟨_, hw⟩
    (by rw [wrapped_apply T hT]; exact BitVec.eq_of_toNat_eq (by rw [BitVec.toNat_ofNat, Nat.mod_eq_of_lt (BitVec.isLt _)])) (by decide)

end Cert.ReferenceIdeal.Hand

end
-- ==== Proof.Merge.lean ====
/-
  The gated merge of the three branches, the output projection and the residual with its norm, one program of three
  regions: what each region leaves in its array, as a formula of the arrays it reads; the three formulas put together
  over the host's casts and reshapes; and that the reference's term is that formula.
-/
module

public import proofs.«01_k».proof.Proof.Gen.Kernel2Ideal.Frame
public import Idealize.ShloMosaic.Lib.Pipeline.ValueKit
public import Idealize.ShloMosaic.Lib.Pointwise
public import proofs.«01_k».proof.Proof.Gen.Reference2Ideal.Run

@[expose] public section

set_option maxRecDepth 16384

noncomputable section

namespace Cert.Kernel2Ideal.Hand

open Cert.Kernel2Ideal Cert.Kernel2Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (V : (c : Dev nD) → (b : Ref sig .tc) → Buf (Elt Ideal) ((c : Thread nD τ).loc b)) (c : Dev nD)

/-- Which block each of the three windows of the projection is on: the row block, the column block, and both. -/
theorem index1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, win1_0.index t = ![(grid1.coords t 0).val, 0] ∧ win1_1.index t = ![0, (grid1.coords t 1).val]
    ∧ win1_2.index t = ![(grid1.coords t 0).val, (grid1.coords t 1).val])

/-- The matrix product of the merged rows and the projection's matrix. -/
def product (a : Vec Ideal S8192x4096 .bf16) (w : Vec Ideal S4096x4096 .bf16) : Vec Ideal S8192x4096 .f32 :=
  fun i => ∑ k : Fin 4096, a (ix2 (i 0) k) * w (ix2 k (i 1))

/-- The projection's region fills its array with the product, block by block. -/
theorem array1 : (dat1 V c).arrAt 2 cfg1.N = product (V c main_v11) (V c main_v12) := by
  refine (dat1 V c).arrAt_eq_of_covers 2 _ (by decide +kernel) fun t hf y => ?_
  blk_simp
  rw [after1_2]
  frame_out
  pointwise [k1_pay1, product]
  blk_point [iblk1, index1 t]

/-- Which block each window of the merge is on: rows by the first coordinate of the grid, columns by the second. -/
theorem index0 : ∀ t : Fin cfg0.N, win0_0.index t = ![(grid0.coords t 0).val, 0] ∧ win0_1.index t = ![0, 0, (grid0.coords t 1).val]
    ∧ win0_2.index t = ![0, 0, (grid0.coords t 1).val] ∧ win0_3.index t = ![(grid0.coords t 0).val, 0]
    ∧ win0_4.index t = ![(grid0.coords t 0).val, 0] ∧ win0_5.index t = ![(grid0.coords t 0).val, 0]
    ∧ win0_6.index t = ![0, 0, (grid0.coords t 1).val] ∧ win0_7.index t = ![(grid0.coords t 0).val, (grid0.coords t 1).val] :=
  (by decide +kernel : ∀ t : Fin grid0.N, win0_0.index t = ![(grid0.coords t 0).val, 0] ∧ win0_1.index t = ![0, 0, (grid0.coords t 1).val]
    ∧ win0_2.index t = ![0, 0, (grid0.coords t 1).val] ∧ win0_3.index t = ![(grid0.coords t 0).val, 0]
    ∧ win0_4.index t = ![(grid0.coords t 0).val, 0] ∧ win0_5.index t = ![(grid0.coords t 0).val, 0]
    ∧ win0_6.index t = ![0, 0, (grid0.coords t 1).val] ∧ win0_7.index t = ![(grid0.coords t 0).val, (grid0.coords t 1).val])

/-- One branch of the merge at a row and a column: the logistic gate of the row, times the branch's own projection. -/
def branch (h : Vec Ideal S8192x4096 .bf16) (wg : Vec Ideal S3x4096x4096 .bf16) (b : Vec Ideal S3x1x4096 .f32)
    (o : Vec Ideal S8192x1024 .bf16) (wb : Vec Ideal S3x1024x4096 .bf16) (n : Fin 3) (i : S8192x4096.Idx) : EReal :=
  Ideal.logistic (∑ k : Fin 4096, h (ix2 (i 0) k) * wg (ix3 n k (i 1)) + b (ix3 n 0 (i 1))) *
    ∑ k : Fin 1024, o (ix2 (i 0) k) * wb (ix3 n k (i 1))

/-- The three branches added up. -/
def gated (h : Vec Ideal S8192x4096 .bf16) (wg : Vec Ideal S3x4096x4096 .bf16) (b : Vec Ideal S3x1x4096 .f32)
    (oa ob oc : Vec Ideal S8192x1024 .bf16) (wb : Vec Ideal S3x1024x4096 .bf16) : Vec Ideal S8192x4096 .bf16 :=
  fun i => branch h wg b oa wb 0 i + branch h wg b ob wb 1 i + branch h wg b oc wb 2 i

/-- The merge's region fills its array with the sum of the three gated branches, block by block. -/
theorem array0 : (dat0 V c).arrAt 7 cfg0.N
    = gated (V c main_v1) (V c main_v8) (V c main_v10) (V c main_v3) (V c main_v5) (V c main_v7) (V c main_v9) := by
  refine (dat0 V c).arrAt_eq_of_covers 7 _ (by decide +kernel) fun t hf y => ?_
  blk_simp
  rw [after0_7]
  frame_out
  pointwise [k0_pay1, k0_pay2, k0_pay3, k0_pay4, gated, branch]
  blk_point [iblk0, index0 t]

/-- Which block each window of the residual's region is on: the batch and the rows; the norm's scale is one block. -/
theorem index2 : ∀ t : Fin cfg2.N, win2_0.index t = ![(grid2.coords t 0).val, (grid2.coords t 1).val, 0]
    ∧ win2_1.index t = ![(grid2.coords t 0).val, (grid2.coords t 1).val, 0] ∧ win2_2.index t = ![0, 0]
    ∧ win2_3.index t = ![(grid2.coords t 0).val, 0, 0] ∧ win2_4.index t = ![(grid2.coords t 0).val, (grid2.coords t 1).val, 0] :=
  (by decide +kernel : ∀ t : Fin grid2.N, win2_0.index t = ![(grid2.coords t 0).val, (grid2.coords t 1).val, 0]
    ∧ win2_1.index t = ![(grid2.coords t 0).val, (grid2.coords t 1).val, 0] ∧ win2_2.index t = ![0, 0]
    ∧ win2_3.index t = ![(grid2.coords t 0).val, 0, 0] ∧ win2_4.index t = ![(grid2.coords t 0).val, (grid2.coords t 1).val, 0])

/-- The residual: a row `u` over the root of its mean square, scaled by `g` and by the gate `s`, added to `x`. -/
def added (x u : Vec Ideal S2x4096x4096 .f32) (g : Vec Ideal S1x4096 .f32) (s : Vec Ideal S2x1x4096 .f32) : Vec Ideal S2x4096x4096 .f32 :=
  fun i => x i + s (ix3 (i 0) 0 (i 2)) * (u i
    * Ideal.rsqrt (Ideal.div (∑ k : Fin 4096, u (ix3 (i 0) (i 1) k) * u (ix3 (i 0) (i 1) k)) (Ideal.ofBits .f32 0x45800000#32)
        + Ideal.ofBits .f32 0x358637BD#32)
    * g (ix2 0 (i 2)))

/-- The residual's region fills its array with that sum, block by block. -/
theorem array2 : (dat2 V c).arrAt 4 cfg2.N = added (V c main_arg0) (V c main_v14) (V c main_v15) (V c main_arg10) := by
  refine (dat2 V c).arrAt_eq_of_covers 4 _ (by decide +kernel) fun t hf y => ?_
  blk_simp
  rw [after2_4]
  frame_out
  pointwise [k2_pay1, added]
  blk_point [iblk2, index2 t]

variable (m : (ℓ : Loc nD τ sig) → Buf (Elt Ideal) ℓ) (ρ : Dev nD → PrngReg)

/-- What the three regions leave in the result, from the arguments: each casts and reshapes what it reads. -/
def result (x h : FVec Ideal S2x4096x4096 .f32) (oa ob oc : FVec Ideal S2x4096x1024 .f32) (wb : FVec Ideal S3x1024x4096 .f32)
    (wg : FVec Ideal S3x4096x4096 .f32) (b : FVec Ideal S3x4096 .f32) (wo : FVec Ideal S4096x4096 .f32) (g : FVec Ideal S4096 .f32)
    (s : FVec Ideal S2x1x4096 .f32) : FVec Ideal S2x4096x4096 .f32 :=
  added x
    (shapeCast _ (product
      (gated (shapeCast _ (truncf (F := Ideal) .bf16 h bitsLt_bf16_f32) shapeCasts_S2x4096x4096_S8192x4096) (truncf (F := Ideal) .bf16 wg bitsLt_bf16_f32)
        (shapeCast _ b shapeCasts_S3x4096_S3x1x4096)
        (shapeCast _ (truncf (F := Ideal) .bf16 oa bitsLt_bf16_f32) shapeCasts_S2x4096x1024_S8192x1024)
        (shapeCast _ (truncf (F := Ideal) .bf16 ob bitsLt_bf16_f32) shapeCasts_S2x4096x1024_S8192x1024)
        (shapeCast _ (truncf (F := Ideal) .bf16 oc bitsLt_bf16_f32) shapeCasts_S2x4096x1024_S8192x1024)
        (truncf (F := Ideal) .bf16 wb bitsLt_bf16_f32))
      (truncf (F := Ideal) .bf16 wo bitsLt_bf16_f32)) shapeCasts_S8192x4096_S2x4096x4096)
    (shapeCast _ g shapeCasts_S4096_S1x4096) s

/-- So the result's buffer holds it at the end: each region's array read back through the host's lines before it. -/
theorem W6_result : W6 m ρ c (Proc.devRef .tc main_v16)
    = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := by
  have e13 : W4 m ρ c (Proc.devRef .tc main_v13) = _ := (W4_arr m ρ c 2).trans (array1 (V3 m ρ) c)
  have e11 : W3 m ρ c (Proc.devRef .tc main_v11) = _ := (W3_of m ρ c main_v11 (by decide)).trans ((W2_arr m ρ c 7).trans (array0 (V1 m ρ) c))
  have a8 : W2 m ρ c (Proc.devRef .tc main_arg8) = _ := W2_args m ρ c main_arg8 (by decide)
  have a9 : W4 m ρ c (Proc.devRef .tc main_arg9) = _ := W4_args m ρ c main_arg9 (by decide)
  have e12 : V3 m ρ c main_v12 = truncf (F := Ideal) .bf16 (W2 m ρ c (Proc.devRef .tc main_arg8)) bitsLt_bf16_f32 := by
    unfold V3 W3; after_results <;> rfl
  have e14 : V5 m ρ c main_v14 = shapeCast S2x4096x4096 (W4 m ρ c (Proc.devRef .tc main_v13)) shapeCasts_S8192x4096_S2x4096x4096 := by
    unfold V5 W5; after_results <;> rfl
  have e15 : V5 m ρ c main_v15 = shapeCast S1x4096 (W4 m ρ c (Proc.devRef .tc main_arg9)) shapeCasts_S4096_S1x4096 := by
    unfold V5 W5; after_results <;> rfl
  have h1 : V1 m ρ c main_v1 = shapeCast S8192x4096 (truncf (F := Ideal) .bf16 (m ((c.tc : Thread nD τ).loc main_arg1)) bitsLt_bf16_f32) shapeCasts_S2x4096x4096_S8192x4096 := by
    unfold V1 W1; after_results <;> rfl
  have h3 : V1 m ρ c main_v3 = shapeCast S8192x1024 (truncf (F := Ideal) .bf16 (m ((c.tc : Thread nD τ).loc main_arg2)) bitsLt_bf16_f32) shapeCasts_S2x4096x1024_S8192x1024 := by
    unfold V1 W1; after_results <;> rfl
  have h5 : V1 m ρ c main_v5 = shapeCast S8192x1024 (truncf (F := Ideal) .bf16 (m ((c.tc : Thread nD τ).loc main_arg3)) bitsLt_bf16_f32) shapeCasts_S2x4096x1024_S8192x1024 := by
    unfold V1 W1; after_results <;> rfl
  have h7 : V1 m ρ c main_v7 = shapeCast S8192x1024 (truncf (F := Ideal) .bf16 (m ((c.tc : Thread nD τ).loc main_arg4)) bitsLt_bf16_f32) shapeCasts_S2x4096x1024_S8192x1024 := by
    unfold V1 W1; after_results <;> rfl
  have h8 : V1 m ρ c main_v8 = truncf (F := Ideal) .bf16 (m ((c.tc : Thread nD τ).loc main_arg6)) bitsLt_bf16_f32 := by
    unfold V1 W1; after_results <;> rfl
  have h9 : V1 m ρ c main_v9 = truncf (F := Ideal) .bf16 (m ((c.tc : Thread nD τ).loc main_arg5)) bitsLt_bf16_f32 := by
    unfold V1 W1; after_results <;> rfl
  have h10 : V1 m ρ c main_v10 = shapeCast S3x1x4096 (m ((c.tc : Thread nD τ).loc main_arg7)) shapeCasts_S3x4096_S3x1x4096 := by
    unfold V1 W1; after_results <;> rfl
  have e16 : W6 m ρ c (Proc.devRef .tc main_v16) = _ := (W6_arr m ρ c 4).trans (array2 (V5 m ρ) c)
  rw [e16, e14, e15, e13, a9, e12, a8,
    show V5 m ρ c main_arg0 = m ((c.tc : Thread nD τ).loc main_arg0) from W5_args m ρ c main_arg0 (by decide),
    show V5 m ρ c main_arg10 = m ((c.tc : Thread nD τ).loc main_arg10) from W5_args m ρ c main_arg10 (by decide),
    show V3 m ρ c main_v11 = _ from e11, h1, h3, h5, h7, h8, h9, h10]
  rfl

-- the launch's implicit arguments are found by unfolding definitions inside types
set_option backward.isDefEq.respectTransparency.types false in
/-- The run of the three regions: the result holds `result` of the arguments, and the arguments are as they were. -/
theorem run_result : θ_run (defs (F := Ideal)) (onTc (τ := τ) (main (F := Ideal))) ⟨m, fun _ => 0, ρ⟩ (fun r => ∀ c : Dev nD,
      r.2.mem ((c.tc : Thread nD τ).loc main_v16)
        = result (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) (m ((c.tc : Thread _ _).loc main_arg7)) (m ((c.tc : Thread _ _).loc main_arg8)) (m ((c.tc : Thread _ _).loc main_arg9)) (m ((c.tc : Thread _ _).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => ⟨(h c _ (mem_uc main_v16 (by decide))).trans (W6_result c m ρ),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c)⟩)

open Cert.Reference2Ideal.Value in
/-- The reference's term is the same formula: it spells the logistic function out, and indexes rows by batch and position. -/
theorem reference_result (m' : (ℓ : Loc Cert.Reference2Ideal.nD Cert.Reference2Ideal.τ Cert.Reference2Ideal.sig) → Buf (Elt Ideal) ℓ) :
    res_main_v72 m' c = result (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7)) (m' ((c.tc : Thread _ _).loc Cert.Reference2Ideal.main_arg8)) (m' ((c.tc : Thread _ _).loc Cert.Reference2Ideal.main_arg9)) (m' ((c.tc : Thread _ _).loc Cert.Reference2Ideal.main_arg10)) := by
  funext i
  unfold res_main_v72
  pointwise [result, added, product, gated, branch]
  simp only [Ideal.logistic]

end Cert.Kernel2Ideal.Hand

end
-- ==== Proof.Combine.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.WholeRead
public import Idealize.ShloMosaic.Lib.ValueLayout

@[expose] public section

set_option maxRecDepth 16384

noncomputable section

namespace Cert.Kernel3Ideal.Hand

open Cert.Kernel3Ideal Cert.Kernel3Ideal.Gen Idealize.ShloMosaic Idealize.ShloMosaic.TcCoe

variable (m : (ℓ : Loc nD τ sig) → Buf (Elt Ideal) ℓ) (c : Dev nD)

/-- Lane group `s` of 128 token rows of expert slot `k`: row `r` is the staged block's row `s + 32 r`. -/
def lanes (x : FVec Ideal S4x4096x128 .f32) (k s : ℕ) : FVec Ideal S128x128 .f32 := fun i =>
  x (ix3 ⟨k % 4, Nat.mod_lt _ (by decide)⟩ ⟨(s + 32 * (i 0).val) % 4096, Nat.mod_lt _ (by decide)⟩ (i 1))

/-- The token rows of expert slot `k` as 128 full rows: lane `d` of row `r` lies in the staged block's row `32 r + d / 128`. -/
def rows (x : FVec Ideal S4x4096x128 .f32) (k : ℕ) : FVec Ideal S128x4096 .f32 := fun i =>
  lanes x k ((i 1).val / 128) (ix2 (i 0) ⟨(i 1).val % 128, Nat.mod_lt _ (by decide)⟩)

/-- The strided load at expert slot `k` and row `s` stays inside the block. -/
abbrev Inside (k s : ℕ) : Prop :=
  ∀ a, S1x128x128.size a = 0 ∨ (![k, s, 0] : Fin 3 → Nat) a + (![1, 32, 1] : Fin 3 → Nat) a * (S1x128x128.size a - 1) < S4x4096x128.size a

/-- One strided load of the kernel, laid out as 128 rows of 128 lanes. -/
theorem load_lanes (M : Memref sig .tc .vmem S4x4096x128 .f32) (hM : M.IsWhole) (x : FVec Ideal S4x4096x128 .f32) (k s : ℕ)
    (inb : Inside k s)
    (h : Shape.ShapeCasts S1x128x128 S128x128) :
    shapeCast S128x128 (View.readAt (Elt Ideal) M.view (⟨![k, s, 0], ![1, 128, 128], ![1, 32, 1], inb⟩ : LoadRect S4x4096x128) (hM.unread x)) h
      = lanes x k s := by
  funext q
  obtain ⟨i, j, rfl⟩ : ∃ (i : Fin 128) (j : Fin 128), q = ix2 i j := ⟨q 0, q 1, (eq_ix2 q)⟩
  refine (ValueIdx.shapeCast_1ab_ab_apply _ _ i j).trans ((Memref.IsWhole.readAt_unread (Val := Elt Ideal) hM x _ _).trans (congrArg x ?_))
  have h0 : k < 4 := by have := (inb 0).resolve_left (by decide); simpa using this
  have h1 := (inb 1).resolve_left (by decide)
  simp at h0 h1
  funext a
  fin_cases a
  · refine Fin.ext ?_; show k + 1 * 0 = k % 4; omega
  · refine Fin.ext ?_; show s + 32 * i.val = (s + 32 * i.val) % 4096; omega
  · refine Fin.ext ?_; show 0 + 1 * j.val = j.val; omega

/-- Thirty-two lane groups side by side are the rows. -/
theorem concat_lanes (x : FVec Ideal S4x4096x128 .f32) (k : ℕ) (h) :
    concatenate S128x4096 1 [⟨S128x128, lanes x k 0⟩, ⟨S128x128, lanes x k 1⟩, ⟨S128x128, lanes x k 2⟩, ⟨S128x128, lanes x k 3⟩, ⟨S128x128, lanes x k 4⟩, ⟨S128x128, lanes x k 5⟩, ⟨S128x128, lanes x k 6⟩, ⟨S128x128, lanes x k 7⟩, ⟨S128x128, lanes x k 8⟩, ⟨S128x128, lanes x k 9⟩, ⟨S128x128, lanes x k 10⟩, ⟨S128x128, lanes x k 11⟩, ⟨S128x128, lanes x k 12⟩, ⟨S128x128, lanes x k 13⟩, ⟨S128x128, lanes x k 14⟩, ⟨S128x128, lanes x k 15⟩, ⟨S128x128, lanes x k 16⟩, ⟨S128x128, lanes x k 17⟩, ⟨S128x128, lanes x k 18⟩, ⟨S128x128, lanes x k 19⟩, ⟨S128x128, lanes x k 20⟩, ⟨S128x128, lanes x k 21⟩, ⟨S128x128, lanes x k 22⟩, ⟨S128x128, lanes x k 23⟩, ⟨S128x128, lanes x k 24⟩, ⟨S128x128, lanes x k 25⟩, ⟨S128x128, lanes x k 26⟩, ⟨S128x128, lanes x k 27⟩, ⟨S128x128, lanes x k 28⟩, ⟨S128x128, lanes x k 29⟩, ⟨S128x128, lanes x k 30⟩, ⟨S128x128, lanes x k 31⟩] h = rows x k := by
  funext j
  have hj := (j 1).isLt
  exact concatenate_ofFn_apply (t := S128x4096) (s₁ := S128x128) 1 (N := 32) (fun s => lanes x k s.val) h rfl 128 rfl j
    ⟨(j 1).val / 128, by simp at hj; omega⟩ rfl (ix2 (j 0) ⟨(j 1).val % 128, Nat.mod_lt _ (by decide)⟩) rfl
    (fun b hb => by fin_cases b <;> first | rfl | exact absurd rfl hb)

set_option maxHeartbeats 2000000 in
/-- The kernel's thirty-two strided loads of expert slot `k`, concatenated, are the rows. -/
theorem concat_loads (M : Memref sig .tc .vmem S4x4096x128 .f32) (hM : M.IsWhole) (x : FVec Ideal S4x4096x128 .f32) (k : ℕ)
    (h : Shape.ShapeCasts S1x128x128 S128x128)
    (b0 : Inside k 0 := by decide) (b1 : Inside k 1 := by decide) (b2 : Inside k 2 := by decide) (b3 : Inside k 3 := by decide) (b4 : Inside k 4 := by decide) (b5 : Inside k 5 := by decide) (b6 : Inside k 6 := by decide) (b7 : Inside k 7 := by decide)
    (b8 : Inside k 8 := by decide) (b9 : Inside k 9 := by decide) (b10 : Inside k 10 := by decide) (b11 : Inside k 11 := by decide) (b12 : Inside k 12 := by decide) (b13 : Inside k 13 := by decide) (b14 : Inside k 14 := by decide) (b15 : Inside k 15 := by decide)
    (b16 : Inside k 16 := by decide) (b17 : Inside k 17 := by decide) (b18 : Inside k 18 := by decide) (b19 : Inside k 19 := by decide) (b20 : Inside k 20 := by decide) (b21 : Inside k 21 := by decide) (b22 : Inside k 22 := by decide) (b23 : Inside k 23 := by decide)
    (b24 : Inside k 24 := by decide) (b25 : Inside k 25 := by decide) (b26 : Inside k 26 := by decide) (b27 : Inside k 27 := by decide) (b28 : Inside k 28 := by decide) (b29 : Inside k 29 := by decide) (b30 : Inside k 30 := by decide) (b31 : Inside k 31 := by decide) :
    concatenate S128x4096 1 [
      ⟨S128x128, shapeCast S128x128 (View.readAt (Elt Ideal) M.view (⟨![k, 0, 0], ![1, 128, 128], ![1, 32, 1], b0⟩ : LoadRect S4x4096x128) (hM.unread x)) h⟩,
      ⟨S128x128, shapeCast S128x128 (View.readAt (Elt Ideal) M.view (⟨![k, 1, 0], ![1, 128, 128], ![1, 32, 1], b1⟩ : LoadRect S4x4096x128) (hM.unread x)) h⟩,
      ⟨S128x128, shapeCast S128x128 (View.readAt (Elt Ideal) M.view (⟨![k, 2, 0], ![1, 128, 128], ![1, 32, 1], b2⟩ : LoadRect S4x4096x128) (hM.unread x)) h⟩,
      ⟨S128x128, shapeCast S128x128 (View.readAt (Elt Ideal) M.view (⟨![k, 3, 0], ![1, 128, 128], ![1, 32, 1], b3⟩ : LoadRect S4x4096x128) (hM.unread x)) h⟩,
      ⟨S128x128, shapeCast S128x128 (View.readAt (Elt Ideal) M.view (⟨![k, 4, 0], ![1, 128, 128], ![1, 32, 1], b4⟩ : LoadRect S4x4096x128) (hM.unread x)) h⟩,
      ⟨S128x128, shapeCast S128x128 (View.readAt (Elt Ideal) M.view (⟨![k, 5, 0], ![1, 128, 128], ![1, 32, 1], b5⟩ : LoadRect S4x4096x128) (hM.unread x)) h⟩,
      ⟨S128x128, shapeCast S128x128 (View.readAt (Elt Ideal) M.view (⟨![k, 6, 0], ![1, 128, 128], ![1, 32, 1], b6⟩ : LoadRect S4x4096x128) (hM.unread x)) h⟩,
      ⟨S128x128, shapeCast S128x128 (View.readAt (Elt Ideal) M.view (⟨![k, 7, 0], ![1, 128, 128], ![1, 32, 1], b7⟩ : LoadRect S4x4096x128) (hM.unread x)) h⟩,
      ⟨S128x128, shapeCast S128x128 (View.readAt (Elt Ideal) M.view (⟨![k, 8, 0], ![1, 128, 128], ![1, 32, 1], b8⟩ : LoadRect S4x4096x128) (hM.unread x)) h⟩,
      ⟨S128x128, shapeCast S128x128 (View.readAt (Elt Ideal) M.view (⟨![k, 9, 0], ![1, 128, 128], ![1, 32, 1], b9⟩ : LoadRect S4x4096x128) (hM.unread x)) h⟩,
      ⟨S128x128, shapeCast S128x128 (View.readAt (Elt Ideal) M.view (⟨![k, 10, 0], ![1, 128, 128], ![1, 32, 1], b10⟩ : LoadRect S4x4096x128) (hM.unread x)) h⟩,
      ⟨S128x128, shapeCast S128x128 (View.readAt (Elt Ideal) M.view (⟨![k, 11, 0], ![1, 128, 128], ![1, 32, 1], b11⟩ : LoadRect S4x4096x128) (hM.unread x)) h⟩,
      ⟨S128x128, shapeCast S128x128 (View.readAt (Elt Ideal) M.view (⟨![k, 12, 0], ![1, 128, 128], ![1, 32, 1], b12⟩ : LoadRect S4x4096x128) (hM.unread x)) h⟩,
      ⟨S128x128, shapeCast S128x128 (View.readAt (Elt Ideal) M.view (⟨![k, 13, 0], ![1, 128, 128], ![1, 32, 1], b13⟩ : LoadRect S4x4096x128) (hM.unread x)) h⟩,
      ⟨S128x128, shapeCast S128x128 (View.readAt (Elt Ideal) M.view (⟨![k, 14, 0], ![1, 128, 128], ![1, 32, 1], b14⟩ : LoadRect S4x4096x128) (hM.unread x)) h⟩,
      ⟨S128x128, shapeCast S128x128 (View.readAt (Elt Ideal) M.view (⟨![k, 15, 0], ![1, 128, 128], ![1, 32, 1], b15⟩ : LoadRect S4x4096x128) (hM.unread x)) h⟩,
      ⟨S128x128, shapeCast S128x128 (View.readAt (Elt Ideal) M.view (⟨![k, 16, 0], ![1, 128, 128], ![1, 32, 1], b16⟩ : LoadRect S4x4096x128) (hM.unread x)) h⟩,
      ⟨S128x128, shapeCast S128x128 (View.readAt (Elt Ideal) M.view (⟨![k, 17, 0], ![1, 128, 128], ![1, 32, 1], b17⟩ : LoadRect S4x4096x128) (hM.unread x)) h⟩,
      ⟨S128x128, shapeCast S128x128 (View.readAt (Elt Ideal) M.view (⟨![k, 18, 0], ![1, 128, 128], ![1, 32, 1], b18⟩ : LoadRect S4x4096x128) (hM.unread x)) h⟩,
      ⟨S128x128, shapeCast S128x128 (View.readAt (Elt Ideal) M.view (⟨![k, 19, 0], ![1, 128, 128], ![1, 32, 1], b19⟩ : LoadRect S4x4096x128) (hM.unread x)) h⟩,
      ⟨S128x128, shapeCast S128x128 (View.readAt (Elt Ideal) M.view (⟨![k, 20, 0], ![1, 128, 128], ![1, 32, 1], b20⟩ : LoadRect S4x4096x128) (hM.unread x)) h⟩,
      ⟨S128x128, shapeCast S128x128 (View.readAt (Elt Ideal) M.view (⟨![k, 21, 0], ![1, 128, 128], ![1, 32, 1], b21⟩ : LoadRect S4x4096x128) (hM.unread x)) h⟩,
      ⟨S128x128, shapeCast S128x128 (View.readAt (Elt Ideal) M.view (⟨![k, 22, 0], ![1, 128, 128], ![1, 32, 1], b22⟩ : LoadRect S4x4096x128) (hM.unread x)) h⟩,
      ⟨S128x128, shapeCast S128x128 (View.readAt (Elt Ideal) M.view (⟨![k, 23, 0], ![1, 128, 128], ![1, 32, 1], b23⟩ : LoadRect S4x4096x128) (hM.unread x)) h⟩,
      ⟨S128x128, shapeCast S128x128 (View.readAt (Elt Ideal) M.view (⟨![k, 24, 0], ![1, 128, 128], ![1, 32, 1], b24⟩ : LoadRect S4x4096x128) (hM.unread x)) h⟩,
      ⟨S128x128, shapeCast S128x128 (View.readAt (Elt Ideal) M.view (⟨![k, 25, 0], ![1, 128, 128], ![1, 32, 1], b25⟩ : LoadRect S4x4096x128) (hM.unread x)) h⟩,
      ⟨S128x128, shapeCast S128x128 (View.readAt (Elt Ideal) M.view (⟨![k, 26, 0], ![1, 128, 128], ![1, 32, 1], b26⟩ : LoadRect S4x4096x128) (hM.unread x)) h⟩,
      ⟨S128x128, shapeCast S128x128 (View.readAt (Elt Ideal) M.view (⟨![k, 27, 0], ![1, 128, 128], ![1, 32, 1], b27⟩ : LoadRect S4x4096x128) (hM.unread x)) h⟩,
      ⟨S128x128, shapeCast S128x128 (View.readAt (Elt Ideal) M.view (⟨![k, 28, 0], ![1, 128, 128], ![1, 32, 1], b28⟩ : LoadRect S4x4096x128) (hM.unread x)) h⟩,
      ⟨S128x128, shapeCast S128x128 (View.readAt (Elt Ideal) M.view (⟨![k, 29, 0], ![1, 128, 128], ![1, 32, 1], b29⟩ : LoadRect S4x4096x128) (hM.unread x)) h⟩,
      ⟨S128x128, shapeCast S128x128 (View.readAt (Elt Ideal) M.view (⟨![k, 30, 0], ![1, 128, 128], ![1, 32, 1], b30⟩ : LoadRect S4x4096x128) (hM.unread x)) h⟩,
      ⟨S128x128, shapeCast S128x128 (View.readAt (Elt Ideal) M.view (⟨![k, 31, 0], ![1, 128, 128], ![1, 32, 1], b31⟩ : LoadRect S4x4096x128) (hM.unread x)) h⟩] concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1 = rows x k := by
  iterate 32 rw [load_lanes]
  exact concat_lanes x k _

set_option maxHeartbeats 2000000 in
/-- What a grid point stores: the kernel's arithmetic over the four slots' rows. -/
theorem stored (t : Fin cfg0.N) : outsAt0 m c t =
    k0_pay1 (iblk m c 2 t)
      (addf (addf (mulf (rows (iblk m c 1 t) 0) (broadcastTo S128x4096 (extractStridedSlice S128x1 ![0, 0] (iblk m c 2 t) slices_S128x128_o0_0_S128x1) broadcasts_S128x1_S128x4096))
          (mulf (rows (iblk m c 1 t) 1) (broadcastTo S128x4096 (extractStridedSlice S128x1 ![0, 1] (iblk m c 2 t) slices_S128x128_o0_1_S128x1) broadcasts_S128x1_S128x4096)))
        (mulf (rows (iblk m c 1 t) 2) (broadcastTo S128x4096 (extractStridedSlice S128x1 ![0, 2] (iblk m c 2 t) slices_S128x128_o0_2_S128x1) broadcasts_S128x1_S128x4096)))
      (rows (iblk m c 1 t) 3) (iblk m c 0 t) (iblk m c 4 t) (iblk m c 3 t) := by
  unfold outsAt0
  frame_out
  have k2 : k0_pay2 (F := Ideal) (iblk m c 2 t) = iblk m c 2 t := shapeCast_self _ _
  rw [k2]
  have e0 := concat_loads (ms0_1 t) (hs0_1 t) (iblk m c 1 t) 0 shapeCasts_S1x128x128_S128x128
  have e1 := concat_loads (ms0_1 t) (hs0_1 t) (iblk m c 1 t) 1 shapeCasts_S1x128x128_S128x128
  have e2 := concat_loads (ms0_1 t) (hs0_1 t) (iblk m c 1 t) 2 shapeCasts_S1x128x128_S128x128
  have e3 := concat_loads (ms0_1 t) (hs0_1 t) (iblk m c 1 t) 3 shapeCasts_S1x128x128_S128x128
  exact congrArg₂ (fun a b => k0_pay1 (F := Ideal) (iblk m c 2 t) a b (iblk m c 0 t) (iblk m c 4 t) (iblk m c 3 t))
    (congrArg₂ addf (congrArg₂ addf (congrArg₂ mulf e0 rfl) (congrArg₂ mulf e1 rfl)) (congrArg₂ mulf e2 rfl)) e3

/-- The block each window reads or writes at a grid point. -/
theorem index0 : ∀ t : Fin cfg0.N, win0_0.index t = ![(grid0.coords t 0).val, (grid0.coords t 1).val, 0]
    ∧ win0_1.index t = ![0, (grid0.coords t 0).val * 32 + (grid0.coords t 1).val, 0]
    ∧ win0_2.index t = ![(grid0.coords t 0).val * 32 + (grid0.coords t 1).val, 0] ∧ win0_3.index t = ![0, 0]
    ∧ win0_4.index t = ![(grid0.coords t 0).val, 0, 0] ∧ win0_5.index t = ![(grid0.coords t 0).val, (grid0.coords t 1).val, 0] :=
  (by decide +kernel : ∀ t : Fin grid0.N, win0_0.index t = ![(grid0.coords t 0).val, (grid0.coords t 1).val, 0]
    ∧ win0_1.index t = ![0, (grid0.coords t 0).val * 32 + (grid0.coords t 1).val, 0]
    ∧ win0_2.index t = ![(grid0.coords t 0).val * 32 + (grid0.coords t 1).val, 0] ∧ win0_3.index t = ![0, 0]
    ∧ win0_4.index t = ![(grid0.coords t 0).val, 0, 0] ∧ win0_5.index t = ![(grid0.coords t 0).val, (grid0.coords t 1).val, 0])

/-- The row of expert slot `k` for batch `i 0`, position `i 1`, read from the slots' lane groups. -/
def slot (y : FVec Ideal S4x262144x128 .f32) (k : Fin 4) : FVec Ideal S2x4096x4096 .f32 := fun i =>
  y (ix3 k ⟨((i 0).val * 4096 + (i 1).val) * 32 + (i 2).val / 128, by have := (i 0).isLt; have := (i 1).isLt; have := (i 2).isLt; simp at *; omega⟩
    ⟨(i 2).val % 128, Nat.mod_lt _ (by decide)⟩)

/-- A token's weight of expert slot `k`. -/
def weight (p : FVec Ideal S8192x128 .f32) (k : Fin 128) : FVec Ideal S2x4096x4096 .f32 := fun i =>
  p (ix2 ⟨(i 0).val * 4096 + (i 1).val, by have := (i 0).isLt; have := (i 1).isLt; simp at *; omega⟩ k)

/-- The four slots' rows weighted and added. -/
def mixed (y : FVec Ideal S4x262144x128 .f32) (p : FVec Ideal S8192x128 .f32) : FVec Ideal S2x4096x4096 .f32 := fun i =>
  slot y 0 i * weight p 0 i + slot y 1 i * weight p 1 i + slot y 2 i * weight p 2 i + slot y 3 i * weight p 3 i

/-- The residual: a row `u` over the root of its mean square, scaled by `g` and by the gate `s`, added to `x`. -/
def added (x u : FVec Ideal S2x4096x4096 .f32) (g : FVec Ideal S1x4096 .f32) (s : FVec Ideal S2x1x4096 .f32) : FVec Ideal S2x4096x4096 .f32 :=
  fun i => x i + s (ix3 (i 0) 0 (i 2)) * (u i
    * Ideal.rsqrt (Ideal.div (∑ k : Fin 4096, u (ix3 (i 0) (i 1) k) * u (ix3 (i 0) (i 1) k)) (Ideal.ofBits .f32 0x45800000#32)
        + Ideal.ofBits .f32 0x358637BD#32)
    * g (ix2 0 (i 2)))

/-- The position of row `r` of a grid point's block, at lane `d`. -/
def pos (t : Fin cfg0.N) (r : Fin 128) (d : Fin 4096) : S2x4096x4096.Idx :=
  ix3 (grid0.coords t 0) ⟨(grid0.coords t 1).val * 128 + r.val, by have := (grid0.coords t 1).isLt; simp at this; omega⟩ d

/-- A staged row of a slot times its staged weight is the slot's row at the block's position times that position's weight. -/
theorem term_block (t : Fin cfg0.N) (k : Fin 4) (k' : Fin 128) (r : Fin 128) (d : Fin 4096) :
    rows (iblk m c 1 t) k.val (ix2 r d) * iblk m c 2 t (ix2 r k')
      = slot (V m c main_v0) k (pos t r d) * weight (V m c main_v1) k' (pos t r d) := by
  have h0 := (grid0.coords t 0).isLt
  have h1 := (grid0.coords t 1).isLt
  pointwise [rows, lanes, slot, weight, pos]
  blk_point [iblk, index0 t]

/-- What a grid point stores is the residual at the block's positions. -/
theorem stored_apply (t : Fin cfg0.N) (r : Fin 128) (d : Fin 4096) : outsAt0 m c t (ix3 0 r d)
    = added (V m c main_arg0) (mixed (V m c main_v0) (V m c main_v1)) (V m c main_v2) (V m c main_arg4) (pos t r d) := by
  have r0 : ∀ r d, rows (iblk m c 1 t) 0 (ix2 r d) * _ = _ := term_block m c t 0 0
  have r1 : ∀ r d, rows (iblk m c 1 t) 1 (ix2 r d) * _ = _ := term_block m c t 1 1
  have r2 : ∀ r d, rows (iblk m c 1 t) 2 (ix2 r d) * _ = _ := term_block m c t 2 2
  have r3 : ∀ r d, rows (iblk m c 1 t) 3 (ix2 r d) * _ = _ := term_block m c t 3 3
  have x0 : iblk m c 0 t (ix3 0 r d) = V m c main_arg0 (pos t r d) := by
    pointwise [pos]
    blk_point [iblk, index0 t]
  have x3 : iblk m c 3 t (ix2 0 d) = V m c main_v2 (ix2 0 d) := by
    blk_point [iblk, index0 t]
  have x4 : iblk m c 4 t (ix3 0 0 d) = V m c main_arg4 (ix3 (grid0.coords t 0) 0 d) := by
    blk_point [iblk, index0 t]
  rw [stored]
  pointwise [k0_pay1, added, mixed]
  simp only [r0, r1, r2, r3, x0, x3, x4]
  rfl

/-- The call's region fills its array with the residual, block by block. -/
theorem array : (dats m 0 c).arrAt 5 cfg0.N = added (V m c main_arg0) (mixed (V m c main_v0) (V m c main_v1)) (V m c main_v2) (V m c main_arg4) := by
  refine (dats m 0 c).arrAt_eq_of_covers 5 _ (by decide +kernel) fun t hf y => ?_
  obtain ⟨r, d, rfl⟩ : ∃ (r : Fin 128) (d : Fin 4096), y = ix3 0 r d :=
    ⟨y 1, y 2, (eq_ix3 y).trans (congrArg (fun a : Fin 1 => ix3 a (y 1) (y 2)) (Subsingleton.elim (α := Fin 1) _ _))⟩
  blk_simp
  rw [after0_5]
  refine (stored_apply m c t r d).trans ?_
  generalize added (V m c main_arg0) (mixed (V m c main_v0) (V m c main_v1)) (V m c main_v2) (V m c main_arg4) = G
  unfold pos
  blk_point [index0 t]

/-- A token's weight of expert slot `k`, from the weights as given. -/
def share (p : FVec Ideal S8192x4 .f32) (k : Fin 4) : FVec Ideal S2x4096x4096 .f32 := fun i =>
  p (ix2 ⟨(i 0).val * 4096 + (i 1).val, by have := (i 0).isLt; have := (i 1).isLt; simp at *; omega⟩ k)

/-- The padding leaves the four weights of a token where they were. -/
theorem weight_pad (p : FVec Ideal S8192x4 .f32) (z : FVec Ideal S_ .f32) (k : Fin 4) :
    weight (pad S8192x128 ![0, 0] ![0, 124] ![0, 0] p z pads_S8192x4_S8192x128_000_01240 h_S_) (k.castLE (by decide)) = share p k := by
  funext i
  have h := k.isLt
  have h0 := (i 0).isLt
  have h1 := (i 1).isLt
  simp at h0 h1
  pointwise [weight, share]
  exact dif_pos ⟨by omega, h⟩

/-- What the call leaves in the result, from the arguments: the slots' rows weighted, added, normalised and added to `x`. -/
def result (x : FVec Ideal S2x4096x4096 .f32) (y : FVec Ideal S1048576x128 .f32) (p : FVec Ideal S8192x4 .f32) (g : FVec Ideal S4096 .f32)
    (s : FVec Ideal S2x1x4096 .f32) : FVec Ideal S2x4096x4096 .f32 :=
  added x (fun i =>
    slot (shapeCast _ y shapeCasts_S1048576x128_S4x262144x128) 0 i * share p 0 i + slot (shapeCast _ y shapeCasts_S1048576x128_S4x262144x128) 1 i * share p 1 i
      + slot (shapeCast _ y shapeCasts_S1048576x128_S4x262144x128) 2 i * share p 2 i + slot (shapeCast _ y shapeCasts_S1048576x128_S4x262144x128) 3 i * share p 3 i)
    (shapeCast _ g shapeCasts_S4096_S1x4096) s

/-- So the call's array is that result of the arguments. -/
theorem array_result : (dats m 0 c).arrAt 5 cfg0.N = result (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) := by
  have e0 : V m c main_v0 = shapeCast S4x262144x128 (m ((c.tc : Thread nD τ).loc main_arg1)) shapeCasts_S1048576x128_S4x262144x128 := by
    simp only [V, hostOps0, hostOps0_1, hostOps0_2, List.flatten_cons, List.flatten_nil, List.append_nil, List.cons_append, List.nil_append]
    after_results <;> rfl
  have e2 : V m c main_v2 = shapeCast S1x4096 (m ((c.tc : Thread nD τ).loc main_arg3)) shapeCasts_S4096_S1x4096 := by
    simp only [V, hostOps0, hostOps0_1, hostOps0_2, List.flatten_cons, List.flatten_nil, List.append_nil, List.cons_append, List.nil_append]
    after_results <;> rfl
  have e1 : ∃ z, V m c main_v1 = pad S8192x128 ![0, 0] ![0, 124] ![0, 0] (m ((c.tc : Thread nD τ).loc main_arg2)) z pads_S8192x4_S8192x128_000_01240 h_S_ := by
    refine ⟨sitofp (F := Ideal) .f32 (constantI S_ 32 0#32), ?_⟩
    simp only [V, hostOps0, hostOps0_1, hostOps0_2, List.flatten_cons, List.flatten_nil, List.append_nil, List.cons_append, List.nil_append]
    after_results <;> rfl
  obtain ⟨z, e1⟩ := e1
  rw [array, e0, e1, e2, V_main_arg0, V_main_arg4]
  refine congrArg (fun u => added _ u _ _) (funext fun i => ?_)
  have w : ∀ k : Fin 4, weight (pad S8192x128 ![0, 0] ![0, 124] ![0, 0] (m ((c.tc : Thread nD τ).loc main_arg2)) z pads_S8192x4_S8192x128_000_01240 h_S_) (k.castLE (by decide)) i
      = share (m ((c.tc : Thread nD τ).loc main_arg2)) k i := fun k => congrFun (weight_pad _ z k) i
  rw [← w 0, ← w 1, ← w 2, ← w 3]
  rfl

/-- The run of the whole program: the result holds it, and the arguments are as launched. -/
theorem run_result (ρ : Dev nD → PrngReg) : θ_run (defs (F := Ideal)) (onTc (τ := τ) (main (F := Ideal))) ⟨m, fun _ => 0, ρ⟩ (fun r => ∀ c : Dev nD,
      r.2.mem ((c.tc : Thread nD τ).loc main_v3) = result (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨(hr c).1.trans (array_result m c), (hr c).2⟩) (Value.run_blocks m ρ)

/-- The reference's row of slot `k` for a token, cut out of the reshaped rows, is the slot's row. -/
theorem cut_slot (y : FVec Ideal S1048576x128 .f32) (k : Fin 4) (h1 : Shape.ShapeCasts S1048576x128 Cert.Reference3Ideal.S4x8192x4096)
    (h2 : Shape.Slices Cert.Reference3Ideal.S4x8192x4096 ![k.val, 0, 0] Cert.Reference3Ideal.S1x8192x4096) (h3 : Shape.ShapeCasts Cert.Reference3Ideal.S1x8192x4096 Cert.Reference3Ideal.S8192x4096)
    (b : Fin 2) (r : Fin 4096) (d : Fin 4096) :
    shapeCast Cert.Reference3Ideal.S8192x4096 (extractStridedSlice Cert.Reference3Ideal.S1x8192x4096 ![k.val, 0, 0] (shapeCast Cert.Reference3Ideal.S4x8192x4096 y h1) h2) h3
        (ix2 ⟨b.val * 4096 + r.val, by omega⟩ d)
      = slot (shapeCast _ y shapeCasts_S1048576x128_S4x262144x128) k (ix3 b r d) := by
  have hb := b.isLt
  have hr := r.isLt
  have hd := d.isLt
  have hk := k.isLt
  refine (ValueIdx.shapeCast_1ab_ab_apply _ _ _ _).trans ?_
  trans y (ix2 ⟨((k.val * 8192 + (b.val * 4096 + r.val)) * 32 + d.val / 128), by omega⟩ ⟨d.val % 128, Nat.mod_lt _ (by decide)⟩)
  · refine shapeCast_apply _ _ _ _ ?_
    rw [Shape.rowMajor_val_three, Shape.rowMajor_val_two]
    show ((k.val * 8192 + (b.val * 4096 + r.val)) * 32 + d.val / 128) * 128 + d.val % 128
      = (k.val * 8192 + (0 + (b.val * 4096 + r.val))) * 4096 + (0 + d.val)
    omega
  · refine (shapeCast_apply _ _ _ _ ?_).symm
    rw [Shape.rowMajor_val_three, Shape.rowMajor_val_two]
    show ((k.val * 8192 + (b.val * 4096 + r.val)) * 32 + d.val / 128) * 128 + d.val % 128
      = (k.val * 262144 + ((b.val * 4096 + r.val) * 32 + d.val / 128)) * 128 + d.val % 128
    omega

/-- The reference's weighted sum of rows that are the slots' rows: it starts at zero. -/
theorem token_sum (y : FVec Ideal S4x262144x128 .f32) (p : FVec Ideal S8192x4 .f32) (Y0 Y1 Y2 Y3 : FVec Ideal Cert.Reference3Ideal.S8192x4096 .f32)
    (e0 : ∀ (b : Fin 2) (r d : Fin 4096), Y0 (ix2 ⟨b.val * 4096 + r.val, by omega⟩ d) = slot y 0 (ix3 b r d))
    (e1 : ∀ (b : Fin 2) (r d : Fin 4096), Y1 (ix2 ⟨b.val * 4096 + r.val, by omega⟩ d) = slot y 1 (ix3 b r d))
    (e2 : ∀ (b : Fin 2) (r d : Fin 4096), Y2 (ix2 ⟨b.val * 4096 + r.val, by omega⟩ d) = slot y 2 (ix3 b r d))
    (e3 : ∀ (b : Fin 2) (r d : Fin 4096), Y3 (ix2 ⟨b.val * 4096 + r.val, by omega⟩ d) = slot y 3 (ix3 b r d)) :
    shapeCast Cert.Reference3Ideal.S2x4096x4096 (addf (addf (addf (addf (broadcastInDim Cert.Reference3Ideal.S8192x4096 ![] Cert.Reference3Ideal.Gen.bcast_S_S8192x4096 (constant (F := Ideal) Cert.Reference3Ideal.S_ .f32 0x00000000#32))
        (mulf Y0 (broadcastInDim Cert.Reference3Ideal.S8192x4096 ![0, 1] Cert.Reference3Ideal.Gen.bcast_S8192x1_S8192x4096_0_1 (broadcastInDim Cert.Reference3Ideal.S8192x1 ![0] Cert.Reference3Ideal.Gen.bcast_S8192_S8192x1_0 (shapeCast Cert.Reference3Ideal.S8192 (extractStridedSlice Cert.Reference3Ideal.S8192x1 ![0, 0] p Cert.Reference3Ideal.Gen.slices_S8192x4_S8192x1_0_0) Cert.Reference3Ideal.Gen.shapeCasts_S8192x1_S8192)))))
        (mulf Y1 (broadcastInDim Cert.Reference3Ideal.S8192x4096 ![0, 1] Cert.Reference3Ideal.Gen.bcast_S8192x1_S8192x4096_0_1 (broadcastInDim Cert.Reference3Ideal.S8192x1 ![0] Cert.Reference3Ideal.Gen.bcast_S8192_S8192x1_0 (shapeCast Cert.Reference3Ideal.S8192 (extractStridedSlice Cert.Reference3Ideal.S8192x1 ![0, 1] p Cert.Reference3Ideal.Gen.slices_S8192x4_S8192x1_0_1) Cert.Reference3Ideal.Gen.shapeCasts_S8192x1_S8192)))))
        (mulf Y2 (broadcastInDim Cert.Reference3Ideal.S8192x4096 ![0, 1] Cert.Reference3Ideal.Gen.bcast_S8192x1_S8192x4096_0_1 (broadcastInDim Cert.Reference3Ideal.S8192x1 ![0] Cert.Reference3Ideal.Gen.bcast_S8192_S8192x1_0 (shapeCast Cert.Reference3Ideal.S8192 (extractStridedSlice Cert.Reference3Ideal.S8192x1 ![0, 2] p Cert.Reference3Ideal.Gen.slices_S8192x4_S8192x1_0_2) Cert.Reference3Ideal.Gen.shapeCasts_S8192x1_S8192)))))
        (mulf Y3 (broadcastInDim Cert.Reference3Ideal.S8192x4096 ![0, 1] Cert.Reference3Ideal.Gen.bcast_S8192x1_S8192x4096_0_1 (broadcastInDim Cert.Reference3Ideal.S8192x1 ![0] Cert.Reference3Ideal.Gen.bcast_S8192_S8192x1_0 (shapeCast Cert.Reference3Ideal.S8192 (extractStridedSlice Cert.Reference3Ideal.S8192x1 ![0, 3] p Cert.Reference3Ideal.Gen.slices_S8192x4_S8192x1_0_3) Cert.Reference3Ideal.Gen.shapeCasts_S8192x1_S8192))))) Cert.Reference3Ideal.Gen.shapeCasts_S8192x4096_S2x4096x4096
      = fun i => slot y 0 i * share p 0 i + slot y 1 i * share p 1 i + slot y 2 i * share p 2 i + slot y 3 i * share p 3 i := by
  funext i
  obtain ⟨b, r, d, rfl⟩ : ∃ (b : Fin 2) (r d : Fin 4096), i = ix3 b r d := ⟨i 0, i 1, i 2, eq_ix3 i⟩
  pointwise [share]
  rw [e0, e1, e2, e3]

open Cert.Reference3Ideal.Value in
/-- The reference's term is the same formula: it starts its sum at zero, and cuts the slots out of the reshaped rows. -/
theorem reference_result (m' : (ℓ : Loc Cert.Reference3Ideal.nD Cert.Reference3Ideal.τ Cert.Reference3Ideal.sig) → Buf (Elt Ideal) ℓ) :
    res_main_v50 m' c = result (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) := by
  have e : shapeCast Cert.Reference3Ideal.S2x4096x4096 _ _ = _ := token_sum (shapeCast _ (m' ((c.tc : Thread _ _).loc Cert.Reference3Ideal.main_arg1)) shapeCasts_S1048576x128_S4x262144x128) (m' ((c.tc : Thread _ _).loc Cert.Reference3Ideal.main_arg2)) _ _ _ _
    (cut_slot (m' ((c.tc : Thread _ _).loc Cert.Reference3Ideal.main_arg1)) 0 Cert.Reference3Ideal.Gen.shapeCasts_S1048576x128_S4x8192x4096 Cert.Reference3Ideal.Gen.slices_S4x8192x4096_S1x8192x4096_0_0_0 Cert.Reference3Ideal.Gen.shapeCasts_S1x8192x4096_S8192x4096)
    (cut_slot (m' ((c.tc : Thread _ _).loc Cert.Reference3Ideal.main_arg1)) 1 Cert.Reference3Ideal.Gen.shapeCasts_S1048576x128_S4x8192x4096 Cert.Reference3Ideal.Gen.slices_S4x8192x4096_S1x8192x4096_1_0_0 Cert.Reference3Ideal.Gen.shapeCasts_S1x8192x4096_S8192x4096)
    (cut_slot (m' ((c.tc : Thread _ _).loc Cert.Reference3Ideal.main_arg1)) 2 Cert.Reference3Ideal.Gen.shapeCasts_S1048576x128_S4x8192x4096 Cert.Reference3Ideal.Gen.slices_S4x8192x4096_S1x8192x4096_2_0_0 Cert.Reference3Ideal.Gen.shapeCasts_S1x8192x4096_S8192x4096)
    (cut_slot (m' ((c.tc : Thread _ _).loc Cert.Reference3Ideal.main_arg1)) 3 Cert.Reference3Ideal.Gen.shapeCasts_S1048576x128_S4x8192x4096 Cert.Reference3Ideal.Gen.slices_S4x8192x4096_S1x8192x4096_3_0_0 Cert.Reference3Ideal.Gen.shapeCasts_S1x8192x4096_S8192x4096)
  unfold res_main_v50 result
  generalize (fun i => slot _ 0 i * share (m' ((c.tc : Thread _ _).loc Cert.Reference3Ideal.main_arg2)) 0 i + _ + _ + _ : FVec Ideal S2x4096x4096 .f32) = U at e ⊢
  erw [e]
  funext i
  pointwise [added]

end Cert.Kernel3Ideal.Hand

end
-- ==== Proof.Input.lean ====
/-
  The mixer's input, one program of two regions: the norm with its scale and shift, and the product with the columns of the
  input matrix that the convolution and the forgetting attention take. What each region leaves in its array, as a formula of the
  arrays it reads; the formulas put together over the host's lines; and that the reference's term is that formula.
-/
module

public import proofs.«01_k».proof.Proof.Gen.Kernel4Ideal.Frame
public import Idealize.ShloMosaic.Lib.Pipeline.ValueKit
public import Idealize.ShloMosaic.Lib.Pointwise
public import proofs.«01_k».proof.Proof.Gen.Reference4Ideal.Run

@[expose] public section

set_option maxRecDepth 16384

noncomputable section

namespace Cert.Kernel4Ideal.Hand

open Cert.Kernel4Ideal Cert.Kernel4Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (V : (c : Dev nD) → (b : Ref sig .tc) → Buf (Elt Ideal) ((c : Thread nD τ).loc b)) (c : Dev nD)

/-- Which block each window of the norm's region is on: the batch and the rows; the norm's weight is one block. -/
theorem index0 : ∀ t : Fin cfg0.N, win0_0.index t = ![(grid0.coords t 0).val, (grid0.coords t 1).val, 0]
    ∧ win0_1.index t = ![0, 0] ∧ win0_2.index t = ![(grid0.coords t 0).val, 0, 0]
    ∧ win0_3.index t = ![(grid0.coords t 0).val, 0, 0] ∧ win0_4.index t = ![(grid0.coords t 0).val, (grid0.coords t 1).val, 0] :=
  (by decide +kernel : ∀ t : Fin grid0.N, win0_0.index t = ![(grid0.coords t 0).val, (grid0.coords t 1).val, 0]
    ∧ win0_1.index t = ![0, 0] ∧ win0_2.index t = ![(grid0.coords t 0).val, 0, 0]
    ∧ win0_3.index t = ![(grid0.coords t 0).val, 0, 0] ∧ win0_4.index t = ![(grid0.coords t 0).val, (grid0.coords t 1).val, 0])

/-- A row over the root of its mean square, weighted by `g`, times one plus the scale, plus the shift. -/
def normed (x : Vec Ideal S2x4096x4096 .f32) (g : Vec Ideal S1x4096 .f32) (sc sh : Vec Ideal S2x1x4096 .f32) :
    Vec Ideal S2x4096x4096 .bf16 :=
  fun i => x i
    * Ideal.rsqrt (Ideal.div (∑ k : Fin 4096, x (ix3 (i 0) (i 1) k) * x (ix3 (i 0) (i 1) k)) (Ideal.ofBits .f32 0x45800000#32)
        + Ideal.ofBits .f32 0x358637BD#32)
    * g (ix2 0 (i 2)) * (Ideal.ofBits .f32 0x3F800000#32 + sc (ix3 (i 0) 0 (i 2))) + sh (ix3 (i 0) 0 (i 2))

/-- The norm's region fills its array with that, block by block. -/
theorem array0 : (dat0 V c).arrAt 4 cfg0.N = normed (V c main_arg0) (V c main_v0) (V c main_arg2) (V c main_arg3) := by
  refine (dat0 V c).arrAt_eq_of_covers 4 _ (by decide +kernel) fun t hf y => ?_
  blk_simp
  rw [after0_4]
  frame_out
  pointwise [k0_pay1, normed]
  blk_point [iblk0, index0 t]

/-- Which block each of the product's three windows is on: the row block, the column block, and both. -/
theorem index1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, win1_0.index t = ![(grid1.coords t 0).val, 0] ∧ win1_1.index t = ![0, (grid1.coords t 1).val]
    ∧ win1_2.index t = ![(grid1.coords t 0).val, (grid1.coords t 1).val])

/-- The matrix product of the normed rows and the matrix's columns. -/
def product (a : Vec Ideal S8192x4096 .bf16) (w : Vec Ideal S4096x6144 .bf16) : Vec Ideal S8192x6144 .bf16 :=
  fun i => ∑ k : Fin 4096, a (ix2 (i 0) k) * w (ix2 k (i 1))

/-- The product's region fills its array with it, block by block. -/
theorem array1 : (dat1 V c).arrAt 2 cfg1.N = product (V c main_v2) (V c main_v6) := by
  refine (dat1 V c).arrAt_eq_of_covers 2 _ (by decide +kernel) fun t hf y => ?_
  blk_simp
  rw [after1_2]
  frame_out
  pointwise [k1_pay1, product]
  blk_point [iblk1, index1 t]

variable (m : (ℓ : Loc nD τ sig) → Buf (Elt Ideal) ℓ) (ρ : Dev nD → PrngReg)

/-- The columns of the input matrix that the product takes: the convolution's and the forgetting attention's. -/
def columns (w : FVec Ideal S4096x7496 .f32) : FVec Ideal S4096x6144 .bf16 :=
  truncf (F := Ideal) .bf16 (concatenate S4096x6144 1
    [⟨S4096x3072, extractStridedSlice S4096x3072 ![0, 0] w slices_S4096x7496_S4096x3072_0_0⟩,
     ⟨S4096x3072, extractStridedSlice S4096x3072 ![0, 4416] w slices_S4096x7496_S4096x3072_0_4416⟩]
    concatenates_S4096x3072_S4096x3072_S4096x6144_d1) bitsLt_bf16_f32

/-- What the two regions leave in the result, from the arguments. -/
def result (x : FVec Ideal S2x4096x4096 .f32) (g : FVec Ideal S4096 .f32) (sc sh : FVec Ideal S2x1x4096 .f32)
    (w : FVec Ideal S4096x7496 .f32) : FVec Ideal S8192x6144 .f32 :=
  extf (F := Ideal) .f32 (product (shapeCast _ (normed x (shapeCast _ g shapeCasts_S4096_S1x4096) sc sh) shapeCasts_S2x4096x4096_S8192x4096)
    (columns w)) bitsLt_bf16_f32

/-- So the result's buffer holds it at the end. -/
theorem W5_result : W5 m ρ c (Proc.devRef .tc main_v8) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e8 : W5 m ρ c (Proc.devRef .tc main_v8) = extf (F := Ideal) .f32 (W4 m ρ c (Proc.devRef .tc main_v7)) bitsLt_bf16_f32 := by
    unfold W5; after_results <;> rfl
  have e7 : W4 m ρ c (Proc.devRef .tc main_v7) = _ := (W4_arr m ρ c 2).trans (array1 (V3 m ρ) c)
  have e1 : W2 m ρ c (Proc.devRef .tc main_v1) = _ := (W2_arr m ρ c 4).trans (array0 (V1 m ρ) c)
  have e2 : V3 m ρ c main_v2 = shapeCast S8192x4096 (W2 m ρ c (Proc.devRef .tc main_v1)) shapeCasts_S2x4096x4096_S8192x4096 := by
    unfold V3 W3; after_results <;> rfl
  have e6 : V3 m ρ c main_v6 = columns (W2 m ρ c (Proc.devRef .tc main_arg4)) := by
    unfold V3 W3; after_results <;> rfl
  have e0 : V1 m ρ c main_v0 = shapeCast S1x4096 (m ((c.tc : Thread nD τ).loc main_arg1)) shapeCasts_S4096_S1x4096 := by
    unfold V1 W1; after_results <;> rfl
  have a4 : W2 m ρ c (Proc.devRef .tc main_arg4) = _ := W2_args m ρ c main_arg4 (by decide)
  rw [e8, e7, e2, e6, e1, a4, e0,
    show V1 m ρ c main_arg0 = m ((c.tc : Thread nD τ).loc main_arg0) from W1_args m ρ c main_arg0 (by decide),
    show V1 m ρ c main_arg2 = m ((c.tc : Thread nD τ).loc main_arg2) from W1_args m ρ c main_arg2 (by decide),
    show V1 m ρ c main_arg3 = m ((c.tc : Thread nD τ).loc main_arg3) from W1_args m ρ c main_arg3 (by decide)]
  rfl

-- the launch's implicit arguments are found by unfolding definitions inside types
set_option backward.isDefEq.respectTransparency.types false in
/-- The run of the two regions: the result holds `result` of the arguments, and the arguments are as they were. -/
theorem run_result : θ_run (defs (F := Ideal)) (onTc (τ := τ) (main (F := Ideal))) ⟨m, fun _ => 0, ρ⟩ (fun r => ∀ c : Dev nD,
      r.2.mem ((c.tc : Thread nD τ).loc main_v8) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨(h c _ (mem_uc main_v8 (by decide))).trans (W5_result c m ρ),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c)⟩)

end Cert.Kernel4Ideal.Hand

namespace Cert.Reference4Ideal.Hand

open Cert.Reference4Ideal Cert.Reference4Ideal.Gen Idealize.ShloMosaic Idealize.ShloMosaic.TcCoe

/-- The reference's normed, scaled and shifted rows. -/
def rows (x : FVec Ideal S2x4096x4096 .f32) (g : FVec Ideal S4096 .f32) (sc sh : FVec Ideal S2x1x4096 .f32) : FVec Ideal S2x4096x4096 .f32 :=
  addf (mulf (mulf (mulf x (broadcastInDim S2x4096x4096 ![0, 1, 2] bcast_S2x4096x1_S2x4096x4096_0_1_2 (Host.rsqrt (addf (Host.divf
      (broadcastInDim S2x4096x1 ![0, 1] bcast_S2x4096_S2x4096x1_0_1 (Host.reduceAdd (mulf x x) (constant S_ .f32 0x00000000#32) reducesTo_S2x4096x4096_S2x4096_d2 h_S_))
      (broadcastInDim S2x4096x1 ![] bcast_S_S2x4096x1 (constant S_ .f32 0x45800000#32))) (broadcastInDim S2x4096x1 ![] bcast_S_S2x4096x1 (constant S_ .f32 0x358637BD#32))))))
      (broadcastInDim S2x4096x4096 ![0, 1, 2] bcast_S1x1x4096_S2x4096x4096_0_1_2 (broadcastInDim S1x1x4096 ![2] bcast_S4096_S1x1x4096_2 g)))
      (broadcastInDim S2x4096x4096 ![0, 1, 2] bcast_S2x1x4096_S2x4096x4096_0_1_2 (addf (broadcastInDim S2x1x4096 ![] bcast_S_S2x1x4096 (constant S_ .f32 0x3F800000#32)) sc)))
    (broadcastInDim S2x4096x4096 ![0, 1, 2] bcast_S2x1x4096_S2x4096x4096_0_1_2 sh)

/-- The reference's product with the whole input matrix. -/
def mixed (x : FVec Ideal S2x4096x4096 .f32) (g : FVec Ideal S4096 .f32) (sc sh : FVec Ideal S2x1x4096 .f32) (w : FVec Ideal S4096x7496 .f32) :
    FVec Ideal S2x4096x7496 .f32 :=
  Host.dotGeneral dot_S2x4096x4096_S4096x7496_S2x4096x7496_2_0_01_1_n_n none (rows x g sc sh) w

/-- The reference's result: the convolution's and the forgetting attention's columns of the product, row by row. -/
def cut (x : FVec Ideal S2x4096x4096 .f32) (g : FVec Ideal S4096 .f32) (sc sh : FVec Ideal S2x1x4096 .f32) (w : FVec Ideal S4096x7496 .f32) :
    FVec Ideal S8192x6144 .f32 :=
  shapeCast _ (concatenate S2x4096x6144 2
    [⟨S2x4096x3072, extractStridedSlice S2x4096x3072 ![0, 0, 0] (mixed x g sc sh w) slices_S2x4096x7496_S2x4096x3072_0_0_0⟩,
     ⟨S2x4096x3072, extractStridedSlice S2x4096x3072 ![0, 0, 4416] (mixed x g sc sh w) slices_S2x4096x7496_S2x4096x3072_0_0_4416⟩]
    concatenates_S2x4096x3072_S2x4096x3072_S2x4096x6144_d2) shapeCasts_S2x4096x6144_S8192x6144

open Cert.Kernel4Ideal.Hand in
/-- The columns may be taken before the product or after it. -/
theorem cut_eq (x : FVec Ideal S2x4096x4096 .f32) (g : FVec Ideal S4096 .f32) (sc sh : FVec Ideal S2x1x4096 .f32) (w : FVec Ideal S4096x7496 .f32) :
    cut x g sc sh w = result x g sc sh w := by
  funext i
  pointwise [cut, mixed, rows, result, normed, product, columns]
  split <;> rfl

end Cert.Reference4Ideal.Hand

namespace Cert.Kernel4Ideal.Hand

open Idealize.ShloMosaic Idealize.ShloMosaic.TcCoe

/-- So the reference's term is the program's result. -/
theorem reference_result (c : Dev Cert.Reference4Ideal.nD) (m' : (ℓ : Loc Cert.Reference4Ideal.nD Cert.Reference4Ideal.τ Cert.Reference4Ideal.sig) → Buf (Elt Ideal) ℓ) :
    Cert.Reference4Ideal.Hand.cut (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) (m' ((c.tc : Thread _ _).loc Cert.Reference4Ideal.main_arg4)) = result (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) (m' ((c.tc : Thread _ _).loc Cert.Reference4Ideal.main_arg4)) :=
  Cert.Reference4Ideal.Hand.cut_eq _ _ _ _ _

end Cert.Kernel4Ideal.Hand

end
-- ==== Proof.Experts.lean ====
/-
The body of the experts' call, at any float values: what it stores where a block is used and where it is not.
A used block's 8192 rows of 128 lanes are 256 rows of 4096 words, loaded and stored in 32 lane groups.
-/
module

public import proofs.«01_k».proof.Proof.Gen.Kernel5Ideal.Launch
public import proofs.«01_k».proof.Proof.Gen.Kernel5Ideal.Skeleton
public import Idealize.ShloMosaic.Lib.Exec
public import Idealize.ShloMosaic.Lib.Pipeline.Frame
public import Idealize.ShloMosaic.Lib.Pipeline.FrameBody
public import Idealize.ShloMosaic.Lib.Claim
public import Idealize.ShloMosaic.Lib.Pipeline.ValueKit
public import Idealize.ShloMosaic.Lib.Pointwise
public import Idealize.ShloMosaic.Lib.WholeRead
public import Idealize.ShloMosaic.Lib.ValueLayout

@[expose] public section

set_option maxRecDepth 16384

noncomputable section

namespace Cert.Kernel5Ideal.Hand

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of one of the tables. -/
abbrev Held (c : Dev nD) {S : Shape} {e : EltTy} (M : Memref sig .tc .smem S e) : Type := Buf (Elt F) (M.view.loc (c : Thread nD τ))
/-- The half of a table that the body holds. -/
abbrev half (c : Dev nD) {S : Shape} {e : EltTy} (M : Memref sig .tc .smem S e) (f : Held (F := F) c M) : sProp 𝕄 :=
  M.view.loc (c : Thread nD τ) ↦{fullShare.right} f
/-- The table of the blocks' experts. -/
abbrev expertOf : Memref sig .tc .smem S160 .i32 := Memref.whole main_arg1
/-- The table of the number of used blocks, of one word. -/
abbrev countOf : Memref sig .tc .smem S1 .i32 := Memref.whole main_arg2

/-- The number of used blocks, as the body reads it from the table. -/
noncomputable def count (c : Dev nD) (xt1 : Held (F := F) c countOf) : Elt F .i32 :=
  View.readAt (Elt F) countOf.view (Rect.unit (s := S1) ![0] ![1] inb_S1_S1_0).toLoadRect xt1 (Shape.Idx.first (by decide))

set_option maxHeartbeats 4000000 in
/-- The run of the body at a used block, with the pieces it stores. -/
noncomputable def used (c : Dev nD) (i : grid0.Coords) (h1 : expertOf.IsWhole) (h2 : countOf.IsWhole) (arg3 : Memref sig .tc .vmem S8192x128 .f32) (harg3 : arg3.IsWhole) (arg4 : Memref sig .tc .vmem S1x4096x1024 .bf16) (harg4 : arg4.IsWhole) (arg5 : Memref sig .tc .vmem S1x1x1024 .f32) (harg5 : arg5.IsWhole) (arg6 : Memref sig .tc .vmem S1x512x4096 .bf16) (harg6 : arg6.IsWhole) (arg7 : Memref sig .tc .vmem S1x1x4096 .f32) (harg7 : arg7.IsWhole) (arg8 : Memref sig .tc .vmem S8192x128 .f32) (harg8 : arg8.IsWhole)
    (x0 : Vec F S8192x128 .f32) (x1 : Vec F S1x4096x1024 .bf16) (x2 : Vec F S1x1x1024 .f32) (x3 : Vec F S1x512x4096 .bf16) (x4 : Vec F S1x1x4096 .f32) (xt0 : Held (F := F) c expertOf) (xt1 : Held (F := F) c countOf)
    (hu : k0_cond1 i (count c xt1) = 1#1) (hz : ¬ k0_cond2 i (count c xt1) = 1#1) :
    { L : List (View.Piece (Elt F) S8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ half c expertOf xt0 ∗ half c countOf xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L) ∗ half c expertOf xt0 ∗ half c countOf xt1) -∗ K ⟨⟩))
          ⊢ wp frame (wpE (defs₀ (F := F)) Variants.none c none) E (cc0_experts i expertOf h1 countOf h2 arg3 harg3 arg4 harg4 arg5 harg5 arg6 harg6 arg7 harg7 arg8 harg8) K } := by
  refine ⟨?_, fun E K => ?run⟩
  case run =>
    simp only [cc0_experts_eq_skeleton]; unfold cc0_experts_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists f5; iexact H5
    isplitl [HT0]; · iexact HT0
    iexact HT1

set_option maxHeartbeats 4000000 in
/-- The run of the body at an unused block, with what it stores. -/
noncomputable def unused (c : Dev nD) (i : grid0.Coords) (h1 : expertOf.IsWhole) (h2 : countOf.IsWhole) (arg3 : Memref sig .tc .vmem S8192x128 .f32) (harg3 : arg3.IsWhole) (arg4 : Memref sig .tc .vmem S1x4096x1024 .bf16) (harg4 : arg4.IsWhole) (arg5 : Memref sig .tc .vmem S1x1x1024 .f32) (harg5 : arg5.IsWhole) (arg6 : Memref sig .tc .vmem S1x512x4096 .bf16) (harg6 : arg6.IsWhole) (arg7 : Memref sig .tc .vmem S1x1x4096 .f32) (harg7 : arg7.IsWhole) (arg8 : Memref sig .tc .vmem S8192x128 .f32) (harg8 : arg8.IsWhole)
    (x0 : Vec F S8192x128 .f32) (x1 : Vec F S1x4096x1024 .bf16) (x2 : Vec F S1x1x1024 .f32) (x3 : Vec F S1x512x4096 .bf16) (x4 : Vec F S1x1x4096 .f32) (xt0 : Held (F := F) c expertOf) (xt1 : Held (F := F) c countOf)
    (hu : ¬ k0_cond1 i (count c xt1) = 1#1) (hz : k0_cond2 i (count c xt1) = 1#1) :
    { L : List (View.Piece (Elt F) S8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ half c expertOf xt0 ∗ half c countOf xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L) ∗ half c expertOf xt0 ∗ half c countOf xt1) -∗ K ⟨⟩))
          ⊢ wp frame (wpE (defs₀ (F := F)) Variants.none c none) E (cc0_experts i expertOf h1 countOf h2 arg3 harg3 arg4 harg4 arg5 harg5 arg6 harg6 arg7 harg7 arg8 harg8) K } := by
  refine ⟨?_, fun E K => ?run⟩
  case run =>
    simp only [cc0_experts_eq_skeleton]; unfold cc0_experts_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists f5; iexact H5
    isplitl [HT0]; · iexact HT0
    iexact HT1

/-- Lane group `s` of a block of rows: of each row, the 128 words that start at word 128 `s`. -/
def group (x : Vec F S8192x128 .f32) (s : ℕ) : Vec F S256x128 .f32 := fun q =>
  x (ix2 ⟨(s + 32 * (q 0).val) % 8192, Nat.mod_lt _ (by decide)⟩ ⟨(q 1).val, (q 1).isLt⟩)

/-- A load of 256 rows, 32 rows of lanes apart, is a lane group of the buffer's words. -/
theorem load_raw (M : Memref sig .tc .vmem S8192x128 .f32) (hM : M.IsWhole) (x : Vec F S8192x128 .f32) (s : ℕ)
    (inb : ∀ a : Fin 2, (![256, 128] : Fin 2 → ℕ) a = 0 ∨ (![s, 0] : Fin 2 → ℕ) a + (![32, 1] : Fin 2 → ℕ) a * ((![256, 128] : Fin 2 → ℕ) a - 1) < S8192x128.size a) :
    View.readAt (Elt F) M.view (⟨![s, 0], ![256, 128], ![32, 1], inb⟩ : LoadRect S8192x128) (hM.unread x) = group x s := by
  funext q
  refine (Memref.IsWhole.readAt_unread (Val := Elt F) hM x _ _).trans (congrArg x ?_)
  have h0 := (inb 0).resolve_left (by decide)
  simp at h0
  funext a
  have := (q 0).isLt
  simp at this
  fin_cases a
  · refine Fin.ext ?_; show s + 32 * (q 0).val = (s + 32 * (q 0).val) % 8192; omega
  · refine Fin.ext ?_; show 0 + 1 * (q 1).val = (q 1).val; omega

/-- The same load, cast to the shape it has. -/
theorem load_group (M : Memref sig .tc .vmem S8192x128 .f32) (hM : M.IsWhole) (x : Vec F S8192x128 .f32) (s : ℕ)
    (inb : ∀ a : Fin 2, (![256, 128] : Fin 2 → ℕ) a = 0 ∨ (![s, 0] : Fin 2 → ℕ) a + (![32, 1] : Fin 2 → ℕ) a * ((![256, 128] : Fin 2 → ℕ) a - 1) < S8192x128.size a) :
    shapeCast S256x128 (View.readAt (Elt F) M.view (⟨![s, 0], ![256, 128], ![32, 1], inb⟩ : LoadRect S8192x128) (hM.unread x)) shapeCasts_S256x128_S256x128
      = group x s :=
  (shapeCast_self _ _).trans (load_raw M hM x s inb)

/-- A block's outputs: the rows' products with the two matrices and the clamped gating between. -/
def product (x0 : Vec F S8192x128 .f32) (x1 : Vec F S1x4096x1024 .bf16) (x2 : Vec F S1x1x1024 .f32) (x3 : Vec F S1x512x4096 .bf16) (x4 : Vec F S1x1x4096 .f32) : FVec F S256x4096 .f32 :=
  k0_pay39 (group x0 0) (group x0 1) (group x0 2) (group x0 3) (group x0 4) (group x0 5) (group x0 6) (group x0 7) (group x0 8) (group x0 9) (group x0 10) (group x0 11) (group x0 12) (group x0 13) (group x0 14) (group x0 15) (group x0 16) (group x0 17) (group x0 18) (group x0 19) (group x0 20) (group x0 21) (group x0 22) (group x0 23) (group x0 24) (group x0 25) (group x0 26) (group x0 27) (group x0 28) (group x0 29) (group x0 30) (group x0 31) x1 x2 x3 x4

/-- The words of lane group `s`. -/
def cut (Y : FVec F S256x4096 .f32) (s : Fin 32) : FVec F S256x128 .f32 := fun q =>
  Y (ix2 ⟨(q 0).val, (q 0).isLt⟩ ⟨s.val * 128 + (q 1).val, by have := (q 1).isLt; have := s.isLt; simp at *; omega⟩)

/-- The strided rectangle of lane group `s`, and the words stored through it. -/
def piece (Y : FVec F S256x4096 .f32) (s : Fin 32) : View.Piece (Elt F) S8192x128 .f32 :=
  ⟨{ off := ![s.val, 0], size := ![256, 128], stride := ![32, 1], inb := by revert s; decide, stride_pos := spos_32_1 }, cut Y s⟩

/-- Rows written lane group by lane group. -/
def spread (Y : FVec F S256x4096 .f32) : Vec F S8192x128 .f32 := fun y =>
  Y (ix2 ⟨(y 0).val / 32, by have := (y 0).isLt; simp at this; omega⟩ ⟨(y 0).val % 32 * 128 + (y 1).val, by have := (y 1).isLt; simp at this; omega⟩)

/-- A slice of 128 columns is that lane group's words. -/
theorem cut_eq (Y : FVec F S256x4096 .f32) (s : Fin 32) (h : S256x4096.Slices ![0, s.val * 128] S256x128) :
    extractStridedSlice S256x128 ![0, s.val * 128] Y h = cut Y s := by
  funext q
  refine extractStridedSlice_apply _ _ _ _ _ fun a => ?_
  fin_cases a
  · show (q 0).val = 0 + (q 0).val; omega
  · rfl

/-- Each lane group's piece writes the words that the rows have there. -/
theorem piece_agrees (Y : FVec F S256x4096 .f32) (s : Fin 32) (x : (piece Y s).1.shape.Idx) :
    (piece Y s).2 x = spread Y ((piece Y s).1.emb x) := by
  obtain ⟨q, rfl⟩ : ∃ q : S256x128.Idx, q = x := ⟨x, rfl⟩
  have h0 := (q 0).isLt
  have h1 := (q 1).isLt
  have hs := s.isLt
  simp at h0 h1
  refine congrArg Y (congrArg₂ ix2 (Fin.ext ?_) (Fin.ext ?_))
  · show (q 0).val = (s.val + 32 * (q 0).val) / 32; omega
  · show s.val * 128 + (q 1).val = (s.val + 32 * (q 0).val) % 32 * 128 + (0 + 1 * (q 1).val); omega

/-- Every row of lanes lies in one of the pieces. -/
theorem piece_covers (Y : FVec F S256x4096 .f32) (y : S8192x128.Idx) :
    y ∈ (piece Y ⟨(y 0).val % 32, Nat.mod_lt _ (by decide)⟩).1.set := by
  have h0 := (y 0).isLt
  have h1 := (y 1).isLt
  simp at h0 h1
  refine (piece Y ⟨(y 0).val % 32, Nat.mod_lt _ (by decide)⟩).1.mem_set.mpr fun a => ?_
  fin_cases a
  · refine ⟨(y 0).val / 32, ?_, ?_⟩
    · show (y 0).val / 32 < 256; omega
    · show (y 0).val = (y 0).val % 32 + 32 * ((y 0).val / 32); omega
  · refine ⟨(y 1).val, ?_, ?_⟩
    · show (y 1).val < 128; omega
    · show (y 1).val = 0 + 1 * (y 1).val; omega

/-- A load of a whole buffer is what it reads as. -/
theorem load_all {S : Shape} {e : EltTy} (M : Memref sig .tc .vmem S e) (hM : M.IsWhole) (x : Vec F S e) {off : Fin S.rank → ℕ} (h : ∀ a, off a = 0)
    (inb : ∀ a, off a + S.size a ≤ S.size a) :
    View.readAt (Elt F) M.view (Rect.unit (s := S) off S.size inb).toLoadRect (hM.unread x) = x := by
  rw [View.readAt_eq_ld, hM.read_unread, View.ld_unit_lit inb x h]

/-- The computed rows of the run are the block's outputs. -/
theorem rows_eq (c : Dev nD) (arg3 : Memref sig .tc .vmem S8192x128 .f32) (harg3 : arg3.IsWhole) (arg4 : Memref sig .tc .vmem S1x4096x1024 .bf16) (harg4 : arg4.IsWhole) (arg5 : Memref sig .tc .vmem S1x1x1024 .f32) (harg5 : arg5.IsWhole) (arg6 : Memref sig .tc .vmem S1x512x4096 .bf16) (harg6 : arg6.IsWhole) (arg7 : Memref sig .tc .vmem S1x1x4096 .f32) (harg7 : arg7.IsWhole)
    (x0 : Vec F S8192x128 .f32) (x1 : Vec F S1x4096x1024 .bf16) (x2 : Vec F S1x1x1024 .f32) (x3 : Vec F S1x512x4096 .bf16) (x4 : Vec F S1x1x4096 .f32) :
    used.sl.r_31 c arg3 harg3 arg4 harg4 arg5 harg5 arg6 harg6 arg7 harg7 x0 x1 x2 x3 x4 = product x0 x1 x2 x3 x4 := by
  unfold product used.sl.r_31
  have e0 : used.sl.r_1 c arg3 harg3 x0 = group x0 0 := load_group arg3 harg3 x0 0 inb_S8192x128_S256x128_0_0_s_32_1
  have e1 : used.sl.r_2 c arg3 harg3 x0 = group x0 1 := load_group arg3 harg3 x0 1 inb_S8192x128_S256x128_1_0_s_32_1
  have e2 : used.sl.r_3 c arg3 harg3 x0 = group x0 2 := load_group arg3 harg3 x0 2 inb_S8192x128_S256x128_2_0_s_32_1
  have e3 : used.sl.r_4 c arg3 harg3 x0 = group x0 3 := load_group arg3 harg3 x0 3 inb_S8192x128_S256x128_3_0_s_32_1
  have e4 : used.sl.r_5 c arg3 harg3 x0 = group x0 4 := load_group arg3 harg3 x0 4 inb_S8192x128_S256x128_4_0_s_32_1
  have e5 : used.sl.r_6 c arg3 harg3 x0 = group x0 5 := load_group arg3 harg3 x0 5 inb_S8192x128_S256x128_5_0_s_32_1
  have e6 : used.sl.r_7 c arg3 harg3 x0 = group x0 6 := load_group arg3 harg3 x0 6 inb_S8192x128_S256x128_6_0_s_32_1
  have e7 : used.sl.r_8 c arg3 harg3 x0 = group x0 7 := load_group arg3 harg3 x0 7 inb_S8192x128_S256x128_7_0_s_32_1
  have e8 : used.sl.r_9 c arg3 harg3 x0 = group x0 8 := load_group arg3 harg3 x0 8 inb_S8192x128_S256x128_8_0_s_32_1
  have e9 : used.sl.r_10 c arg3 harg3 x0 = group x0 9 := load_group arg3 harg3 x0 9 inb_S8192x128_S256x128_9_0_s_32_1
  have e10 : used.sl.r_11 c arg3 harg3 x0 = group x0 10 := load_group arg3 harg3 x0 10 inb_S8192x128_S256x128_10_0_s_32_1
  have e11 : used.sl.r_12 c arg3 harg3 x0 = group x0 11 := load_group arg3 harg3 x0 11 inb_S8192x128_S256x128_11_0_s_32_1
  have e12 : used.sl.r_13 c arg3 harg3 x0 = group x0 12 := load_group arg3 harg3 x0 12 inb_S8192x128_S256x128_12_0_s_32_1
  have e13 : used.sl.r_14 c arg3 harg3 x0 = group x0 13 := load_group arg3 harg3 x0 13 inb_S8192x128_S256x128_13_0_s_32_1
  have e14 : used.sl.r_15 c arg3 harg3 x0 = group x0 14 := load_group arg3 harg3 x0 14 inb_S8192x128_S256x128_14_0_s_32_1
  have e15 : used.sl.r_16 c arg3 harg3 x0 = group x0 15 := load_group arg3 harg3 x0 15 inb_S8192x128_S256x128_15_0_s_32_1
  have e16 : used.sl.r_17 c arg3 harg3 x0 = group x0 16 := load_group arg3 harg3 x0 16 inb_S8192x128_S256x128_16_0_s_32_1
  have e17 : used.sl.r_18 c arg3 harg3 x0 = group x0 17 := load_group arg3 harg3 x0 17 inb_S8192x128_S256x128_17_0_s_32_1
  have e18 : used.sl.r_19 c arg3 harg3 x0 = group x0 18 := load_group arg3 harg3 x0 18 inb_S8192x128_S256x128_18_0_s_32_1
  have e19 : used.sl.r_20 c arg3 harg3 x0 = group x0 19 := load_group arg3 harg3 x0 19 inb_S8192x128_S256x128_19_0_s_32_1
  have e20 : used.sl.r_21 c arg3 harg3 x0 = group x0 20 := load_group arg3 harg3 x0 20 inb_S8192x128_S256x128_20_0_s_32_1
  have e21 : used.sl.r_22 c arg3 harg3 x0 = group x0 21 := load_group arg3 harg3 x0 21 inb_S8192x128_S256x128_21_0_s_32_1
  have e22 : used.sl.r_23 c arg3 harg3 x0 = group x0 22 := load_group arg3 harg3 x0 22 inb_S8192x128_S256x128_22_0_s_32_1
  have e23 : used.sl.r_24 c arg3 harg3 x0 = group x0 23 := load_group arg3 harg3 x0 23 inb_S8192x128_S256x128_23_0_s_32_1
  have e24 : used.sl.r_25 c arg3 harg3 x0 = group x0 24 := load_group arg3 harg3 x0 24 inb_S8192x128_S256x128_24_0_s_32_1
  have e25 : used.sl.r_26 c arg3 harg3 x0 = group x0 25 := load_group arg3 harg3 x0 25 inb_S8192x128_S256x128_25_0_s_32_1
  have e26 : used.sl.r_27 c arg3 harg3 x0 = group x0 26 := load_group arg3 harg3 x0 26 inb_S8192x128_S256x128_26_0_s_32_1
  have e27 : used.sl.r_28 c arg3 harg3 x0 = group x0 27 := load_group arg3 harg3 x0 27 inb_S8192x128_S256x128_27_0_s_32_1
  have e28 : used.sl.r_29 c arg3 harg3 x0 = group x0 28 := load_group arg3 harg3 x0 28 inb_S8192x128_S256x128_28_0_s_32_1
  have e29 : used.sl.r_30 c arg3 harg3 x0 = group x0 29 := load_group arg3 harg3 x0 29 inb_S8192x128_S256x128_29_0_s_32_1
  rw [e0, e1, e2, e3, e4, e5, e6, e7, e8, e9, e10, e11, e12, e13, e14, e15, e16, e17, e18, e19, e20, e21, e22, e23, e24, e25, e26, e27, e28, e29]
  rw [load_all arg4 harg4 x1 (by decide), load_all arg5 harg5 x2 (by decide), load_all arg6 harg6 x3 (by decide), load_all arg7 harg7 x4 (by decide)]
  exact congrArg₂ (fun a b => k0_pay39 (group x0 0) (group x0 1) (group x0 2) (group x0 3) (group x0 4) (group x0 5) (group x0 6) (group x0 7) (group x0 8) (group x0 9) (group x0 10) (group x0 11) (group x0 12) (group x0 13) (group x0 14) (group x0 15) (group x0 16) (group x0 17) (group x0 18) (group x0 19) (group x0 20) (group x0 21) (group x0 22) (group x0 23) (group x0 24) (group x0 25) (group x0 26) (group x0 27) (group x0 28) (group x0 29) a b x1 x2 x3 x4) (load_raw arg3 harg3 x0 30 inb_S8192x128_S256x128_30_0_s_32_1) (load_raw arg3 harg3 x0 31 inb_S8192x128_S256x128_31_0_s_32_1)

/-- The pieces of the run are the lane groups of the outputs, the last one first. -/
theorem used_pieces (c : Dev nD) (i : grid0.Coords) (h1 : expertOf.IsWhole) (h2 : countOf.IsWhole) (arg3 : Memref sig .tc .vmem S8192x128 .f32) (harg3 : arg3.IsWhole) (arg4 : Memref sig .tc .vmem S1x4096x1024 .bf16) (harg4 : arg4.IsWhole) (arg5 : Memref sig .tc .vmem S1x1x1024 .f32) (harg5 : arg5.IsWhole) (arg6 : Memref sig .tc .vmem S1x512x4096 .bf16) (harg6 : arg6.IsWhole) (arg7 : Memref sig .tc .vmem S1x1x4096 .f32) (harg7 : arg7.IsWhole) (arg8 : Memref sig .tc .vmem S8192x128 .f32) (harg8 : arg8.IsWhole)
    (x0 : Vec F S8192x128 .f32) (x1 : Vec F S1x4096x1024 .bf16) (x2 : Vec F S1x1x1024 .f32) (x3 : Vec F S1x512x4096 .bf16) (x4 : Vec F S1x1x4096 .f32) (xt0 : Held (F := F) c expertOf) (xt1 : Held (F := F) c countOf) (hu : k0_cond1 i (count c xt1) = 1#1) (hz : ¬ k0_cond2 i (count c xt1) = 1#1) :
    (used c i h1 h2 arg3 harg3 arg4 harg4 arg5 harg5 arg6 harg6 arg7 harg7 arg8 harg8 x0 x1 x2 x3 x4 xt0 xt1 hu hz).1 = (List.ofFn fun s : Fin 32 => piece (product x0 x1 x2 x3 x4) s.rev) := by
  have hr := rows_eq c arg3 harg3 arg4 harg4 arg5 harg5 arg6 harg6 arg7 harg7 x0 x1 x2 x3 x4
  have w0 : used.sl.r_32 c arg3 harg3 arg4 harg4 arg5 harg5 arg6 harg6 arg7 harg7 x0 x1 x2 x3 x4 = cut (product x0 x1 x2 x3 x4) 0 := by
    rw [← hr]; exact cut_eq (used.sl.r_31 c arg3 harg3 arg4 harg4 arg5 harg5 arg6 harg6 arg7 harg7 x0 x1 x2 x3 x4) 0 slices_S256x4096_o0_0_S256x128
  have w12 : used.sl.r_33 c arg3 harg3 arg4 harg4 arg5 harg5 arg6 harg6 arg7 harg7 x0 x1 x2 x3 x4 = cut (product x0 x1 x2 x3 x4) 12 := by
    rw [← hr]; exact cut_eq (used.sl.r_31 c arg3 harg3 arg4 harg4 arg5 harg5 arg6 harg6 arg7 harg7 x0 x1 x2 x3 x4) 12 slices_S256x4096_o0_1536_S256x128
  have w24 : used.sl.r_34 c arg3 harg3 arg4 harg4 arg5 harg5 arg6 harg6 arg7 harg7 x0 x1 x2 x3 x4 = cut (product x0 x1 x2 x3 x4) 24 := by
    rw [← hr]; exact cut_eq (used.sl.r_31 c arg3 harg3 arg4 harg4 arg5 harg5 arg6 harg6 arg7 harg7 x0 x1 x2 x3 x4) 24 slices_S256x4096_o0_3072_S256x128
  unfold used
  dsimp only
  rw [w0, w12, w24, hr]
  generalize product x0 x1 x2 x3 x4 = Y
  have c1 : k0_pay41 Y = cut Y 1 := cut_eq Y 1 slices_S256x4096_o0_128_S256x128
  have c2 : k0_pay42 Y = cut Y 2 := cut_eq Y 2 slices_S256x4096_o0_256_S256x128
  have c3 : k0_pay43 Y = cut Y 3 := cut_eq Y 3 slices_S256x4096_o0_384_S256x128
  have c4 : k0_pay44 Y = cut Y 4 := cut_eq Y 4 slices_S256x4096_o0_512_S256x128
  have c5 : k0_pay45 Y = cut Y 5 := cut_eq Y 5 slices_S256x4096_o0_640_S256x128
  have c6 : k0_pay46 Y = cut Y 6 := cut_eq Y 6 slices_S256x4096_o0_768_S256x128
  have c7 : k0_pay47 Y = cut Y 7 := cut_eq Y 7 slices_S256x4096_o0_896_S256x128
  have c8 : k0_pay48 Y = cut Y 8 := cut_eq Y 8 slices_S256x4096_o0_1024_S256x128
  have c9 : k0_pay49 Y = cut Y 9 := cut_eq Y 9 slices_S256x4096_o0_1152_S256x128
  have c10 : k0_pay50 Y = cut Y 10 := cut_eq Y 10 slices_S256x4096_o0_1280_S256x128
  have c11 : k0_pay51 Y = cut Y 11 := cut_eq Y 11 slices_S256x4096_o0_1408_S256x128
  have c13 : k0_pay53 Y = cut Y 13 := cut_eq Y 13 slices_S256x4096_o0_1664_S256x128
  have c14 : k0_pay54 Y = cut Y 14 := cut_eq Y 14 slices_S256x4096_o0_1792_S256x128
  have c15 : k0_pay55 Y = cut Y 15 := cut_eq Y 15 slices_S256x4096_o0_1920_S256x128
  have c16 : k0_pay56 Y = cut Y 16 := cut_eq Y 16 slices_S256x4096_o0_2048_S256x128
  have c17 : k0_pay57 Y = cut Y 17 := cut_eq Y 17 slices_S256x4096_o0_2176_S256x128
  have c18 : k0_pay58 Y = cut Y 18 := cut_eq Y 18 slices_S256x4096_o0_2304_S256x128
  have c19 : k0_pay59 Y = cut Y 19 := cut_eq Y 19 slices_S256x4096_o0_2432_S256x128
  have c20 : k0_pay60 Y = cut Y 20 := cut_eq Y 20 slices_S256x4096_o0_2560_S256x128
  have c21 : k0_pay61 Y = cut Y 21 := cut_eq Y 21 slices_S256x4096_o0_2688_S256x128
  have c22 : k0_pay62 Y = cut Y 22 := cut_eq Y 22 slices_S256x4096_o0_2816_S256x128
  have c23 : k0_pay63 Y = cut Y 23 := cut_eq Y 23 slices_S256x4096_o0_2944_S256x128
  have c25 : k0_pay1 Y = cut Y 25 := cut_eq Y 25 slices_S256x4096_o0_3200_S256x128
  have c26 : k0_pay2 Y = cut Y 26 := cut_eq Y 26 slices_S256x4096_o0_3328_S256x128
  have c27 : k0_pay3 Y = cut Y 27 := cut_eq Y 27 slices_S256x4096_o0_3456_S256x128
  have c28 : k0_pay4 Y = cut Y 28 := cut_eq Y 28 slices_S256x4096_o0_3584_S256x128
  have c29 : k0_pay5 Y = cut Y 29 := cut_eq Y 29 slices_S256x4096_o0_3712_S256x128
  have c30 : k0_pay6 Y = cut Y 30 := cut_eq Y 30 slices_S256x4096_o0_3840_S256x128
  have c31 : k0_pay7 Y = cut Y 31 := cut_eq Y 31 slices_S256x4096_o0_3968_S256x128
  rw [c1, c2, c3, c4, c5, c6, c7, c8, c9, c10, c11, c13, c14, c15, c16, c17, c18, c19, c20, c21, c22, c23, c25, c26, c27, c28, c29, c30, c31]
  rfl

/-- A used block's buffer reads as its rows of outputs, written lane group by lane group. -/
theorem read_used (c : Dev nD) (i : grid0.Coords) (h1 : expertOf.IsWhole) (h2 : countOf.IsWhole) (arg3 : Memref sig .tc .vmem S8192x128 .f32) (harg3 : arg3.IsWhole) (arg4 : Memref sig .tc .vmem S1x4096x1024 .bf16) (harg4 : arg4.IsWhole) (arg5 : Memref sig .tc .vmem S1x1x1024 .f32) (harg5 : arg5.IsWhole) (arg6 : Memref sig .tc .vmem S1x512x4096 .bf16) (harg6 : arg6.IsWhole) (arg7 : Memref sig .tc .vmem S1x1x4096 .f32) (harg7 : arg7.IsWhole) (arg8 : Memref sig .tc .vmem S8192x128 .f32) (harg8 : arg8.IsWhole)
    (x0 : Vec F S8192x128 .f32) (x1 : Vec F S1x4096x1024 .bf16) (x2 : Vec F S1x1x1024 .f32) (x3 : Vec F S1x512x4096 .bf16) (x4 : Vec F S1x1x4096 .f32) (xt0 : Held (F := F) c expertOf) (xt1 : Held (F := F) c countOf) (hu : k0_cond1 i (count c xt1) = 1#1) (hz : ¬ k0_cond2 i (count c xt1) = 1#1)
    (v : View sig .tc .vmem S8192x128 .f32) (f : v.ty.Contents (Elt F)) :
    v.read (Elt F) (v.writes (Elt F) f (used c i h1 h2 arg3 harg3 arg4 harg4 arg5 harg5 arg6 harg6 arg7 harg7 arg8 harg8 x0 x1 x2 x3 x4 xt0 xt1 hu hz).1) = spread (product x0 x1 x2 x3 x4) := by
  rw [used_pieces]
  have hc (y : S8192x128.Idx) : ∃ p ∈ (List.ofFn fun s : Fin 32 => piece (product x0 x1 x2 x3 x4) s.rev), y ∈ p.1.set :=
    ⟨piece (product x0 x1 x2 x3 x4) ⟨(y 0).val % 32, Nat.mod_lt _ (by decide)⟩,
      List.mem_ofFn.mpr ⟨Fin.rev ⟨(y 0).val % 32, Nat.mod_lt _ (by decide)⟩, by simp only [Fin.rev_rev]⟩, piece_covers _ y⟩
  rw [View.read_writes_eq_canon v f _ hc]
  funext y
  refine View.canon_apply_of_pieces (spread (product x0 x1 x2 x3 x4)) _ (fun p hp => ?_) y (hc y)
  obtain ⟨s, rfl⟩ := List.mem_ofFn.mp hp
  exact piece_agrees _ s.rev

/-- An unused block's buffer reads as zeros. -/
theorem read_unused (c : Dev nD) (i : grid0.Coords) (h1 : expertOf.IsWhole) (h2 : countOf.IsWhole) (arg3 : Memref sig .tc .vmem S8192x128 .f32) (harg3 : arg3.IsWhole) (arg4 : Memref sig .tc .vmem S1x4096x1024 .bf16) (harg4 : arg4.IsWhole) (arg5 : Memref sig .tc .vmem S1x1x1024 .f32) (harg5 : arg5.IsWhole) (arg6 : Memref sig .tc .vmem S1x512x4096 .bf16) (harg6 : arg6.IsWhole) (arg7 : Memref sig .tc .vmem S1x1x4096 .f32) (harg7 : arg7.IsWhole) (arg8 : Memref sig .tc .vmem S8192x128 .f32) (harg8 : arg8.IsWhole)
    (x0 : Vec F S8192x128 .f32) (x1 : Vec F S1x4096x1024 .bf16) (x2 : Vec F S1x1x1024 .f32) (x3 : Vec F S1x512x4096 .bf16) (x4 : Vec F S1x1x4096 .f32) (xt0 : Held (F := F) c expertOf) (xt1 : Held (F := F) c countOf) (hu : ¬ k0_cond1 i (count c xt1) = 1#1) (hz : k0_cond2 i (count c xt1) = 1#1)
    (v : View sig .tc .vmem S8192x128 .f32) (f : v.ty.Contents (Elt F)) :
    v.read (Elt F) (v.writes (Elt F) f (unused c i h1 h2 arg3 harg3 arg4 harg4 arg5 harg5 arg6 harg6 arg7 harg7 arg8 harg8 x0 x1 x2 x3 x4 xt0 xt1 hu hz).1) = k0_pay8 := by
  show v.read (Elt F) (v.writes (Elt F) f [⟨Rect.unit ![0, 0] ![8192, 128] inb_S8192x128_S8192x128_0_0, k0_pay8⟩]) = _
  have hm (y : S8192x128.Idx) : y ∈ (Rect.unit (s := S8192x128) ![0, 0] ![8192, 128] inb_S8192x128_S8192x128_0_0).set := by
    refine (Rect.mem_set_unit (inb := inb_S8192x128_S8192x128_0_0)).mpr ?_
    intro a
    have h0 := (y 0).isLt
    have h1 := (y 1).isLt
    fin_cases a
    · exact ⟨Nat.zero_le _, lt_of_lt_of_le h0 (by decide)⟩
    · exact ⟨Nat.zero_le _, lt_of_lt_of_le h1 (by decide)⟩
  have hc : ∀ y : S8192x128.Idx, ∃ p ∈ ([⟨Rect.unit ![0, 0] ![8192, 128] inb_S8192x128_S8192x128_0_0, k0_pay8⟩] : List (View.Piece (Elt F) S8192x128 .f32)), y ∈ p.1.set :=
    fun y => ⟨_, List.mem_singleton_self _, hm y⟩
  rw [View.read_writes_eq_canon v f _ hc]
  exact View.canon_cons_unit_lit inb_S8192x128_S8192x128_0_0 _ _ (by decide)

/-- A block's two conditions exclude each other, and one of them holds. -/
theorem conditions (i : grid0.Coords) (n : BitVec 32) : k0_cond2 i n = 1#1 ↔ ¬ k0_cond1 i n = 1#1 := by
  have h (a : BitVec 32) : (Scalar.cmpi .ne (Scalar.extui (Scalar.cmpi .sge a n) : BitVec 32) 0#32 = 1#1)
      ↔ ¬ (Scalar.cmpi .ne (Scalar.extui (Scalar.cmpi .slt a n) : BitVec 32) 0#32 = 1#1) := by
    have e : Scalar.cmpi .sge a n = Scalar.cmpi .slt a n ^^^ 1#1 := by
      show BitVec.ofBool (n.sle a) = BitVec.ofBool (a.slt n) ^^^ 1#1
      rw [BitVec.sle_eq_not_slt]
      cases BitVec.slt a n <;> rfl
    rw [e]
    generalize Scalar.cmpi .slt a n = b
    revert b; decide
  exact h _

end Cert.Kernel5Ideal.Hand
-- ==== Proof.ExpertsRun.lean ====
/-
The run of the experts' program, at any float values: the body's triple at every point of the grid, and the program's frame.
-/
module

public import proofs.«01_k».proof.Proof.Experts

@[expose] public section

set_option maxRecDepth 16384

noncomputable section

namespace Cert.Kernel5Ideal.Hand

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the call is entered: after the host lines before it. -/
abbrev V (c : Dev nD) (b : Ref sig .tc) : Buf (Elt F) ((c : Thread nD τ).loc b) := StableHlo.after hostOps0 (fun b => m (c, b)) b

/-- No host line makes a new buffer. -/
theorem hostOps0_fresh : (hostOps0 : List (HloOp τ sig (Elt F))).Forall fun op => op.fresh = ∅ := by
  simp only [List.Forall]; repeat' constructor

set_option maxHeartbeats 800000 in
/-- The program is its host lines, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that none of the five host lines writes is at the call as it was at the start. -/
theorem V_of_ne (c : Dev nD) (b : Ref sig .tc) (h0 : Proc.devRef (τ := τ) .tc b ≠ Proc.devRef .tc main_v0) (h1 : Proc.devRef (τ := τ) .tc b ≠ Proc.devRef .tc main_v1) (h2 : Proc.devRef (τ := τ) .tc b ≠ Proc.devRef .tc main_v2)
    (h3 : Proc.devRef (τ := τ) .tc b ≠ Proc.devRef .tc main_v3) (h4 : Proc.devRef (τ := τ) .tc b ≠ Proc.devRef .tc main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨h0, h1, h2, h3, h4⟩))

theorem V_arg0 (c : Dev nD) : V m c main_arg0 = m ((c : Thread nD τ).loc main_arg0) :=
  V_of_ne m c main_arg0 (StableHlo.devRef_ne_of_ne (by decide)) (StableHlo.devRef_ne_of_ne (by decide)) (StableHlo.devRef_ne_of_ne (by decide)) (StableHlo.devRef_ne_of_ne (by decide)) (StableHlo.devRef_ne_of_ne (by decide))
theorem V_arg1 (c : Dev nD) : V m c main_arg1 = m ((c : Thread nD τ).loc main_arg1) :=
  V_of_ne m c main_arg1 (StableHlo.devRef_ne_of_ne (by decide)) (StableHlo.devRef_ne_of_ne (by decide)) (StableHlo.devRef_ne_of_ne (by decide)) (StableHlo.devRef_ne_of_ne (by decide)) (StableHlo.devRef_ne_of_ne (by decide))
theorem V_arg2 (c : Dev nD) : V m c main_arg2 = m ((c : Thread nD τ).loc main_arg2) :=
  V_of_ne m c main_arg2 (StableHlo.devRef_ne_of_ne (by decide)) (StableHlo.devRef_ne_of_ne (by decide)) (StableHlo.devRef_ne_of_ne (by decide)) (StableHlo.devRef_ne_of_ne (by decide)) (StableHlo.devRef_ne_of_ne (by decide))
theorem V_arg3 (c : Dev nD) : V m c main_arg3 = m ((c : Thread nD τ).loc main_arg3) :=
  V_of_ne m c main_arg3 (StableHlo.devRef_ne_of_ne (by decide)) (StableHlo.devRef_ne_of_ne (by decide)) (StableHlo.devRef_ne_of_ne (by decide)) (StableHlo.devRef_ne_of_ne (by decide)) (StableHlo.devRef_ne_of_ne (by decide))
theorem V_arg4 (c : Dev nD) : V m c main_arg4 = m ((c : Thread nD τ).loc main_arg4) :=
  V_of_ne m c main_arg4 (StableHlo.devRef_ne_of_ne (by decide)) (StableHlo.devRef_ne_of_ne (by decide)) (StableHlo.devRef_ne_of_ne (by decide)) (StableHlo.devRef_ne_of_ne (by decide)) (StableHlo.devRef_ne_of_ne (by decide))
theorem V_arg5 (c : Dev nD) : V m c main_arg5 = m ((c : Thread nD τ).loc main_arg5) :=
  V_of_ne m c main_arg5 (StableHlo.devRef_ne_of_ne (by decide)) (StableHlo.devRef_ne_of_ne (by decide)) (StableHlo.devRef_ne_of_ne (by decide)) (StableHlo.devRef_ne_of_ne (by decide)) (StableHlo.devRef_ne_of_ne (by decide))
theorem V_arg6 (c : Dev nD) : V m c main_arg6 = m ((c : Thread nD τ).loc main_arg6) :=
  V_of_ne m c main_arg6 (StableHlo.devRef_ne_of_ne (by decide)) (StableHlo.devRef_ne_of_ne (by decide)) (StableHlo.devRef_ne_of_ne (by decide)) (StableHlo.devRef_ne_of_ne (by decide)) (StableHlo.devRef_ne_of_ne (by decide))

/-- The two prefetched tables when the call is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block that the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The body holds half of each table. -/
theorem tables_eq (c : Dev nD) : (Pipeline.ΦT pre0 (tbl m) c : sProp 𝕄) = iprop(half c expertOf (tbl m 0) ∗ half c countOf (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The block of outputs a point leaves: the experts' outputs where the block is used, zeros where it is not. -/
def leaves (hO : Ok m) (c : Dev nD) (t : Fin (cfgM m hO).N) : Vec F S8192x128 .f32 :=
  if k0_cond1 (grid0.coords t) (count c (tbl m 1)) = 1#1 then
    spread (product (iblk m hO c 0 t) (iblk m hO c 1 t) (iblk m hO c 2 t) (iblk m hO c 3 t) (iblk m hO c 4 t))
  else k0_pay8

/-- The arrays at the call and what each point leaves in the windows' buffers. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => leaves m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = leaves m hO c t := by dsimp only [dats]; try rfl

/-! An input window's buffer holds its block at every point. -/

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

abbrev ms_0 (hO : Ok m) (t : Fin (cfgM m hO).N) : Memref sig .tc .vmem S8192x128 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x4096x1024 .bf16 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1x1024 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x512x4096 .bf16 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1x1x4096 .f32 := spec0_4.stage ((cfgM m hO).slots t 4)
abbrev hs_4 (hO : Ok m) (t : Fin (cfgM m hO).N) : (ms_4 m hO t).IsWhole := hstage0_4 (((cfgM m hO).slots t 4).cast nbuf0_4)
abbrev ms_5 (hO : Ok m) (t : Fin (cfgM m hO).N) : Memref sig .tc .vmem S8192x128 .f32 := spec0_5.stage ((cfgM m hO).slots t 5)
abbrev hs_5 (hO : Ok m) (t : Fin (cfgM m hO).N) : (ms_5 m hO t).IsWhole := hstage0_5 (((cfgM m hO).slots t 5).cast nbuf0_5)

/-- The body at a point, on the buffers the pipeline hands it. -/
abbrev bodyAt (hO : Ok m) (t : Fin (cfgM m hO).N) : Prog (TpuEff nD τ sig (Elt F) Λ₀ .tc) PUnit :=
  cc0_experts (grid0.coords t) expertOf (Memref.isWhole_whole _) countOf (Memref.isWhole_whole _) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t)

/-- What the body finds at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

/-- What it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t))

/-- At a used block the body runs its first branch and stores the outputs; at an unused one its second, and stores zeros. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5]
  rw [show (dats m hO 0 c).Φ t.castSucc = iprop(Pipeline.ΦA spec0 c ∗ Pipeline.ΦT pre0 (tbl m) c) from rfl, tables_eq]
  unfold leaves
  by_cases hu : k0_cond1 (grid0.coords t) (count c (tbl m 1)) = 1#1
  · have hz : ¬ k0_cond2 (grid0.coords t) (count c (tbl m 1)) = 1#1 := fun h => (conditions _ _).mp h hu
    rw [if_pos hu]
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((used c (grid0.coords t) (Memref.isWhole_whole _) (Memref.isWhole_whole _) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (iblk m hO c 0 t) (iblk m hO c 1 t) (iblk m hO c 2 t) (iblk m hO c 3 t) (iblk m hO c 4 t) (tbl m 0) (tbl m 1) hu hz).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact read_used c _ _ _ _ _ _ _ _ _ _ _ _ _ _ _ _ _ _ _ _ _ _ hu hz _ _
  · have hz : k0_cond2 (grid0.coords t) (count c (tbl m 1)) = 1#1 := (conditions _ _).mpr hu
    rw [if_neg hu]
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((unused c (grid0.coords t) (Memref.isWhole_whole _) (Memref.isWhole_whole _) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (iblk m hO c 0 t) (iblk m hO c 1 t) (iblk m hO c 2 t) (iblk m hO c 3 t) (iblk m hO c 4 t) (tbl m 0) (tbl m 1) hu hz).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact read_unused c _ _ _ _ _ _ _ _ _ _ _ _ _ _ _ _ _ _ _ _ _ _ hu hz _ _

/-- The body's label runs the body on the buffers in use. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- It is never so that neither of the conditions holds. -/
theorem branch_runs (i : grid0.Coords) (n : BitVec 32) : (!(k0_cond1 i n == 1#1) && !(k0_cond2 i n == 1#1)) = false := by
  have h := conditions i n
  generalize k0_cond1 i n = a at h ⊢
  generalize k0_cond2 i n = b at h ⊢
  revert a b; decide

/-- One of the two branches runs at every point, so every buffer is left as the body leaves it. -/
theorem not_idle (a : (pcfg0 (F := F)).Adm) (t : Fin (cfg0 a).N) : ∀ w : Fin 6, (cfg0 a).idle w ((cfg0 a).grid.coords t) = false
  | 0 => rfl | 1 => rfl | 2 => rfl | 3 => rfl | 4 => rfl
  | 5 => by
    show idle0 a.1 5 (grid0.coords t) = false
    exact branch_runs (grid0.coords t) _

/-- What a body that writes at every point has to be shown to do. -/
theorem obligation_of_live {cfg : Cfg sig Λ₀} {c : Dev nD} (dat : Dat τ (Elt F) Unit ℕ (UR sig nD τ) ℕ cfg c) (D : Defs nD τ sig (Elt F) Λ₀)
    (hlive : ∀ (t : Fin cfg.N) w, cfg.idle w (cfg.grid.coords t) = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE D Variants.none c none) Set.univ (D .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat D Variants.none () Set.univ := fun t => by
  simp only [hlive]
  exact h t

/-- The body does at every point what the pipeline asks of it. -/
theorem body_obligation (hO : Ok m) (c : Dev nD) : BodyObligation (dats (F := F) m hO 0 c) (defs₀ (F := F)) Variants.none () Set.univ :=
  obligation_of_live (dats m hO 0 c) defs₀ (not_idle (adm m hO)) fun t => by
    rw [bigSep_W0, bigSep_W0, defs₀_row m hO]
    exact triple_restated (sound_body m hO c t) rfl .rfl fun _ => .rfl

set_option backward.isDefEq.respectTransparency.types false in
/-- The program runs to the end, its arrays then hold what the points left, and no semaphore is left raised. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The arguments of the program end as they began. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (by decide : main_arg0 ∈ Pipeline.restRefs sig spec0)).trans (V_arg0 m c),
    ((h.1 c).2 main_arg1 (by decide : main_arg1 ∈ Pipeline.restRefs sig spec0)).trans (V_arg1 m c),
    ((h.1 c).2 main_arg2 (by decide : main_arg2 ∈ Pipeline.restRefs sig spec0)).trans (V_arg2 m c),
    ((h.1 c).2 main_arg3 (by decide : main_arg3 ∈ Pipeline.restRefs sig spec0)).trans (V_arg3 m c),
    ((h.1 c).2 main_arg4 (by decide : main_arg4 ∈ Pipeline.restRefs sig spec0)).trans (V_arg4 m c),
    ((h.1 c).2 main_arg5 (by decide : main_arg5 ∈ Pipeline.restRefs sig spec0)).trans (V_arg5 m c),
    ((h.1 c).2 main_arg6 (by decide : main_arg6 ∈ Pipeline.restRefs sig spec0)).trans (V_arg6 m c)⟩, h.2⟩) (run_quiescent m ρ hO)

end Cert.Kernel5Ideal.Hand
-- ==== Proof.ExpertsTables.lean ====
/-
The two tables of the experts' call: what its precondition says of their words, and that the blocks they name
lie inside the arrays.
-/
module

public import proofs.«01_k».proof.Proof.ExpertsRun
public import proofs.«01_k».proof.Proof.Gen.Pre_blocks_in_range
public import Idealize.ShloMosaic.Lib.ReduceAll
public import Idealize.ShloMosaic.Lib.WordArith

@[expose] public section

set_option maxRecDepth 16384

noncomputable section

namespace Cert.Kernel5Ideal.Hand

open Cert.Kernel5Ideal Cert.Kernel5Ideal.Gen Idealize.ShloMosaic Idealize.ShloMosaic.TcCoe
open Idealize.SL Idealize.SL.Sem

variable {F : FTy → Type} [FloatOps F]

/-- The precondition, read at the words: every block has one of the 32 experts, and between 1 and 160 blocks are used. -/
theorem words_in_range (X : S40960x4096.Idx → Elt F .f32) (B : S160.Idx → BitVec 32) (N : S1.Idx → BitVec 32) (W : S32x4096x1024.Idx → Elt F .f32) (bW : S32x1024.Idx → Elt F .f32)
    (D : S32x512x4096.Idx → Elt F .f32) (bD : S32x4096.Idx → Elt F .f32) (h : Cert.Pre_blocks_in_range.fn (F := F) X B N W bW D bD = fun _ => 1#1) :
    (∀ x, (B x).toNat < 32) ∧ ∀ x, 1 ≤ (N x).toNat ∧ (N x).toNat ≤ 160 := by
  have hand (p q : BitVec 1) (e : IntOp.andi p q = 1#1) : p = 1#1 ∧ q = 1#1 := by
    revert p q; decide
  have hone (p : Bool) : (BitVec.ofBool p = 1#1) ↔ p = true := by cases p <;> decide
  have e := congrFun h (Shape.Idx.first Cert.Pre_blocks_in_range.Facts.h_S_)
  dsimp only [Pre_blocks_in_range.fn, andi] at e
  obtain ⟨e1, e2⟩ := hand _ _ e
  haveI : Subsingleton Cert.Pre_blocks_in_range.S_.Idx := ⟨fun a b => funext fun k => k.elim0⟩
  constructor
  · intro x
    obtain ⟨hge, hlt⟩ := hand _ _ (Host.reduce_andi_all _ _ _ _ _ e1 x)
    simp only [cmpi, broadcastInDim, constantI, IntOp.cmpi, hone] at hge hlt
    simp only [BitVec.sle, BitVec.slt, decide_eq_true_eq, BitVec.toInt, BitVec.toNat_ofNat] at hge hlt
    have := (B x).isLt
    omega
  · intro x
    obtain ⟨hge, hlt⟩ := hand _ _ (Host.reduce_andi_all _ _ _ _ _ e2 x)
    simp only [cmpi, broadcastInDim, constantI, IntOp.cmpi, hone] at hge hlt
    simp only [BitVec.sle, BitVec.slt, decide_eq_true_eq, BitVec.toInt, BitVec.toNat_ofNat] at hge hlt
    have := (N x).isLt
    omega

/-- The words of the tables are in range. -/
structure InRange (pf : pre0.Contents (Elt F)) : Prop where
  expert : ∀ x : S160.Idx, (show BitVec 32 from pf 0 x).toNat < 32
  count : ∀ x : S1.Idx, 1 ≤ (show BitVec 32 from pf 1 x).toNat ∧ (show BitVec 32 from pf 1 x).toNat ≤ 160

/-- The expert of a block, as the index maps read it. -/
def expertAt (pf : pre0.Contents (Elt F)) (i : grid0.Coords) : BitVec 32 := pf.at 0 (Rect.unit (s := S160) (k0_off1 i) S1.size (k0_off1_inb i)) numel1_S1
/-- The number of used blocks, as the index maps read it. -/
def usedOf (pf : pre0.Contents (Elt F)) : BitVec 32 := pf.at 1 (Rect.unit (s := S1) ![0] S1.size inb_S1_S1_0) numel1_S1

theorem expertAt_lt {pf : pre0.Contents (Elt F)} (h : InRange pf) (i : grid0.Coords) : (expertAt pf i).toNat < 32 := h.expert _
theorem usedOf_range {pf : pre0.Contents (Elt F)} (h : InRange pf) : 1 ≤ (usedOf pf).toNat ∧ (usedOf pf).toNat ≤ 160 := h.count _

/-- The expert of block `i` is word `i` of its table. -/
theorem expertAt_eq (pf : pre0.Contents (Elt F)) (i : grid0.Coords) (x : S160.Idx) (hx : (x 0).val = (i 0).val) : expertAt pf i = pf 0 x := by
  have hi : (i 0).val < 160 := (i 0).isLt
  show pf 0 ((Rect.unit (s := S160) (k0_off1 i) S1.size (k0_off1_inb i)).emb (Shape.Idx.first _)) = pf 0 x
  congr 1
  funext a
  fin_cases a
  apply Fin.ext
  refine Eq.trans ?_ hx.symm
  show (BitVec.ofNat 32 (i 0).val).toNat + 1 * 0 = (i 0).val
  rw [BitVec.toNat_ofNat]
  omega

/-- The number of used blocks is the one word of its table. -/
theorem usedOf_eq (pf : pre0.Contents (Elt F)) : usedOf pf = pf 1 (ix1 0 : S1.Idx) := by
  show pf 1 _ = pf 1 _
  congr 1
  funext a
  fin_cases a
  exact Subsingleton.elim (α := Fin 1) _ _

/-- The body reads the number of used blocks at the word the index maps read. -/
theorem count_eq (pf : pre0.Contents (Elt F)) (c : Dev nD) : count c (pf 1) = usedOf pf := by
  show pf 1 _ = pf 1 _
  congr 1

/-- The rows are read from the block itself, or from the last used block when this one is not used. -/
theorem rows_block {pf : pre0.Contents (Elt F)} (h : InRange pf) (i : grid0.Coords) :
    cc0_transform_0 inb_S1_S1_0 numel1_S1 pf i = ![min (i 0).val ((usedOf pf).toNat - 1), 0] := by
  have hi : (i 0).val < 160 := (i 0).isLt
  obtain ⟨h1, h2⟩ := usedOf_range h
  have hs : (Scalar.subi (usedOf pf) 1#32).toNat = (usedOf pf).toNat - 1 := by
    show ((usedOf pf) - 1#32).toNat = _
    rw [BitVec.toNat_sub]
    simp only [BitVec.toNat_ofNat]
    omega
  have ha : (BitVec.ofNat 32 (i 0).val).toNat = (i 0).val := by rw [BitVec.toNat_ofNat]; omega
  have hm : (Scalar.minsi (BitVec.ofNat 32 (i 0).val) (Scalar.subi (usedOf pf) 1#32)).toNat = min (i 0).val ((usedOf pf).toNat - 1) := by
    have e : Scalar.minsi (BitVec.ofNat 32 (i 0).val) (Scalar.subi (usedOf pf) 1#32) = IntOp.minsi (BitVec.ofNat 32 (i 0).val) (Scalar.subi (usedOf pf) 1#32) := rfl
    rw [e, WordArith.toNat_minsi_of_lt _ _ (by omega) (by omega), ha, hs]
  show ![(Scalar.minsi (BitVec.ofNat 32 (i 0).val) (Scalar.subi (usedOf pf) 1#32)).toNat, (0#32 : BitVec 32).toNat] = _
  rw [hm]; rfl

theorem up_block (pf : pre0.Contents (Elt F)) (i : grid0.Coords) : cc0_transform_1 k0_off1_inb numel1_S1 pf i = ![(expertAt pf i).toNat, 0, 0] := rfl
theorem upBias_block (pf : pre0.Contents (Elt F)) (i : grid0.Coords) : cc0_transform_2 k0_off1_inb numel1_S1 pf i = ![(expertAt pf i).toNat, 0, 0] := rfl
theorem down_block (pf : pre0.Contents (Elt F)) (i : grid0.Coords) : cc0_transform_3 k0_off1_inb numel1_S1 pf i = ![(expertAt pf i).toNat, 0, 0] := rfl
theorem downBias_block (pf : pre0.Contents (Elt F)) (i : grid0.Coords) : cc0_transform_4 k0_off1_inb numel1_S1 pf i = ![(expertAt pf i).toNat, 0, 0] := rfl

/-- With the words in range every block lies inside its array. -/
theorem ok_of_inRange {pf : pre0.Contents (Elt F)} (h : InRange pf) : ok0 pf := by
  have hE := expertAt_lt h
  refine ⟨fun i => ?_, fun i => ?_, fun i => ?_, fun i => ?_, fun i => ?_⟩
  · refine ⟨?_, .inl rfl⟩
    rw [rows_block h]
    have hi : (i 0).val < 160 := (i 0).isLt
    intro a
    fin_cases a
    · show (min (i 0).val ((usedOf pf).toNat - 1) + 1) * 8192 ≤ 1310720
      omega
    · show (0 + 1) * 128 ≤ 128
      omega
  · have hb : ∀ a, (cc0_transform_1 k0_off1_inb numel1_S1 pf i a + 1) * S1x4096x1024.size a ≤ S32x4096x1024.size a := by
      rw [up_block]
      have := hE i
      intro a
      fin_cases a
      · show ((expertAt pf i).toNat + 1) * 1 ≤ 32
        omega
      · show (0 + 1) * 4096 ≤ 4096
        omega
      · show (0 + 1) * 1024 ≤ 1024
        omega
    exact ⟨hb, .inr (.inr ⟨by decide, rfl, rfl, rfl⟩)⟩
  · refine ⟨?_, .inl rfl⟩
    rw [upBias_block]
    have := hE i
    intro a
    fin_cases a
    · show ((expertAt pf i).toNat + 1) * 1 ≤ 32
      omega
    · show (0 + 1) * 1 ≤ 1
      omega
    · show (0 + 1) * 1024 ≤ 1024
      omega
  · have hb : ∀ a, (cc0_transform_3 k0_off1_inb numel1_S1 pf i a + 1) * S1x512x4096.size a ≤ S32x512x4096.size a := by
      rw [down_block]
      have := hE i
      intro a
      fin_cases a
      · show ((expertAt pf i).toNat + 1) * 1 ≤ 32
        omega
      · show (0 + 1) * 512 ≤ 512
        omega
      · show (0 + 1) * 4096 ≤ 4096
        omega
    exact ⟨hb, .inr (.inr ⟨by decide, rfl, rfl, rfl⟩)⟩
  · refine ⟨?_, .inl rfl⟩
    rw [downBias_block]
    have := hE i
    intro a
    fin_cases a
    · show ((expertAt pf i).toNat + 1) * 1 ≤ 32
      omega
    · show (0 + 1) * 1 ≤ 1
      omega
    · show (0 + 1) * 4096 ≤ 4096
      omega

variable (m : (ℓ : Loc nD τ sig) → Buf (Elt F) ℓ)

/-- The tables at the call are the second and the third argument. -/
theorem inRange_tbl (c : Dev nD)
    (h : Cert.Pre_blocks_in_range.fn (F := F) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) = fun _ => 1#1) : InRange (tbl m) := by
  obtain ⟨hE, hN⟩ := words_in_range _ _ _ _ _ _ _ h
  have e0 : tbl m 0 = m ((c.tc : Thread nD τ).loc main_arg1) := (V_pre m c 0).symm.trans (V_arg1 m c)
  have e1 : tbl m 1 = m ((c.tc : Thread nD τ).loc main_arg2) := (V_pre m c 1).symm.trans (V_arg2 m c)
  exact ⟨fun x => by rw [e0]; exact hE x, fun x => by rw [e1]; exact hN x⟩

/-- The condition of the first branch says that the block is one of the used ones. -/
theorem used_iff (i : grid0.Coords) (n : BitVec 32) (hn : n.toNat ≤ 160) : k0_cond1 i n = 1#1 ↔ (i 0).val < n.toNat := by
  have hi : (i 0).val < 160 := (i 0).isLt
  have ha : (BitVec.ofNat 32 (i 0).val).toNat = (i 0).val := by rw [BitVec.toNat_ofNat]; omega
  have e (b : BitVec 1) : (Scalar.cmpi .ne (Scalar.extui b : BitVec 32) 0#32 = 1#1) ↔ b = 1#1 := by revert b; decide
  refine (e _).trans ?_
  show BitVec.ofBool ((BitVec.ofNat 32 (i 0).val).slt n) = 1#1 ↔ _
  have hone (p : Bool) : (BitVec.ofBool p = 1#1) ↔ p = true := by cases p <;> decide
  rw [hone]
  simp only [BitVec.slt, decide_eq_true_eq, BitVec.toInt, ha]
  omega

end Cert.Kernel5Ideal.Hand
-- ==== Proof.ExpertsFormula.lean ====
/-
One row of one expert, as a formula: the gated linear unit with its limits, between two matrix products with biases.
-/
module

public import Idealize.ShloMosaic.PureOps
public import Idealize.ShloMosaic.Lib.Pointwise

@[expose] public section

noncomputable section

namespace Cert.Expert

open Idealize.ShloMosaic

/-- The first product: a row against the expert's gate and up columns, with their bias. -/
def hidden (x : Fin 4096 → EReal) (w : Fin 4096 → Fin 1024 → EReal) (b : Fin 1024 → EReal) (f : Fin 1024) : EReal :=
  ∑ k : Fin 4096, x k * w k f + b f

/-- The unit: the first 512 columns, at most 7, through `z * logistic (1.702 * z)`, times the last 512, held between -7 and 7, plus one. -/
def unit (h : Fin 1024 → EReal) (f : Fin 512) : EReal :=
  min (h ⟨f.val, by omega⟩) (Ideal.ofBits .f32 0x40E00000#32)
    * Ideal.logistic (Ideal.ofBits .f32 0x3FD9DB23#32 * min (h ⟨f.val, by omega⟩) (Ideal.ofBits .f32 0x40E00000#32))
    * (min (Ideal.ofBits .f32 0x40E00000#32) (max (Ideal.ofBits .f32 0xC0E00000#32) (h ⟨512 + f.val, by omega⟩)) + Ideal.ofBits .f32 0x3F800000#32)

/-- The second product, with its bias. -/
def output (x : Fin 4096 → EReal) (w : Fin 4096 → Fin 1024 → EReal) (b : Fin 1024 → EReal) (d : Fin 512 → Fin 4096 → EReal) (bd : Fin 4096 → EReal)
    (j : Fin 4096) : EReal :=
  ∑ f : Fin 512, unit (hidden x w b) f * d f j + bd j

theorem output_congr {x x' : Fin 4096 → EReal} {w w' : Fin 4096 → Fin 1024 → EReal} {b b' : Fin 1024 → EReal} {d d' : Fin 512 → Fin 4096 → EReal} {bd bd' : Fin 4096 → EReal}
    {j j' : Fin 4096} (hx : ∀ k, x k = x' k) (hw : ∀ k f, w k f = w' k f) (hb : ∀ f, b f = b' f) (hd : ∀ f j, d f j = d' f j) (hbd : ∀ j, bd j = bd' j) (hj : j.val = j'.val) :
    output x w b d bd j = output x' w' b' d' bd' j' := by
  obtain rfl : x = x' := funext hx
  obtain rfl : w = w' := funext fun k => funext (hw k)
  obtain rfl : b = b' := funext hb
  obtain rfl : d = d' := funext fun f => funext (hd f)
  obtain rfl : bd = bd' := funext hbd
  obtain rfl : j = j' := Fin.ext hj
  rfl

/-- The expert of the block that a row of lanes lies in: 32 rows of lanes to a row, 256 rows to a block. -/
def expertOfRow (B : (⟨1, ![160]⟩ : Shape).Idx → BitVec 32) (i : Fin 1310720) : Fin 32 := ⟨(B (ix1 ⟨i.val / 8192, by omega⟩)).toNat % 32, Nat.mod_lt _ (by decide)⟩

/-- The grouped rows through their experts, as rows of 128 lanes: zeros past the used blocks. -/
def result (X : (⟨2, ![40960, 4096]⟩ : Shape).Idx → EReal) (B : (⟨1, ![160]⟩ : Shape).Idx → BitVec 32) (N : (⟨1, ![1]⟩ : Shape).Idx → BitVec 32)
    (W : (⟨3, ![32, 4096, 1024]⟩ : Shape).Idx → EReal) (b : (⟨2, ![32, 1024]⟩ : Shape).Idx → EReal) (D : (⟨3, ![32, 512, 4096]⟩ : Shape).Idx → EReal)
    (bD : (⟨2, ![32, 4096]⟩ : Shape).Idx → EReal) (i : (⟨2, ![1310720, 128]⟩ : Shape).Idx) : EReal :=
  if (i 0).val / 8192 < (N (ix1 0)).toNat then
    output (fun k => X (ix2 ⟨(i 0).val / 32, by have h : (i 0).val < 1310720 := (i 0).isLt; omega⟩ k))
      (fun k f => W (ix3 (expertOfRow B (i 0)) k f)) (fun f => b (ix2 (expertOfRow B (i 0)) f)) (fun f j => D (ix3 (expertOfRow B (i 0)) f j)) (fun j => bD (ix2 (expertOfRow B (i 0)) j))
      ⟨(i 0).val % 32 * 128 + (i 1).val, by have h : (i 1).val < 128 := (i 1).isLt; omega⟩
  else 0

end Cert.Expert

end
-- ==== Proof.ExpertsValue.lean ====
/-
What the experts' call leaves in its result, as a formula of its arguments.
-/
module

public import proofs.«01_k».proof.Proof.ExpertsTables
public import proofs.«01_k».proof.Proof.ExpertsFormula
public import Idealize.ShloMosaic.Lib.Pipeline.ValueKit
public import Idealize.ShloMosaic.Lib.Pointwise
public import Idealize.ShloMosaic.Lib.ValueLayout

@[expose] public section

set_option maxRecDepth 16384

noncomputable section

namespace Cert.Kernel5Ideal.Hand

open Cert.Kernel5Ideal Cert.Kernel5Ideal.Gen Idealize.ShloMosaic Idealize.ShloMosaic.TcCoe
open Idealize.SL Idealize.SL.Sem
open Idealize.ShloMosaic.Pipeline (Dat Cfg Window)

/-- The rows of a block: 32 rows of 128 lanes each. -/
def rows (x : Vec Ideal S8192x128 .f32) : FVec Ideal S256x4096 .f32 := fun j =>
  x (ix2 ⟨32 * (j 0).val + (j 1).val / 128, by have := (j 0).isLt; have := (j 1).isLt; simp at *; omega⟩ ⟨(j 1).val % 128, Nat.mod_lt _ (by decide)⟩)

/-- Thirty-two lane groups side by side are the rows. -/
theorem concat_groups (x : Vec Ideal S8192x128 .f32) (h) :
    concatenate S256x4096 1 [⟨S256x128, group x 0⟩, ⟨S256x128, group x 1⟩, ⟨S256x128, group x 2⟩, ⟨S256x128, group x 3⟩, ⟨S256x128, group x 4⟩, ⟨S256x128, group x 5⟩, ⟨S256x128, group x 6⟩, ⟨S256x128, group x 7⟩, ⟨S256x128, group x 8⟩, ⟨S256x128, group x 9⟩, ⟨S256x128, group x 10⟩, ⟨S256x128, group x 11⟩, ⟨S256x128, group x 12⟩, ⟨S256x128, group x 13⟩, ⟨S256x128, group x 14⟩, ⟨S256x128, group x 15⟩, ⟨S256x128, group x 16⟩, ⟨S256x128, group x 17⟩, ⟨S256x128, group x 18⟩, ⟨S256x128, group x 19⟩, ⟨S256x128, group x 20⟩, ⟨S256x128, group x 21⟩, ⟨S256x128, group x 22⟩, ⟨S256x128, group x 23⟩, ⟨S256x128, group x 24⟩, ⟨S256x128, group x 25⟩, ⟨S256x128, group x 26⟩, ⟨S256x128, group x 27⟩, ⟨S256x128, group x 28⟩, ⟨S256x128, group x 29⟩, ⟨S256x128, group x 30⟩, ⟨S256x128, group x 31⟩] h = rows x := by
  funext j
  have hj : (j 1).val < 4096 := (j 1).isLt
  have h0 : (j 0).val < 256 := (j 0).isLt
  refine (concatenate_ofFn_apply (t := S256x4096) (s₁ := S256x128) 1 (N := 32) (fun s => group x s.val) h rfl 128 rfl j
    ⟨(j 1).val / 128, by omega⟩ rfl (ix2 (j 0) ⟨(j 1).val % 128, Nat.mod_lt _ (by decide)⟩) rfl
    (fun b hb => by fin_cases b <;> first | rfl | exact absurd rfl hb)).trans ?_
  unfold group rows
  congr 1
  have e : ((j 1).val / 128 + 32 * (j 0).val) % 8192 = 32 * (j 0).val + (j 1).val / 128 := by omega
  funext a
  fin_cases a
  · exact Fin.ext e
  · rfl

/-- The body's arithmetic, a row and a column at a time. -/
theorem product_apply (x0 : Vec Ideal S8192x128 .f32) (x1 : Vec Ideal S1x4096x1024 .bf16) (x2 : Vec Ideal S1x1x1024 .f32) (x3 : Vec Ideal S1x512x4096 .bf16) (x4 : Vec Ideal S1x1x4096 .f32)
    (q : S256x4096.Idx) : product x0 x1 x2 x3 x4 q
      = Expert.output (fun k => rows x0 (ix2 (q 0) k)) (fun k f => x1 (ix3 0 k f)) (fun f => x2 (ix3 0 0 f)) (fun f j => x3 (ix3 0 f j)) (fun j => x4 (ix3 0 0 j)) (q 1) := by
  unfold product k0_pay39
  rw [shapeCast_self, shapeCast_self, concat_groups]
  pointwise [Expert.output, Expert.unit, Expert.hidden]

/-! Where the elements of each window's block lie in its array. -/

/-- Where a word of the block of rows lies in its array: the word that a window's block reads at `y` is the array's at `k`. The other windows follow. -/
theorem point_0 (a : (pcfg0 (F := Ideal)).Adm) (A : Vec Ideal S1310720x128 .f32) (t : Fin (cfg0 a).N) (y : S8192x128.Idx) (k : S1310720x128.Idx)
    (h0 : (k 0).val = cc0_transform_0 inb_S1_S1_0 numel1_S1 a.1 (grid0.coords t) 0 * 8192 + (y 0).val)
    (h1 : (k 1).val = cc0_transform_0 inb_S1_S1_0 numel1_S1 a.1 (grid0.coords t) 1 * 128 + (y 1).val) :
    (((cfg0 a).win 0).blk t).view.read (Elt Ideal) A y = A k := by
  show A ((((cfg0 a).win 0).blk t).view.emb y) = A k
  congr 1
  funext b
  fin_cases b
  · refine Fin.ext ((?_ : _ = _).trans h0.symm)
    show cc0_transform_0 inb_S1_S1_0 numel1_S1 a.1 (grid0.coords t) 0 * 8192 + 1 * (y 0).val = _
    omega
  · refine Fin.ext ((?_ : _ = _).trans h1.symm)
    show cc0_transform_0 inb_S1_S1_0 numel1_S1 a.1 (grid0.coords t) 1 * 128 + 1 * (y 1).val = _
    omega

theorem point_1 (a : (pcfg0 (F := Ideal)).Adm) (A : Vec Ideal S32x4096x1024 .bf16) (t : Fin (cfg0 a).N) (y : S1x4096x1024.Idx) (k : S32x4096x1024.Idx)
    (h0 : (k 0).val = (expertAt a.1 (grid0.coords t)).toNat) (h1 : (k 1).val = (y 1).val) (h2 : (k 2).val = (y 2).val) :
    (((cfg0 a).win 1).blk t).view.read (Elt Ideal) A y = A k := by
  have hy : (y 0).val < 1 := (y 0).isLt
  show A ((((cfg0 a).win 1).blk t).view.emb y) = A k
  congr 1
  funext b
  fin_cases b
  · refine Fin.ext ((?_ : _ = _).trans h0.symm)
    show (expertAt a.1 (grid0.coords t)).toNat * 1 + 1 * (y 0).val = _
    omega
  · refine Fin.ext ((?_ : _ = _).trans h1.symm)
    show 0 * 4096 + 1 * (y 1).val = _
    omega
  · refine Fin.ext ((?_ : _ = _).trans h2.symm)
    show 0 * 1024 + 1 * (y 2).val = _
    omega

theorem point_2 (a : (pcfg0 (F := Ideal)).Adm) (A : Vec Ideal S32x1x1024 .f32) (t : Fin (cfg0 a).N) (y : S1x1x1024.Idx) (k : S32x1x1024.Idx)
    (h0 : (k 0).val = (expertAt a.1 (grid0.coords t)).toNat) (h1 : (k 1).val = (y 1).val) (h2 : (k 2).val = (y 2).val) :
    (((cfg0 a).win 2).blk t).view.read (Elt Ideal) A y = A k := by
  have hy : (y 0).val < 1 := (y 0).isLt
  show A ((((cfg0 a).win 2).blk t).view.emb y) = A k
  congr 1
  funext b
  fin_cases b
  · refine Fin.ext ((?_ : _ = _).trans h0.symm)
    show (expertAt a.1 (grid0.coords t)).toNat * 1 + 1 * (y 0).val = _
    omega
  · refine Fin.ext ((?_ : _ = _).trans h1.symm)
    show 0 * 1 + 1 * (y 1).val = _
    omega
  · refine Fin.ext ((?_ : _ = _).trans h2.symm)
    show 0 * 1024 + 1 * (y 2).val = _
    omega

theorem point_3 (a : (pcfg0 (F := Ideal)).Adm) (A : Vec Ideal S32x512x4096 .bf16) (t : Fin (cfg0 a).N) (y : S1x512x4096.Idx) (k : S32x512x4096.Idx)
    (h0 : (k 0).val = (expertAt a.1 (grid0.coords t)).toNat) (h1 : (k 1).val = (y 1).val) (h2 : (k 2).val = (y 2).val) :
    (((cfg0 a).win 3).blk t).view.read (Elt Ideal) A y = A k := by
  have hy : (y 0).val < 1 := (y 0).isLt
  show A ((((cfg0 a).win 3).blk t).view.emb y) = A k
  congr 1
  funext b
  fin_cases b
  · refine Fin.ext ((?_ : _ = _).trans h0.symm)
    show (expertAt a.1 (grid0.coords t)).toNat * 1 + 1 * (y 0).val = _
    omega
  · refine Fin.ext ((?_ : _ = _).trans h1.symm)
    show 0 * 512 + 1 * (y 1).val = _
    omega
  · refine Fin.ext ((?_ : _ = _).trans h2.symm)
    show 0 * 4096 + 1 * (y 2).val = _
    omega

theorem point_4 (a : (pcfg0 (F := Ideal)).Adm) (A : Vec Ideal S32x1x4096 .f32) (t : Fin (cfg0 a).N) (y : S1x1x4096.Idx) (k : S32x1x4096.Idx)
    (h0 : (k 0).val = (expertAt a.1 (grid0.coords t)).toNat) (h1 : (k 1).val = (y 1).val) (h2 : (k 2).val = (y 2).val) :
    (((cfg0 a).win 4).blk t).view.read (Elt Ideal) A y = A k := by
  have hy : (y 0).val < 1 := (y 0).isLt
  show A ((((cfg0 a).win 4).blk t).view.emb y) = A k
  congr 1
  funext b
  fin_cases b
  · refine Fin.ext ((?_ : _ = _).trans h0.symm)
    show (expertAt a.1 (grid0.coords t)).toNat * 1 + 1 * (y 0).val = _
    omega
  · refine Fin.ext ((?_ : _ = _).trans h1.symm)
    show 0 * 1 + 1 * (y 1).val = _
    omega
  · refine Fin.ext ((?_ : _ = _).trans h2.symm)
    show 0 * 4096 + 1 * (y 2).val = _
    omega

/-- The grid's points are its one coordinate. -/
theorem coords_val : ∀ t : Fin grid0.N, (grid0.coords t 0).val = t.val := by decide +kernel

theorem point_5 (a : (pcfg0 (F := Ideal)).Adm) (t : Fin (cfg0 a).N) (y : S8192x128.Idx) (k : S1310720x128.Idx)
    (h0 : (k 0).val = t.val * 8192 + (y 0).val) (h1 : (k 1).val = (y 1).val) : ((((cfg0 a).win 5).blk t).view.emb y : S1310720x128.Idx) = k := by
  have ht : (BitVec.ofNat 32 (grid0.coords t 0).val).toNat = t.val := by
    have h : t.val < 160 := t.isLt
    rw [coords_val t, BitVec.toNat_ofNat]; omega
  funext b
  fin_cases b
  · refine Fin.ext ((?_ : _ = _).trans h0.symm)
    show (BitVec.ofNat 32 (grid0.coords t 0).val).toNat * 8192 + 1 * (y 0).val = _
    rw [ht]; omega
  · refine Fin.ext ((?_ : _ = _).trans h1.symm)
    show 0 * 128 + 1 * (y 1).val = _
    omega

/-- Every point writes its block of the result back. -/
theorem flush_out (a : (pcfg0 (F := Ideal)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The blocks written back cover the result. -/
theorem covers_out (a : (pcfg0 (F := Ideal)).Adm) : ((cfg0 a).win 5).Covers := by
  refine ⟨fun k => ?_, fun β => ?_⟩
  · fin_cases k
    · show 0 < 8192
      omega
    · show 0 < 128
      omega
  have h0 : (β (0 : Fin 2)).val < 160 := lt_of_lt_of_eq (β (0 : Fin 2)).isLt (show (1310720 + 8192 - 1) / 8192 = 160 from rfl)
  have h1 : (β (1 : Fin 2)).val < 1 := lt_of_lt_of_eq (β (1 : Fin 2)).isLt (show (128 + 128 - 1) / 128 = 1 from rfl)
  refine ⟨(⟨(β (0 : Fin 2)).val, h0⟩ : Fin grid0.N), flush_out a _, fun k => ⟨?_, .inl ?_⟩⟩
  · fin_cases k
    · show (BitVec.ofNat 32 (grid0.coords (⟨(β (0 : Fin 2)).val, h0⟩ : Fin grid0.N) 0).val).toNat = (β (0 : Fin 2)).val
      rw [coords_val, BitVec.toNat_ofNat]
      show (β (0 : Fin 2)).val % 2 ^ 32 = (β (0 : Fin 2)).val
      omega
    · show 0 = (β (1 : Fin 2)).val
      omega
  · rfl

/-- What the call leaves in its result: in a used block the output of the block's expert, a row of 4096 columns being 32
    rows of 128 lanes; zeros in the others. -/
def filled (X : Vec Ideal S1310720x128 .f32) (B : S160.Idx → BitVec 32) (N : S1.Idx → BitVec 32) (W : Vec Ideal S32x4096x1024 .bf16) (b : Vec Ideal S32x1x1024 .f32)
    (D : Vec Ideal S32x512x4096 .bf16) (bD : Vec Ideal S32x1x4096 .f32) : Vec Ideal S1310720x128 .f32 := fun i =>
  if (i 0).val / 8192 < (N (ix1 0)).toNat then
    Expert.output (fun k => X (ix2 ⟨32 * ((i 0).val / 32) + k.val / 128, by have h : (i 0).val < 1310720 := (i 0).isLt; omega⟩ ⟨k.val % 128, Nat.mod_lt _ (by decide)⟩))
      (fun k f => W (ix3 (Expert.expertOfRow B (i 0)) k f)) (fun f => b (ix3 (Expert.expertOfRow B (i 0)) 0 f)) (fun f j => D (ix3 (Expert.expertOfRow B (i 0)) f j)) (fun j => bD (ix3 (Expert.expertOfRow B (i 0)) 0 j))
      ⟨(i 0).val % 32 * 128 + (i 1).val, by have h : (i 1).val < 128 := (i 1).isLt; omega⟩
  else 0

variable (m : (ℓ : Loc nD τ sig) → Buf (Elt Ideal) ℓ) (ρ : Dev nD → PrngReg)

attribute [local irreducible] tbl

/-- The call leaves that. -/
theorem array (hO : Ok m) (hR : InRange (tbl m)) (c : Dev nD) : (dats m hO 0 c).arrAt 5 (cfgM m hO).N
    = filled (V m c main_v0) (tbl m 0) (tbl m 1) (V m c main_v1) (V m c main_v3) (V m c main_v2) (V m c main_v4) := by
  refine (dats m hO 0 c).arrAt_eq_of_covers 5 _ (covers_out (adm m hO)) fun t hf y => ?_
  have hn := (usedOf_range hR).2
  have ht : t.val < 160 := t.isLt
  have hy0 : (y (0 : Fin 2)).val < 8192 := (y (0 : Fin 2)).isLt
  have hy1 : (y (1 : Fin 2)).val < 128 := (y (1 : Fin 2)).isLt
  have hc : (grid0.coords t 0).val = t.val := coords_val t
  have hx : (dats m hO 0 c).after 5 t y = leaves m hO c t y := congrFun (after_5 m hO c t) y
  have hk := point_5 (adm m hO) t y (ix2 ⟨t.val * 8192 + (y (0 : Fin 2)).val, by omega⟩ ⟨(y (1 : Fin 2)).val, hy1⟩) rfl rfl
  refine Eq.trans hx (Eq.trans ?_ (congrArg (filled (V m c main_v0) (tbl m 0) (tbl m 1) (V m c main_v1) (V m c main_v3) (V m c main_v2) (V m c main_v4)) hk).symm)
  have hN : (tbl m 1 (ix1 0) : BitVec 32) = usedOf (tbl m) := (usedOf_eq (tbl m)).symm
  have hE : ∀ k : Fin 1310720, k.val = t.val * 8192 + (y (0 : Fin 2)).val → (Expert.expertOfRow (tbl m 0) k).val = (expertAt (tbl m) (grid0.coords t)).toNat := fun k hk => by
    have hlt := expertAt_lt hR (grid0.coords t)
    rw [expertAt_eq (tbl m) (grid0.coords t) (ix1 ⟨k.val / 8192, by omega⟩) (by show k.val / 8192 = _; omega)] at hlt ⊢
    exact Nat.mod_eq_of_lt hlt
  unfold leaves filled
  rw [count_eq (tbl m) c, hN]
  by_cases hu : t.val < (usedOf (tbl m)).toNat
  · rw [if_pos ((used_iff _ _ hn).mpr (by omega)), if_pos (by show (t.val * 8192 + (y (0 : Fin 2)).val) / 8192 < _; omega)]
    unfold spread
    refine (product_apply (iblk m hO c 0 t) (iblk m hO c 1 t) (iblk m hO c 2 t) (iblk m hO c 3 t) (iblk m hO c 4 t) _).trans ?_
    refine Expert.output_congr (fun k => ?_) (fun k f => ?_) (fun f => ?_) (fun f j => ?_) (fun j => ?_) ?_
    · refine point_0 (adm m hO) (V m c main_v0) t _ _ ?_ ?_
      · rw [rows_block hR]
        show 32 * ((t.val * 8192 + (y (0 : Fin 2)).val) / 32) + k.val / 128 = min (grid0.coords t 0).val ((usedOf (tbl m)).toNat - 1) * 8192 + (32 * ((y (0 : Fin 2)).val / 32) + k.val / 128)
        rw [hc, Nat.min_eq_left (by omega)]
        omega
      · rw [rows_block hR]
        show k.val % 128 = 0 * 128 + k.val % 128
        omega
    · exact point_1 (adm m hO) (V m c main_v1) t _ _ (hE _ rfl) rfl rfl
    · exact point_2 (adm m hO) (V m c main_v3) t _ _ (hE _ rfl) rfl rfl
    · exact point_3 (adm m hO) (V m c main_v2) t _ _ (hE _ rfl) rfl rfl
    · exact point_4 (adm m hO) (V m c main_v4) t _ _ (hE _ rfl) rfl rfl
    · show (y (0 : Fin 2)).val % 32 * 128 + (y (1 : Fin 2)).val = (t.val * 8192 + (y (0 : Fin 2)).val) % 32 * 128 + (y (1 : Fin 2)).val
      omega
  · rw [if_neg (fun h => hu (by have := (used_iff _ _ hn).mp h; omega)), if_neg (by show ¬ (t.val * 8192 + (y (0 : Fin 2)).val) / 8192 < _; omega)]
    pointwise [k0_pay8]

/-- Over the host's casts and reshapes, that is the formula of the arguments. -/
theorem filled_eq (X : FVec Ideal S40960x4096 .f32) (B : S160.Idx → BitVec 32) (N : S1.Idx → BitVec 32) (W : FVec Ideal S32x4096x1024 .f32) (b : FVec Ideal S32x1024 .f32)
    (D : FVec Ideal S32x512x4096 .f32) (bD : FVec Ideal S32x4096 .f32) :
    filled (shapeCast S1310720x128 X shapeCasts_S40960x4096_S1310720x128) B N (truncf (F := Ideal) .bf16 W bitsLt_bf16_f32) (shapeCast S32x1x1024 b shapeCasts_S32x1024_S32x1x1024)
      (truncf (F := Ideal) .bf16 D bitsLt_bf16_f32) (shapeCast S32x1x4096 bD shapeCasts_S32x4096_S32x1x4096) = Expert.result X B N W b D bD := by
  funext i
  unfold filled Expert.result
  by_cases hu : (i 0).val / 8192 < (N (ix1 0)).toNat
  · rw [if_pos hu, if_pos hu]
    refine Expert.output_congr (fun k => ?_) (fun k f => rfl) (fun f => ?_) (fun f j => rfl) (fun j => ?_) rfl
    · refine Idealize.ShloMosaic.shapeCast_apply _ _ _ _ ?_
      rw [Shape.rowMajor_val_two, Shape.rowMajor_val_two]
      show (i 0).val / 32 * 4096 + k.val = (32 * ((i 0).val / 32) + k.val / 128) * 128 + k.val % 128
      omega
    · refine Idealize.ShloMosaic.shapeCast_apply _ _ _ _ ?_
      rw [Shape.rowMajor_val_two, Shape.rowMajor_val_three]
      show (Expert.expertOfRow B (i 0)).val * 1024 + f.val = ((Expert.expertOfRow B (i 0)).val * 1 + 0) * 1024 + f.val
      omega
    · refine Idealize.ShloMosaic.shapeCast_apply _ _ _ _ ?_
      rw [Shape.rowMajor_val_two, Shape.rowMajor_val_three]
      show (Expert.expertOfRow B (i 0)).val * 4096 + j.val = ((Expert.expertOfRow B (i 0)).val * 1 + 0) * 4096 + j.val
      omega
  · rw [if_neg hu, if_neg hu]

/-- The result's array, from the arguments. -/
theorem array_result (hO : Ok m) (hR : InRange (tbl m)) (c : Dev nD) : (dats m hO 0 c).arrAt 5 (cfgM m hO).N
    = Expert.result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  have e0 : V m c main_v0 = shapeCast S1310720x128 (m ((c.tc : Thread nD τ).loc main_arg0)) shapeCasts_S40960x4096_S1310720x128 := by
    unfold V; after_results <;> rfl
  have e1 : V m c main_v1 = truncf (F := Ideal) .bf16 (m ((c.tc : Thread nD τ).loc main_arg3)) bitsLt_bf16_f32 := by
    unfold V; after_results <;> rfl
  have e2 : V m c main_v2 = truncf (F := Ideal) .bf16 (m ((c.tc : Thread nD τ).loc main_arg5)) bitsLt_bf16_f32 := by
    unfold V; after_results <;> rfl
  have e3 : V m c main_v3 = shapeCast S32x1x1024 (m ((c.tc : Thread nD τ).loc main_arg4)) shapeCasts_S32x1024_S32x1x1024 := by
    unfold V; after_results <;> rfl
  have e4 : V m c main_v4 = shapeCast S32x1x4096 (m ((c.tc : Thread nD τ).loc main_arg6)) shapeCasts_S32x4096_S32x1x4096 := by
    unfold V; after_results <;> rfl
  have t0 : tbl m 0 = m ((c.tc : Thread nD τ).loc main_arg1) := (V_pre m c 0).symm.trans (V_arg1 m c)
  have t1 : tbl m 1 = m ((c.tc : Thread nD τ).loc main_arg2) := (V_pre m c 1).symm.trans (V_arg2 m c)
  refine (array m hO hR c).trans ?_
  rw [e0, e1, e2, e3, e4, t0, t1]
  exact filled_eq _ _ _ _ _ _ _

/-- The run: the result holds the formula, and the arguments are as they were. -/
theorem run_result (hO : Ok m) (hR : InRange (tbl m)) : θ_run (defs (F := Ideal)) (onTc (τ := τ) (main (F := Ideal))) ⟨m, fun _ => 0, ρ⟩ (fun r => ∀ c : Dev nD,
      r.2.mem ((c.tc : Thread nD τ).loc main_v5)
        = Expert.result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 5).trans (array_result m hO hR c),
    ((h.1 c).2 main_arg0 (by decide : main_arg0 ∈ Pipeline.restRefs sig spec0)).trans (V_arg0 m c),
    ((h.1 c).2 main_arg1 (by decide : main_arg1 ∈ Pipeline.restRefs sig spec0)).trans (V_arg1 m c),
    ((h.1 c).2 main_arg2 (by decide : main_arg2 ∈ Pipeline.restRefs sig spec0)).trans (V_arg2 m c),
    ((h.1 c).2 main_arg3 (by decide : main_arg3 ∈ Pipeline.restRefs sig spec0)).trans (V_arg3 m c),
    ((h.1 c).2 main_arg4 (by decide : main_arg4 ∈ Pipeline.restRefs sig spec0)).trans (V_arg4 m c),
    ((h.1 c).2 main_arg5 (by decide : main_arg5 ∈ Pipeline.restRefs sig spec0)).trans (V_arg5 m c),
    ((h.1 c).2 main_arg6 (by decide : main_arg6 ∈ Pipeline.restRefs sig spec0)).trans (V_arg6 m c)⟩) (run_quiescent m ρ hO)

end Cert.Kernel5Ideal.Hand

end
-- ==== Proof.ExpertsReference.lean ====
/-
The reference of the experts, a row and a column at a time.
-/
module

public import proofs.«01_k».proof.Proof.Gen.Reference5Ideal.Run
public import proofs.«01_k».proof.Proof.ExpertsFormula
public import Idealize.ShloMosaic.Lib.Pointwise
public import Idealize.ShloMosaic.Lib.ValueLayout
public import Idealize.ShloMosaic.Lib.Routing.Ops

@[expose] public section

set_option maxRecDepth 16384

noncomputable section

namespace Cert.Reference5Ideal.Hand

open Cert.Reference5Ideal Cert.Reference5Ideal.Gen
open Idealize.ShloMosaic Idealize.ShloMosaic.TcCoe
open Idealize.SL Idealize.SL.Sem

/-- The experts' numbers as they index the weights: a negative one counts from the end. -/
def wrapped (B : IVec S160 32) : IVec S160x1 32 :=
  broadcastInDim S160x1 ![0] bcast_S160_S160x1_0 (select (cmpi .slt B (broadcastInDim S160 ![] bcast_S_S160 (constantI S_ 32 0#32))) (addi B (broadcastInDim S160 ![] bcast_S_S160 (constantI S_ 32 32#32))) B)

/-- No number in range is negative. -/
theorem wrapped_apply (B : IVec S160 32) (hB : ∀ x, (B x).toNat < 32) (n : Fin 160) : wrapped B (ix2 n 0) = B (ix1 n) := by
  have hsplat : ∀ (v : S_.Idx → BitVec 32) (x : S160.Idx), broadcastInDim S160 ![] bcast_S_S160 v x = v ix0 := fun v x =>
    Idealize.ShloMosaic.broadcastInDim_apply _ _ _ _ _ fun a => a.elim0
  unfold wrapped
  rw [Idealize.ShloMosaic.broadcastInDim_apply _ _ _ _ (ix1 n) (fun a => by fin_cases a; rfl)]
  have hb := hB (ix1 n)
  have hs : (B (ix1 n)).slt 0#32 = false := by
    simp only [BitVec.slt, BitVec.toInt, BitVec.toNat_ofNat]
    simp only [decide_eq_false_iff_not]
    omega
  simp only [select, cmpi, hsplat, IntOp.cmpi, constantI, hs]
  rfl

/-- The up projection of block `n` is that of its expert. -/
theorem up_apply (W : FVec Ideal S32x4096x1024 .f32) (I : IVec S160x1 32) (n : Fin 160) (k : Fin 4096) (f : Fin 1024) (e : Fin 32) (he : (I (ix2 n 0)).toNat = e.val) :
    Host.gather gather_S32x4096x1024_S160x1_S160x4096x1024_12_0_n_n_0_1_140961024 W I (ix3 n k f) = W (ix3 e k f) := by
  unfold Host.gather
  refine congrArg W (funext fun a => Fin.ext ?_)
  have hi : (I (ix2 n 0)).toInt.toNat = e.val := by
    have := e.isLt
    rw [BitVec.toInt_eq_toNat_of_lt (by omega)]
    omega
  have hs : gather_S32x4096x1024_S160x1_S160x4096x1024_12_0_n_n_0_1_140961024.siIdx (ix3 n k f) ⟨0, by decide⟩ = (ix2 n 0 : S160x1.Idx) := by
    funext b; fin_cases b <;> rfl
  fin_cases a
  · show min (I (gather_S32x4096x1024_S160x1_S160x4096x1024_12_0_n_n_0_1_140961024.siIdx (ix3 n k f) ⟨0, by decide⟩)).toInt.toNat 31 + 0 + 0 = e.val
    rw [hs]
    have := e.isLt
    omega
  · show 0 + 0 + k.val = k.val
    omega
  · show 0 + 0 + f.val = f.val
    omega

/-- The down projection of block `n` is that of its expert. -/
theorem down_apply (D : FVec Ideal S32x512x4096 .f32) (I : IVec S160x1 32) (n : Fin 160) (f : Fin 512) (j : Fin 4096) (e : Fin 32) (he : (I (ix2 n 0)).toNat = e.val) :
    Host.gather gather_S32x512x4096_S160x1_S160x512x4096_12_0_n_n_0_1_15124096 D I (ix3 n f j) = D (ix3 e f j) := by
  unfold Host.gather
  refine congrArg D (funext fun a => Fin.ext ?_)
  have hi : (I (ix2 n 0)).toInt.toNat = e.val := by
    have := e.isLt
    rw [BitVec.toInt_eq_toNat_of_lt (by omega)]
    omega
  have hs : gather_S32x512x4096_S160x1_S160x512x4096_12_0_n_n_0_1_15124096.siIdx (ix3 n f j) ⟨0, by decide⟩ = (ix2 n 0 : S160x1.Idx) := by
    funext b; fin_cases b <;> rfl
  fin_cases a
  · show min (I (gather_S32x512x4096_S160x1_S160x512x4096_12_0_n_n_0_1_15124096.siIdx (ix3 n f j) ⟨0, by decide⟩)).toInt.toNat 31 + 0 + 0 = e.val
    rw [hs]
    have := e.isLt
    omega
  · show 0 + 0 + f.val = f.val
    omega
  · show 0 + 0 + j.val = j.val
    omega

/-- The expert of block `n`. -/
def expertOf (B : IVec S160 32) (n : Fin 160) : Fin 32 := ⟨(B (ix1 n)).toNat % 32, Nat.mod_lt _ (by decide)⟩

/-- The word that indexes the weights is the number of the block's expert. -/
theorem wrapped_toNat (B : IVec S160 32) (hB : ∀ x, (B x).toNat < 32) (n : Fin 160) : (wrapped B (ix2 n 0)).toNat = (expertOf B n).val := by
  rw [wrapped_apply B hB n]
  exact (Nat.mod_eq_of_lt (hB _)).symm

theorem wrapped_word (B : IVec S160 32) (hB : ∀ x, (B x).toNat < 32) (n : Fin 160) : wrapped B (ix2 n 0) = BitVec.ofNat 32 (expertOf B n).val := by
  rw [← wrapped_toNat B hB n, BitVec.ofNat_toNat, BitVec.setWidth_eq]

/-- The rows of the blocks: 256 rows to a block. -/
theorem blocks_eq (X : FVec Ideal S40960x4096 .f32) : (shapeCast _ X shapeCasts_S40960x4096_S160x256x4096 : FVec Ideal S160x256x4096 .f32)
    = fun i => X (ix2 ⟨(i 0).val * 256 + (i 1).val, by have h0 : (i 0).val < 160 := (i 0).isLt; have h1 : (i 1).val < 256 := (i 1).isLt; omega⟩ ⟨(i 2).val, (i 2).isLt⟩) := by
  funext i
  refine Idealize.ShloMosaic.shapeCast_apply _ _ _ _ ?_
  rw [Shape.rowMajor_val_two, Shape.rowMajor_val_three]
  rfl

/-- The gathered up projections, as a whole. -/
theorem up_eq (W : FVec Ideal S32x4096x1024 .f32) (B : IVec S160 32) (hB : ∀ x, (B x).toNat < 32) :
    Host.gather gather_S32x4096x1024_S160x1_S160x4096x1024_12_0_n_n_0_1_140961024 W (wrapped B)
      = fun i => W (ix3 (expertOf B ⟨(i 0).val, (i 0).isLt⟩) ⟨(i 1).val, (i 1).isLt⟩ ⟨(i 2).val, (i 2).isLt⟩) := by
  funext i
  obtain ⟨a, b, c, rfl⟩ : ∃ a b c, i = ix3 a b c := ⟨_, _, _, Idealize.ShloMosaic.ValueIdx.eq_ix3 i⟩
  exact up_apply W _ a b c _ (wrapped_toNat B hB a)

/-- The gathered down projections. -/
theorem down_eq (D : FVec Ideal S32x512x4096 .f32) (B : IVec S160 32) (hB : ∀ x, (B x).toNat < 32) :
    Host.gather gather_S32x512x4096_S160x1_S160x512x4096_12_0_n_n_0_1_15124096 D (wrapped B)
      = fun i => D (ix3 (expertOf B ⟨(i 0).val, (i 0).isLt⟩) ⟨(i 1).val, (i 1).isLt⟩ ⟨(i 2).val, (i 2).isLt⟩) := by
  funext i
  obtain ⟨a, b, c, rfl⟩ : ∃ a b c, i = ix3 a b c := ⟨_, _, _, Idealize.ShloMosaic.ValueIdx.eq_ix3 i⟩
  exact down_apply D _ a b c _ (wrapped_toNat B hB a)

/-- The gathered biases of the first product. -/
theorem upBias_eq (b : FVec Ideal S32x1024 .f32) (B : IVec S160 32) (hB : ∀ x, (B x).toNat < 32) :
    Host.gather gather_S32x1024_S160x1_S160x1024_1_0_n_n_0_1_11024 b (wrapped B)
      = fun i => b (ix2 (expertOf B ⟨(i 0).val, (i 0).isLt⟩) ⟨(i 1).val, (i 1).isLt⟩) := by
  funext i
  obtain ⟨n, f, rfl⟩ : ∃ n f, i = ix2 n f := ⟨_, _, Idealize.ShloMosaic.ValueIdx.eq_ix2 i⟩
  exact Routing.gather_row gather_S32x1024_S160x1_S160x1024_1_0_n_n_0_1_11024 rfl rfl rfl rfl rfl b (wrapped B) n f _ (wrapped_word B hB n) (by decide)

/-- The gathered biases of the second. -/
theorem downBias_eq (b : FVec Ideal S32x4096 .f32) (B : IVec S160 32) (hB : ∀ x, (B x).toNat < 32) :
    Host.gather gather_S32x4096_S160x1_S160x4096_1_0_n_n_0_1_14096 b (wrapped B)
      = fun i => b (ix2 (expertOf B ⟨(i 0).val, (i 0).isLt⟩) ⟨(i 1).val, (i 1).isLt⟩) := by
  funext i
  obtain ⟨n, f, rfl⟩ : ∃ n f, i = ix2 n f := ⟨_, _, Idealize.ShloMosaic.ValueIdx.eq_ix2 i⟩
  exact Routing.gather_row gather_S32x4096_S160x1_S160x4096_1_0_n_n_0_1_14096 rfl rfl rfl rfl rfl b (wrapped B) n f _ (wrapped_word B hB n) (by decide)

/-- The first product of every block, with its expert's bias. -/
def hiddens (X : FVec Ideal S40960x4096 .f32) (B : IVec S160 32) (W : FVec Ideal S32x4096x1024 .f32) (b : FVec Ideal S32x1024 .f32) : FVec Ideal S160x256x1024 .f32 :=
  addf (Host.dotGeneral dot_S160x256x4096_S160x4096x1024_S160x256x1024_2_1_1_2_0_0 none (shapeCast _ X shapeCasts_S40960x4096_S160x256x4096)
      (Host.gather gather_S32x4096x1024_S160x1_S160x4096x1024_12_0_n_n_0_1_140961024 W (wrapped B)))
    (broadcastInDim S160x256x1024 ![0, 1, 2] bcast_S160x1x1024_S160x256x1024_0_1_2 (broadcastInDim S160x1x1024 ![0, 2] bcast_S160x1024_S160x1x1024_0_2
      (Host.gather gather_S32x1024_S160x1_S160x1024_1_0_n_n_0_1_11024 b (wrapped B))))

/-- The limited gated unit of every block. -/
def units (H : FVec Ideal S160x256x1024 .f32) : FVec Ideal S160x256x512 .f32 :=
  mulf (mulf (minimumf (extractStridedSlice S160x256x512 ![0, 0, 0] H slices_S160x256x1024_S160x256x512_0_0_0) (broadcastInDim S160x256x512 ![] bcast_S_S160x256x512 (constant S_ .f32 0x40E00000#32)))
      (Host.divf (broadcastInDim S160x256x512 ![] bcast_S_S160x256x512 (constant S_ .f32 0x3F800000#32)) (addf (broadcastInDim S160x256x512 ![] bcast_S_S160x256x512 (constant S_ .f32 0x3F800000#32))
        (Host.exp (Host.negf (mulf (broadcastInDim S160x256x512 ![] bcast_S_S160x256x512 (constant S_ .f32 0x3FD9DB23#32))
          (minimumf (extractStridedSlice S160x256x512 ![0, 0, 0] H slices_S160x256x1024_S160x256x512_0_0_0) (broadcastInDim S160x256x512 ![] bcast_S_S160x256x512 (constant S_ .f32 0x40E00000#32)))))))))
    (addf (minimumf (broadcastInDim S160x256x512 ![] bcast_S_S160x256x512 (id (constant S_ .f32 0x40E00000#32))) (maximumf (broadcastInDim S160x256x512 ![] bcast_S_S160x256x512 (id (constant S_ .f32 0xC0E00000#32)))
        (extractStridedSlice S160x256x512 ![0, 0, 512] H slices_S160x256x1024_S160x256x512_0_0_512))) (broadcastInDim S160x256x512 ![] bcast_S_S160x256x512 (constant S_ .f32 0x3F800000#32)))

/-- The second product of every block, with its expert's bias. -/
def outputs (U : FVec Ideal S160x256x512 .f32) (B : IVec S160 32) (D : FVec Ideal S32x512x4096 .f32) (bD : FVec Ideal S32x4096 .f32) : FVec Ideal S160x256x4096 .f32 :=
  addf (Host.dotGeneral dot_S160x256x512_S160x512x4096_S160x256x4096_2_1_1_2_0_0 none U (Host.gather gather_S32x512x4096_S160x1_S160x512x4096_12_0_n_n_0_1_15124096 D (wrapped B)))
    (broadcastInDim S160x256x4096 ![0, 1, 2] bcast_S160x1x4096_S160x256x4096_0_1_2 (broadcastInDim S160x1x4096 ![0, 2] bcast_S160x4096_S160x1x4096_0_2
      (Host.gather gather_S32x4096_S160x1_S160x4096_1_0_n_n_0_1_14096 bD (wrapped B))))

/-- The condition that a block is used. -/
def usedBlocks (N : IVec S1 32) : IVec S160x256x4096 1 :=
  broadcastInDim S160x256x4096 ![0, 1, 2] bcast_S160x1x1_S160x256x4096_0_1_2 (cmpi .slt (broadcastInDim S160x1x1 ![0] bcast_S160_S160x1x1_0 (iotaInDim S160 32 0))
    (broadcastInDim S160x1x1 ![0, 1, 2] bcast_S1x1x1_S160x1x1_0_1_2 (broadcastInDim S1x1x1 ![2] bcast_S1_S1x1x1_2 N)))

/-- Zeros for every block. -/
def zeros : FVec Ideal S160x256x4096 .f32 := broadcastInDim S160x256x4096 ![] bcast_S_S160x256x4096 (id (constant S_ .f32 0x00000000#32))

/-- A word of the first product is the formula's, over its row and its block's expert. -/
theorem hiddens_apply (X : FVec Ideal S40960x4096 .f32) (B : IVec S160 32) (hB : ∀ x, (B x).toNat < 32) (W : FVec Ideal S32x4096x1024 .f32) (b : FVec Ideal S32x1024 .f32)
    (n : Fin 160) (r : Fin 256) (f : Fin 1024) : hiddens X B W b (ix3 n r f)
      = Expert.hidden (fun k => X (ix2 ⟨n.val * 256 + r.val, by omega⟩ k)) (fun k f => W (ix3 (expertOf B n) k f)) (fun f => b (ix2 (expertOf B n) f)) f := by
  unfold hiddens
  rw [blocks_eq, up_eq W B hB, upBias_eq b B hB]
  pointwise [Expert.hidden]

/-- A word of the unit is the formula's; the reference spells the logistic function out. -/
theorem units_apply (H : FVec Ideal S160x256x1024 .f32) (n : Fin 160) (r : Fin 256) (f : Fin 512) : units H (ix3 n r f) = Expert.unit (fun f => H (ix3 n r f)) f := by
  unfold units
  pointwise [Expert.unit]
  simp only [Ideal.logistic]
  rfl

/-- A word of the second product is a sum over the unit's words. -/
theorem outputs_apply (U : FVec Ideal S160x256x512 .f32) (B : IVec S160 32) (hB : ∀ x, (B x).toNat < 32) (D : FVec Ideal S32x512x4096 .f32) (bD : FVec Ideal S32x4096 .f32)
    (n : Fin 160) (r : Fin 256) (j : Fin 4096) : outputs U B D bD (ix3 n r j) = ∑ f : Fin 512, U (ix3 n r f) * D (ix3 (expertOf B n) f j) + bD (ix2 (expertOf B n) j) := by
  unfold outputs
  rw [down_eq D B hB, downBias_eq bD B hB]
  pointwise

/-- The condition compares the block's number with the number of used blocks. -/
theorem usedBlocks_apply (N : IVec S1 32) (hN : ∀ x, (N x).toNat ≤ 160) (n : Fin 160) (r : Fin 256) (j : Fin 4096) : usedBlocks N (ix3 n r j) = 1#1 ↔ n.val < (N (ix1 0)).toNat := by
  have e : usedBlocks N (ix3 n r j) = IntOp.cmpi .slt (BitVec.ofNat 32 n.val) (N (ix1 0)) := by
    unfold usedBlocks
    pointwise
  have h := hN (ix1 0)
  have hn := n.isLt
  rw [e]
  show BitVec.ofBool ((BitVec.ofNat 32 n.val).slt (N (ix1 0))) = 1#1 ↔ _
  have hs : (BitVec.ofNat 32 n.val).slt (N (ix1 0)) = decide (n.val < (N (ix1 0)).toNat) := by
    unfold BitVec.slt
    rw [BitVec.toInt_eq_toNat_of_lt (by rw [BitVec.toNat_ofNat]; omega), BitVec.toInt_eq_toNat_of_lt (by omega), BitVec.toNat_ofNat]
    refine decide_eq_decide.mpr ?_
    omega
  rw [hs]
  by_cases hl : n.val < (N (ix1 0)).toNat
  · simp [hl]
  · simp [hl]

theorem zeros_apply (i : S160x256x4096.Idx) : zeros i = 0 := by
  unfold zeros
  dsimp only [id]
  pointwise

/-- The reference's array, in these terms. -/
def composed (X : FVec Ideal S40960x4096 .f32) (B : IVec S160 32) (N : IVec S1 32) (W : FVec Ideal S32x4096x1024 .f32) (b : FVec Ideal S32x1024 .f32) (D : FVec Ideal S32x512x4096 .f32)
    (bD : FVec Ideal S32x4096 .f32) : FVec Ideal S1310720x128 .f32 :=
  shapeCast _ (select (usedBlocks N) (outputs (units (hiddens X B W b)) B D bD) zeros) shapeCasts_S160x256x4096_S1310720x128

/-- The reference's array is the formula: a row of lanes lies in the block, the row and the columns its number says. -/
theorem composed_eq (X : FVec Ideal S40960x4096 .f32) (B : IVec S160 32) (N : IVec S1 32) (W : FVec Ideal S32x4096x1024 .f32) (b : FVec Ideal S32x1024 .f32) (D : FVec Ideal S32x512x4096 .f32)
    (bD : FVec Ideal S32x4096 .f32) (hB : ∀ x, (B x).toNat < 32) (hN : ∀ x, (N x).toNat ≤ 160) : composed X B N W b D bD = Expert.result X B N W b D bD := by
  funext i
  obtain ⟨p, l, rfl⟩ : ∃ p l, i = ix2 p l := ⟨_, _, Idealize.ShloMosaic.ValueIdx.eq_ix2 i⟩
  have hp : p.val < 1310720 := p.isLt
  have hl : l.val < 128 := l.isLt
  unfold composed
  rw [Idealize.ShloMosaic.shapeCast_apply _ _ _ (ix3 (⟨p.val / 8192, by omega⟩ : Fin 160) (⟨p.val / 32 % 256, by omega⟩ : Fin 256) (⟨p.val % 32 * 128 + l.val, by omega⟩ : Fin 4096) : S160x256x4096.Idx)
    (by
      rw [Shape.rowMajor_val_two, Shape.rowMajor_val_three]
      show (p.val / 8192 * 256 + p.val / 32 % 256) * 4096 + (p.val % 32 * 128 + l.val) = p.val * 128 + l.val
      omega)]
  have hu := usedBlocks_apply N hN ⟨p.val / 8192, by omega⟩ ⟨p.val / 32 % 256, by omega⟩ ⟨p.val % 32 * 128 + l.val, by omega⟩
  show Scalar.select (usedBlocks N _) (outputs (units (hiddens X B W b)) B D bD _) (zeros _) = if p.val / 8192 < (N (ix1 0)).toNat then _ else 0
  by_cases h : p.val / 8192 < (N (ix1 0)).toNat
  · rw [if_pos h, hu.mpr h]
    show outputs _ _ _ _ _ = _
    rw [outputs_apply _ B hB]
    simp only [units_apply, hiddens_apply X B hB W b]
    have hr : (⟨p.val / 8192 * 256 + p.val / 32 % 256, by omega⟩ : Fin 40960) = ⟨p.val / 32, by omega⟩ := Fin.ext (by show p.val / 8192 * 256 + p.val / 32 % 256 = p.val / 32; omega)
    rw [hr]
    rfl
  · have hz : ∀ q : BitVec 1, ¬ q = 1#1 → q = 0#1 := by decide
    rw [if_neg h, hz _ (mt hu.mp h)]
    exact zeros_apply (ix3 (⟨p.val / 8192, by omega⟩ : Fin 160) (⟨p.val / 32 % 256, by omega⟩ : Fin 256) (⟨p.val % 32 * 128 + l.val, by omega⟩ : Fin 4096))

open Cert.Reference5Ideal.Value in
/-- The reference's term is its array in these terms. -/
theorem result_composed (m : (ℓ : Loc nD τ sig) → Buf (Elt Ideal) ℓ) (c : Dev nD) : res_main_v60 m c
    = composed (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  unfold res_main_v60
  rfl

end Cert.Reference5Ideal.Hand

end
-- ==== Proof.Conditioning.lean ====
/-
  The scales, the shifts and the gates of both layers, which the conditioning vector gives: what the region leaves in its array, as
  a formula of the arrays it reads; the formula over the host's lines; and that the reference's term is that formula.
-/
module

public import proofs.«01_k».proof.Proof.Gen.Kernel6Ideal.Frame
public import Idealize.ShloMosaic.Lib.Pipeline.ValueKit
public import Idealize.ShloMosaic.Lib.Pointwise
public import Idealize.ShloMosaic.Lib.KernelVsHost
public import Idealize.ShloMosaic.Lib.ValueLayout
public import proofs.«01_k».proof.Proof.Gen.Reference6Ideal.Run

@[expose] public section

set_option maxRecDepth 16384

noncomputable section

namespace Cert.Kernel6Ideal.Hand

open Cert.Kernel6Ideal Cert.Kernel6Ideal.Gen Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg) (c : Dev nD)

/-- Which block each window is on: the conditioning vectors are one block; the layer and the columns name the others. -/
theorem index : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val] :=
  (by decide +kernel : ∀ t : Fin grid0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val])

/-- A vector times its logistic, element by element, then the layer's product and its bias. -/
def modulated (v : Vec Ideal S8x4096 .f32) (w : Vec Ideal S2x4096x24576 .f32) (b : Vec Ideal S2x1x24576 .f32) : Vec Ideal S2x8x24576 .f32 :=
  fun i => (∑ k : Fin 4096, v (ix2 (i 1) k) * Ideal.logistic (v (ix2 (i 1) k)) * w (ix3 (i 0) k (i 2))) + b (ix3 (i 0) 0 (i 2))

/-- The region fills its array with that, block by block. -/
theorem array : (dats m 0 c).arrAt 3 cfg0.N = modulated (V m c main_v0) (V m c main_arg1) (V m c main_v1) := by
  refine (dats m 0 c).arrAt_eq_of_covers 3 _ (by decide +kernel) fun t hf y => ?_
  blk_simp
  rw [after0_3]
  frame_out
  pointwise [k0_pay1, modulated]
  blk_point [iblk, index t]

/-- The vectors, six rows of zeros below them. -/
def padded (v : FVec Ideal S2x4096 .f32) : FVec Ideal S8x4096 .f32 :=
  pad S8x4096 ![0, 0] ![6, 0] ![0, 0] v (sitofp (F := Ideal) .f32 (constantI S_ 32 0#32)) pads_S2x4096_S8x4096_060_000 h_S_

/-- What the region and the host's lines leave in the result, from the arguments. -/
def result (v : FVec Ideal S2x4096 .f32) (w : FVec Ideal S2x4096x24576 .f32) (b : FVec Ideal S2x24576 .f32) : FVec Ideal S2x2x24576 .f32 :=
  extractStridedSlice S2x2x24576 ![0, 0, 0] (modulated (padded v) w (shapeCast S2x1x24576 b shapeCasts_S2x24576_S2x1x24576)) slices_S2x8x24576_S2x2x24576_0_0_0

/-- So the result's buffer holds it at the end. -/
theorem tail_result : Pipeline.afterTail₀ cfgs (dats m) 0 (V0 m) [hostOps1] c main_v3
    = result (m ((c.tc : Thread nD τ).loc main_arg0)) (m ((c.tc : Thread nD τ).loc main_arg1)) (m ((c.tc : Thread nD τ).loc main_arg2)) := by
  have e2 := (Pipeline.withArrays_arr spec0 launch0.win.arr_inj c (V0 m c) (fun w => (dats m 0 c).arrAt w cfg0.N) 3).trans (array m c)
  have e0 : V m c main_v0 = padded (m ((c.tc : Thread nD τ).loc main_arg0)) := by
    simp only [V, V0, hostOps0, hostOps0_1, hostOps0_2, List.flatten_cons, List.flatten_nil, List.append_nil, List.cons_append, List.nil_append, StableHlo.TRef.binary, StableHlo.TRef.unary,
      StableHlo.TRef.toBuf, StableHlo.TRef.ofBuf, cast_eq]
    after_results <;> rfl
  have e1 : V m c main_v1 = shapeCast S2x1x24576 (m ((c.tc : Thread nD τ).loc main_arg2)) shapeCasts_S2x24576_S2x1x24576 := by
    simp only [V, V0, hostOps0, hostOps0_1, hostOps0_2, List.flatten_cons, List.flatten_nil, List.append_nil, List.cons_append, List.nil_append, StableHlo.TRef.binary, StableHlo.TRef.unary,
      StableHlo.TRef.toBuf, StableHlo.TRef.ofBuf, cast_eq]
    after_results <;> rfl
  rw [e0, e1, V_main_arg1 m c] at e2
  have e3 : Pipeline.afterTail₀ cfgs (dats m) 0 (V0 m) [hostOps1] c main_v3
      = extractStridedSlice S2x2x24576 ![0, 0, 0] (Pipeline.withArrays spec0 c (V0 m c) (fun w => (dats m 0 c).arrAt w cfg0.N) (Proc.devRef .tc (Pipeline.arrRef spec0 3))) slices_S2x8x24576_S2x2x24576_0_0_0 := by
    unfold Pipeline.afterTail₀; after_results <;> rfl
  refine e3.trans ?_
  exact congrArg (fun x => extractStridedSlice S2x2x24576 ![0, 0, 0] x slices_S2x8x24576_S2x2x24576_0_0_0) e2

/-- The run: the result holds `result` of the arguments, and the arguments are as they were. -/
theorem run_result : θ_run (defs (F := Ideal)) (onTc (τ := τ) (main (F := Ideal))) ⟨m, fun _ => 0, ρ⟩ (fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v3 (Pipeline.mem_restRefs_of main_v3 (by decide) (by decide))).trans (tail_result m c), h.2 c⟩)
    (θ_run_and (run_main m ρ) (unchanged m ρ))

end Cert.Kernel6Ideal.Hand

namespace Cert.Reference6Ideal.Hand

open Cert.Reference6Ideal Cert.Reference6Ideal.Gen Idealize.ShloMosaic Idealize.ShloMosaic.TcCoe

/-- The reference's array: the vectors times their logistics, the product with both layers' matrices, and the biases. -/
def composed (v : FVec Ideal S2x4096 .f32) (w : FVec Ideal S2x4096x24576 .f32) (b : FVec Ideal S2x24576 .f32) : FVec Ideal S2x2x24576 .f32 :=
  addf (transpose S2x2x24576 [0, 2, 1] (Host.dotGeneral dot_S2x4096x24576_S2x4096_S2x24576x2_1_1_02_0_n_n none w
      (mulf v (Host.divf (broadcastInDim S2x4096 ![] bcast_S_S2x4096 (constant S_ .f32 0x3F800000#32))
        (addf (broadcastInDim S2x4096 ![] bcast_S_S2x4096 (constant S_ .f32 0x3F800000#32)) (Host.exp (Host.negf v)))))) transposes_S2x24576x2_S2x2x24576_0_2_1)
    (broadcastInDim S2x2x24576 ![0, 1, 2] bcast_S2x1x24576_S2x2x24576_0_1_2 (broadcastInDim S2x1x24576 ![0, 2] bcast_S2x24576_S2x1x24576_0_2 b))

open Cert.Kernel6Ideal.Hand in
/-- The reference multiplies from the other side, and has no rows of zeros to cut off. -/
theorem composed_eq (v : FVec Ideal S2x4096 .f32) (w : FVec Ideal S2x4096x24576 .f32) (b : FVec Ideal S2x24576 .f32) :
    composed v w b = result v w b := by
  funext i
  pointwise [composed, result, modulated, padded]
  simp only [Ideal.logistic]
  exact congrArg (fun x : EReal => x + b (ix2 (i 0) (i 2))) (Finset.sum_congr rfl fun k _ => mul_comm _ _)

end Cert.Reference6Ideal.Hand

end
-- ==== Proof.Conv.lean ====
/-
  The gated convolution: what the region leaves in its array, as a formula of the arrays it reads; the formula over the host's
  lines; and that the reference's term is that formula.
-/
module

public import proofs.«01_k».proof.Proof.Gen.Kernel7Ideal.Frame
public import Idealize.ShloMosaic.Lib.Pipeline.ValueKit
public import Idealize.ShloMosaic.Lib.Pointwise
public import Idealize.ShloMosaic.Lib.KernelVsHost
public import Idealize.ShloMosaic.Lib.ValueLayout
public import proofs.«01_k».proof.Proof.Gen.Reference7Ideal.Run

@[expose] public section

set_option maxRecDepth 16384

noncomputable section

namespace Cert.Kernel7Ideal.Hand

open Cert.Kernel7Ideal Cert.Kernel7Ideal.Gen Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg) (c : Dev nD)

/-- Which block each window is on: the batch, and the column block of the gate, of the two factors and of the weights. -/
theorem index : ∀ t : Fin cfg0.N, win0_0.index t = ![(grid0.coords t 0).val, (grid0.coords t 1).val] ∧ win0_1.index t = ![(grid0.coords t 0).val, 4 + (grid0.coords t 1).val]
    ∧ win0_2.index t = ![(grid0.coords t 0).val, 8 + (grid0.coords t 1).val] ∧ win0_3.index t = ![0, (grid0.coords t 1).val] ∧ win0_4.index t = ![(grid0.coords t 0).val, (grid0.coords t 1).val] :=
  (by decide +kernel : ∀ t : Fin grid0.N, win0_0.index t = ![(grid0.coords t 0).val, (grid0.coords t 1).val] ∧ win0_1.index t = ![(grid0.coords t 0).val, 4 + (grid0.coords t 1).val]
    ∧ win0_2.index t = ![(grid0.coords t 0).val, 8 + (grid0.coords t 1).val] ∧ win0_3.index t = ![0, (grid0.coords t 1).val] ∧ win0_4.index t = ![(grid0.coords t 0).val, (grid0.coords t 1).val])

/-- A block's rows moved down by `s`, zeros in the first `s` rows. -/
def moved (g : FVec Ideal S4096x256 .f32) (s : ℕ) (q : S4096x256.Idx) : EReal :=
  if s ≤ (q 0).val then g (ix2 ⟨(q 0).val - s, lt_of_le_of_lt (Nat.sub_le _ _) (q 0).isLt⟩ (q 1)) else 0

/-- A rotation by `s` rows, zeros in place of the rows that come around, moves the rows down. -/
theorem moved_apply (g : FVec Ideal S4096x256 .f32) (s : ℕ) (hs : s < 4096) (q : S4096x256.Idx) :
    select (cmpi .sge (iota .tc S4096x256 32 [0] iota_S4096x256_d0_w32) (broadcast S4096x256 (BitVec.ofNat 32 s)))
      (dynamicRotate 0 (BitVec.ofNat 32 s) none g rotates_S4096x256_d0) (broadcast S4096x256 (Scalar.ofBits (F := Ideal) .f32 0x00000000#32)) q = moved g s q := by
  have hq : (q 0).val < 4096 := (q 0).isLt
  have e : cmpi .sge (iota .tc S4096x256 32 [0] iota_S4096x256_d0_w32) (broadcast S4096x256 (BitVec.ofNat 32 s)) q = BitVec.ofBool (decide (s ≤ (q 0).val)) := by
    show BitVec.ofBool ((BitVec.ofNat 32 s).sle (BitVec.ofNat 32 (0 * 4096 + (q 0).val))) = _
    unfold BitVec.sle
    rw [BitVec.toInt_eq_toNat_of_lt (by rw [BitVec.toNat_ofNat]; omega), BitVec.toInt_eq_toNat_of_lt (by rw [BitVec.toNat_ofNat]; omega), BitVec.toNat_ofNat, BitVec.toNat_ofNat]
    congr 1
    refine decide_eq_decide.mpr ?_
    omega
  show Scalar.select (cmpi .sge _ _ q) (dynamicRotate 0 _ none g _ q) (Scalar.ofBits (F := Ideal) .f32 0x00000000#32) = _
  rw [e]
  unfold moved
  by_cases h : s ≤ (q 0).val
  · rw [if_pos h, decide_eq_true h]
    refine (show _ = dynamicRotate 0 (BitVec.ofNat 32 s) none g rotates_S4096x256_d0 q from rfl).trans ?_
    refine dynamicRotate_apply 0 _ g _ q _ fun b => ?_
    fin_cases b
    · refine Eq.trans ?_ (if_pos rfl).symm
      show (q 0).val - s = ((q 0).val + 4096 - (BitVec.ofNat 32 s).toNat % 4096) % 4096
      rw [BitVec.toNat_ofNat]
      omega
    · rfl
  · rw [if_neg h, decide_eq_false h]
    exact Ideal.ofBits_zero_f32

/-- The body's arithmetic at a row and a column, of any rows moved and unmoved. -/
theorem weighted_apply (x0 : Vec Ideal S4096x256 .bf16) (x3 : Vec Ideal S8x256 .f32) (g g1 g2 : FVec Ideal S4096x256 .f32) (q : S4096x256.Idx) :
    truncf (F := Ideal) .bf16 (mulf (extf .f32 (shapeCast S4096x256 x0 shapeCasts_S4096x256_S4096x256) bitsLt_bf16_f32)
      (addf (addf (mulf (broadcastTo S4096x256 (extractStridedSlice S1x256 ![0, 0] (shapeCast S8x256 x3 shapeCasts_S8x256_S8x256) slices_S8x256_o0_0_S1x256) broadcasts_S1x256_S4096x256) g2)
          (mulf (broadcastTo S4096x256 (extractStridedSlice S1x256 ![1, 0] (shapeCast S8x256 x3 shapeCasts_S8x256_S8x256) slices_S8x256_o1_0_S1x256) broadcasts_S1x256_S4096x256) g1))
        (mulf (broadcastTo S4096x256 (extractStridedSlice S1x256 ![2, 0] (shapeCast S8x256 x3 shapeCasts_S8x256_S8x256) slices_S8x256_o2_0_S1x256) broadcasts_S1x256_S4096x256) g))) bitsLt_bf16_f32 q
      = x0 q * (x3 (ix2 0 (q 1)) * g2 q + x3 (ix2 1 (q 1)) * g1 q + x3 (ix2 2 (q 1)) * g q) := by
  pointwise

/-- The body's arithmetic at a row and a column. -/
theorem product_apply (x0 x1 x2 : Vec Ideal S4096x256 .bf16) (x3 : Vec Ideal S8x256 .f32) (q : S4096x256.Idx) :
    k0_pay1 x1 x2 x3 x0 q = x0 q * (x3 (ix2 0 (q 1)) * moved (fun p => x1 p * x2 p) 2 q + x3 (ix2 1 (q 1)) * moved (fun p => x1 p * x2 p) 1 q
      + x3 (ix2 2 (q 1)) * (x1 q * x2 q)) := by
  have hg : mulf (extf (F := Ideal) .f32 (shapeCast S4096x256 x1 shapeCasts_S4096x256_S4096x256) bitsLt_bf16_f32)
      (extf .f32 (shapeCast S4096x256 x2 shapeCasts_S4096x256_S4096x256) bitsLt_bf16_f32) = fun p => x1 p * x2 p := by
    funext p
    pointwise
  refine (weighted_apply x0 x3 _ _ _ q).trans ?_
  rw [hg]
  exact congrArg₂ (fun a b => x0 q * (x3 (ix2 0 (q 1)) * a + x3 (ix2 1 (q 1)) * b + x3 (ix2 2 (q 1)) * (x1 q * x2 q)))
    (moved_apply _ 2 (by decide) q) (moved_apply _ 1 (by decide) q)

/-- The column of the gate (`k` is 0) or of a factor (1, 2) that a column of the result takes. -/
def column (k : Fin 3) (j : Fin 1024) : Fin 6144 := ⟨k.val * 1024 + j.val, by omega⟩

/-- The product of the two factors `s` rows before a row of the same batch, zero before the batch's first row. -/
def earlier (u : Vec Ideal S8192x6144 .bf16) (s : ℕ) (p : Fin 8192) (j : Fin 1024) : EReal :=
  if s ≤ p.val % 4096 then
    u (ix2 ⟨p.val - s, by omega⟩ (column 1 j)) * u (ix2 ⟨p.val - s, by omega⟩ (column 2 j))
  else 0

/-- The convolution over three rows, times the gate. -/
def convolved (u : Vec Ideal S8192x6144 .bf16) (w : Vec Ideal S8x1024 .f32) : Vec Ideal S8192x1024 .bf16 := fun i =>
  u (ix2 (i 0) (column 0 (i 1))) * (w (ix2 0 (i 1)) * earlier u 2 (i 0) (i 1) + w (ix2 1 (i 1)) * earlier u 1 (i 0) (i 1)
    + w (ix2 2 (i 1)) * (u (ix2 (i 0) (column 1 (i 1))) * u (ix2 (i 0) (column 2 (i 1)))))

/-- Where a word of the gate's block lies in its array; the other windows follow. -/
theorem gate_block (t : Fin cfg0.N) (p : S4096x256.Idx) (q : S8192x6144.Idx) (h0 : (q 0).val = (grid0.coords t 0).val * 4096 + (p 0).val)
    (h1 : (q 1).val = (grid0.coords t 1).val * 256 + (p 1).val) : iblk m c 0 t p = V m c main_v0 q := by
  have h : win0_0.index t = _ := (index t).1
  show V m c main_v0 (((cfg0.win 0).blk t).view.emb p) = V m c main_v0 q
  congr 1
  funext b
  fin_cases b
  · refine Fin.ext ((?_ : _ = _).trans h0.symm)
    show win0_0.index t 0 * 4096 + 1 * (p 0).val = _
    rw [h]
    show (grid0.coords t 0).val * 4096 + 1 * (p 0).val = _
    omega
  · refine Fin.ext ((?_ : _ = _).trans h1.symm)
    show win0_0.index t 1 * 256 + 1 * (p 1).val = _
    rw [h]
    show (grid0.coords t 1).val * 256 + 1 * (p 1).val = _
    omega

/-- The first factor's. -/
theorem first_block (t : Fin cfg0.N) (p : S4096x256.Idx) (q : S8192x6144.Idx) (h0 : (q 0).val = (grid0.coords t 0).val * 4096 + (p 0).val)
    (h1 : (q 1).val = 1024 + ((grid0.coords t 1).val * 256 + (p 1).val)) : iblk m c 1 t p = V m c main_v0 q := by
  have h : win0_1.index t = _ := (index t).2.1
  show V m c main_v0 (((cfg0.win 1).blk t).view.emb p) = V m c main_v0 q
  congr 1
  funext b
  fin_cases b
  · refine Fin.ext ((?_ : _ = _).trans h0.symm)
    show win0_1.index t 0 * 4096 + 1 * (p 0).val = _
    rw [h]
    show (grid0.coords t 0).val * 4096 + 1 * (p 0).val = _
    omega
  · refine Fin.ext ((?_ : _ = _).trans h1.symm)
    show win0_1.index t 1 * 256 + 1 * (p 1).val = _
    rw [h]
    show (4 + (grid0.coords t 1).val) * 256 + 1 * (p 1).val = _
    omega

/-- The second factor's. -/
theorem second_block (t : Fin cfg0.N) (p : S4096x256.Idx) (q : S8192x6144.Idx) (h0 : (q 0).val = (grid0.coords t 0).val * 4096 + (p 0).val)
    (h1 : (q 1).val = 2048 + ((grid0.coords t 1).val * 256 + (p 1).val)) : iblk m c 2 t p = V m c main_v0 q := by
  have h : win0_2.index t = _ := (index t).2.2.1
  show V m c main_v0 (((cfg0.win 2).blk t).view.emb p) = V m c main_v0 q
  congr 1
  funext b
  fin_cases b
  · refine Fin.ext ((?_ : _ = _).trans h0.symm)
    show win0_2.index t 0 * 4096 + 1 * (p 0).val = _
    rw [h]
    show (grid0.coords t 0).val * 4096 + 1 * (p 0).val = _
    omega
  · refine Fin.ext ((?_ : _ = _).trans h1.symm)
    show win0_2.index t 1 * 256 + 1 * (p 1).val = _
    rw [h]
    show (8 + (grid0.coords t 1).val) * 256 + 1 * (p 1).val = _
    omega

/-- The weights'. -/
theorem weight_block (t : Fin cfg0.N) (p : S8x256.Idx) (q : S8x1024.Idx) (h0 : (q 0).val =  (p 0).val)
    (h1 : (q 1).val = (grid0.coords t 1).val * 256 + (p 1).val) : iblk m c 3 t p = V m c main_v1 q := by
  have h : win0_3.index t = _ := (index t).2.2.2.1
  show V m c main_v1 (((cfg0.win 3).blk t).view.emb p) = V m c main_v1 q
  congr 1
  funext b
  fin_cases b
  · refine Fin.ext ((?_ : _ = _).trans h0.symm)
    show win0_3.index t 0 * 8 + 1 * (p 0).val = _
    rw [h]
    show 0 * 8 + 1 * (p 0).val = _
    omega
  · refine Fin.ext ((?_ : _ = _).trans h1.symm)
    show win0_3.index t 1 * 256 + 1 * (p 1).val = _
    rw [h]
    show (grid0.coords t 1).val * 256 + 1 * (p 1).val = _
    omega

/-- The product of the two factors' blocks at a word. -/
theorem factors_block (t : Fin cfg0.N) (x1 x2 : Vec Ideal S4096x256 .bf16) (e1 : x1 = iblk m c 1 t) (e2 : x2 = iblk m c 2 t)
    (u : Vec Ideal S8192x6144 .bf16) (eu : u = V m c main_v0) (p : S4096x256.Idx) (r : Fin 8192) (j : Fin 1024) (hr : r.val = (grid0.coords t 0).val * 4096 + (p 0).val) (hj : j.val = (grid0.coords t 1).val * 256 + (p 1).val) :
    x1 p * x2 p = u (ix2 r (column 1 j)) * u (ix2 r (column 2 j)) := by
  subst e1 e2 eu
  exact congrArg₂ (fun a b : EReal => a * b)
    (first_block m c t p (ix2 r (column 1 j)) hr (show 1 * 1024 + j.val = _ by omega))
    (second_block m c t p (ix2 r (column 2 j)) hr (show 2 * 1024 + j.val = _ by omega))

/-- And moved down, the rows above a batch's first being zero. -/
theorem moved_block (t : Fin cfg0.N) (x1 x2 : Vec Ideal S4096x256 .bf16) (e1 : x1 = iblk m c 1 t) (e2 : x2 = iblk m c 2 t) (y : S4096x256.Idx)
    (r : Fin 8192) (j : Fin 1024) (hr : r.val = (grid0.coords t 0).val * 4096 + (y 0).val) (hj : j.val = (grid0.coords t 1).val * 256 + (y 1).val) (s : ℕ) :
    moved (fun p => x1 p * x2 p) s y = earlier (V m c main_v0) s r j := by
  have y0 : (y 0).val < 4096 := (y 0).isLt
  have hm : r.val % 4096 = (y 0).val := by omega
  unfold moved earlier
  by_cases h : s ≤ (y 0).val
  · rw [if_pos h, if_pos (by rw [hm]; exact h)]
    exact factors_block m c t x1 x2 e1 e2 _ rfl _ _ j (show r.val - s = (grid0.coords t 0).val * 4096 + ((y 0).val - s) by omega) hj
  · rw [if_neg h, if_neg (by rw [hm]; exact h)]

/-- The sum's terms are equal if their parts are. -/
theorem weighted_congr {g g' a a' x x' b b' y y' d d' z z' : EReal} (hg : g = g') (ha : a = a') (hx : x = x') (hb : b = b') (hy : y = y')
    (hd : d = d') (hz : z = z') : g * (a * x + b * y + d * z) = g' * (a' * x' + b' * y' + d' * z') := by
  subst hg ha hx hb hy hd hz
  rfl

/-- The region fills its array with that, block by block. -/
theorem array : (dats m 0 c).arrAt 4 cfg0.N = convolved (V m c main_v0) (V m c main_v1) := by
  refine (dats m 0 c).arrAt_eq_of_covers 4 _ (by decide +kernel) fun t hf y => ?_
  blk_simp
  rw [after0_4]
  frame_out
  refine (product_apply _ _ _ _ y).trans ?_
  have h4 : win0_4.index t = _ := (index t).2.2.2.2
  have y0 : (y 0).val < 4096 := (y 0).isLt
  have y1 : (y 1).val < 256 := (y 1).isLt
  generalize hi : ((View.whole main_v2).slice (win0_4.rect t)).emb y = i
  have i0 : (i 0).val = (grid0.coords t 0).val * 4096 + (y 0).val := by
    rw [← hi]
    show win0_4.index t 0 * 4096 + 1 * (y 0).val = _
    rw [h4]
    show (grid0.coords t 0).val * 4096 + 1 * (y 0).val = _
    omega
  have i1 : (i 1).val = (grid0.coords t 1).val * 256 + (y 1).val := by
    rw [← hi]
    show win0_4.index t 1 * 256 + 1 * (y 1).val = _
    rw [h4]
    show (grid0.coords t 1).val * 256 + 1 * (y 1).val = _
    omega
  exact weighted_congr
    (gate_block m c t y (ix2 (i 0) (column 0 (i 1))) i0 (show 0 * 1024 + (i 1).val = _ by omega))
    (weight_block m c t (ix2 0 (y 1)) (ix2 0 (i 1)) (show 0 = 0 from rfl) i1) (moved_block m c t _ _ rfl rfl y (i 0) (i 1) i0 i1 2)
    (weight_block m c t (ix2 1 (y 1)) (ix2 1 (i 1)) (show 1 = 1 from rfl) i1) (moved_block m c t _ _ rfl rfl y (i 0) (i 1) i0 i1 1)
    (weight_block m c t (ix2 2 (y 1)) (ix2 2 (i 1)) (show 2 = 2 from rfl) i1) (factors_block m c t _ _ rfl rfl _ rfl y (i 0) (i 1) i0 i1)

/-- The three weights, five rows of zeros below them. -/
def padded (w : FVec Ideal S3x1024 .f32) : FVec Ideal S8x1024 .f32 :=
  pad S8x1024 ![0, 0] ![5, 0] ![0, 0] w (sitofp (F := Ideal) .f32 (constantI S_ 32 0#32)) pads_S3x1024_S8x1024_050_000 h_S_

/-- What the region and the host's lines leave in the result, from the arguments. -/
def result (u : FVec Ideal S8192x6144 .f32) (w : FVec Ideal S3x1024 .f32) : FVec Ideal S8192x1024 .f32 :=
  extf (F := Ideal) .f32 (convolved (truncf (F := Ideal) .bf16 u bitsLt_bf16_f32) (padded w)) bitsLt_bf16_f32

/-- So the result's buffer holds it at the end. -/
theorem tail_result : Pipeline.afterTail₀ cfgs (dats m) 0 (V0 m) [hostOps1] c main_v3
    = result (m ((c.tc : Thread nD τ).loc main_arg0)) (m ((c.tc : Thread nD τ).loc main_arg1)) := by
  have e2 := ((dats m 0 c).withArrays_arrAt launch₀0.sharedIn (V0 m c) (A_eq m c) 4).trans (array m c)
  have e0 : V m c main_v0 = truncf (F := Ideal) .bf16 (m ((c.tc : Thread nD τ).loc main_arg0)) bitsLt_bf16_f32 := by
    simp only [V, V0, hostOps0, hostOps0_1, List.flatten_cons, List.flatten_nil, List.append_nil, List.cons_append, List.nil_append, StableHlo.TRef.binary, StableHlo.TRef.unary,
      StableHlo.TRef.toBuf, StableHlo.TRef.ofBuf, cast_eq]
    after_results <;> rfl
  have e1 : V m c main_v1 = padded (m ((c.tc : Thread nD τ).loc main_arg1)) := by
    simp only [V, V0, hostOps0, hostOps0_1, List.flatten_cons, List.flatten_nil, List.append_nil, List.cons_append, List.nil_append, StableHlo.TRef.binary, StableHlo.TRef.unary,
      StableHlo.TRef.toBuf, StableHlo.TRef.ofBuf, cast_eq]
    after_results <;> rfl
  rw [e0, e1] at e2
  have e3 : Pipeline.afterTail₀ cfgs (dats m) 0 (V0 m) [hostOps1] c main_v3
      = extf (F := Ideal) .f32 (Pipeline.withArrays spec0 c (V0 m c) (fun w => (dats m 0 c).arrAt w cfg0.N) (Proc.devRef .tc (Pipeline.arrRef spec0 4))) bitsLt_bf16_f32 := by
    unfold Pipeline.afterTail₀; after_results <;> rfl
  refine e3.trans ?_
  exact congrArg (fun x => extf (F := Ideal) .f32 x bitsLt_bf16_f32) e2

/-- The run: the result holds `result` of the arguments, and the arguments are as they were. -/
theorem run_result : θ_run (defs (F := Ideal)) (onTc (τ := τ) (main (F := Ideal))) ⟨m, fun _ => 0, ρ⟩ (fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v3 (Pipeline.mem_restRefs_of main_v3 (by decide) (by decide))).trans (tail_result m c), h.2 c⟩)
    (θ_run_and (run_main m ρ) (unchanged m ρ))

end Cert.Kernel7Ideal.Hand

namespace Cert.Reference7Ideal.Hand

open Cert.Reference7Ideal Cert.Reference7Ideal.Gen Idealize.ShloMosaic Idealize.ShloMosaic.TcCoe

/-- The gate and the two factors, a third each of the first 3072 columns. -/
def three (u : FVec Ideal S8192x6144 .f32) : FVec Ideal S2x4096x3072 .f32 :=
  extractStridedSlice S2x4096x3072 ![0, 0, 0] (shapeCast _ u shapeCasts_S8192x6144_S2x4096x6144) slices_S2x4096x6144_S2x4096x3072_0_0_0

/-- The product of the factors, two rows of zeros above it. -/
def above (u : FVec Ideal S8192x6144 .f32) : FVec Ideal S2x4098x1024 .f32 :=
  pad S2x4098x1024 ![0, 2, 0] ![0, 0, 0] ![0, 0, 0]
    (mulf (extractStridedSlice S2x4096x1024 ![0, 0, 1024] (three u) slices_S2x4096x3072_S2x4096x1024_0_0_1024)
      (extractStridedSlice S2x4096x1024 ![0, 0, 2048] (three u) slices_S2x4096x3072_S2x4096x1024_0_0_2048))
    (sitofp (F := Ideal) .f32 (constantI S_ 32 0#32)) pads_S2x4096x1024_S2x4098x1024_000_200_000 h_S_

/-- One weight for every row. -/
def weight (x : FVec Ideal S1x1024 .f32) : FVec Ideal S2x4096x1024 .f32 :=
  broadcastInDim S2x4096x1024 ![0, 1, 2] bcast_S1x1x1024_S2x4096x1024_0_1_2 (broadcastInDim S1x1x1024 ![2] bcast_S1024_S1x1x1024_2 (shapeCast _ x shapeCasts_S1x1024_S1024))

/-- The reference's array: three rows of the padded product, each times its weight, summed, times the gate. -/
def composed (u : FVec Ideal S8192x6144 .f32) (w : FVec Ideal S3x1024 .f32) : FVec Ideal S8192x1024 .f32 :=
  shapeCast _ (mulf (extractStridedSlice S2x4096x1024 ![0, 0, 0] (three u) slices_S2x4096x3072_S2x4096x1024_0_0_0)
    (addf (addf
      (mulf (weight (extractStridedSlice S1x1024 ![0, 0] w slices_S3x1024_S1x1024_0_0)) (extractStridedSlice S2x4096x1024 ![0, 0, 0] (above u) slices_S2x4098x1024_S2x4096x1024_0_0_0))
      (mulf (weight (extractStridedSlice S1x1024 ![1, 0] w slices_S3x1024_S1x1024_1_0)) (extractStridedSlice S2x4096x1024 ![0, 1, 0] (above u) slices_S2x4098x1024_S2x4096x1024_0_1_0)))
      (mulf (weight (extractStridedSlice S1x1024 ![2, 0] w slices_S3x1024_S1x1024_2_0)) (extractStridedSlice S2x4096x1024 ![0, 2, 0] (above u) slices_S2x4098x1024_S2x4096x1024_0_2_0)))) shapeCasts_S2x4096x1024_S8192x1024

/-- A weight at an index. -/
theorem weight_apply (x : FVec Ideal S1x1024 .f32) (j : S2x4096x1024.Idx) : weight x j = x (ix2 0 (j 2)) := by
  pointwise [weight]

/-- The three thirds at an index: the array's row of the batch. -/
theorem three_apply (u : FVec Ideal S8192x6144 .f32) (j : S2x4096x3072.Idx) (q : S8192x6144.Idx)
    (h0 : (q 0).val = (j 0).val * 4096 + (j 1).val) (h1 : (q 1).val = (j 2).val) : three u j = u q := by
  have j2 : (j 2).val < 3072 := (j 2).isLt
  have e : three u j = shapeCast S2x4096x6144 u shapeCasts_S8192x6144_S2x4096x6144 (ix3 (j 0) (j 1) ⟨(j 2).val, by omega⟩) := by
    pointwise [three]
  refine e.trans (Idealize.ShloMosaic.shapeCast_apply _ _ _ _ ?_)
  rw [Shape.rowMajor_val_two, Shape.rowMajor_val_three]
  show (q 0).val * 6144 + (q 1).val = ((j 0).val * 4096 + (j 1).val) * 6144 + (j 2).val
  omega

/-- The product at an index, rows of zeros above the batch's first. -/
theorem above_apply (u : FVec Ideal S8192x6144 .f32) (j : S2x4098x1024.Idx) (r : Fin 8192) (s : ℕ) (hs : s ≤ 2)
    (hj : (j 1).val + s = r.val % 4096 + 2) (hb : (j 0).val = r.val / 4096) :
    above u j = Cert.Kernel7Ideal.Hand.earlier u s r (j 2) := by
  have j2 : (j 2).val < 1024 := (j 2).isLt
  unfold above Cert.Kernel7Ideal.Hand.earlier
  by_cases h : s ≤ r.val % 4096
  · rw [if_pos h]
    refine (pad_apply_of_inside _ _ _ _ _ _ _ j (ix3 (⟨(j 0).val, (j 0).isLt⟩ : Fin 2) (⟨(j 1).val - 2, by omega⟩ : Fin 4096) (j 2)) fun b => ?_).trans ?_
    · fin_cases b
      · show (j 0).val = 0 + (j 0).val * (0 + 1)
        omega
      · show (j 1).val = 2 + ((j 1).val - 2) * (0 + 1)
        omega
      · show (j 2).val = 0 + (j 2).val * (0 + 1)
        omega
    · refine congrArg₂ (fun a b : EReal => a * b)
        (Eq.trans (b := three u (ix3 (⟨(j 0).val, (j 0).isLt⟩ : Fin 2) (⟨(j 1).val - 2, by omega⟩ : Fin 4096) (⟨1024 + (j 2).val, by omega⟩ : Fin 3072))) (by pointwise) ?_)
        (Eq.trans (b := three u (ix3 (⟨(j 0).val, (j 0).isLt⟩ : Fin 2) (⟨(j 1).val - 2, by omega⟩ : Fin 4096) (⟨2048 + (j 2).val, by omega⟩ : Fin 3072))) (by pointwise) ?_)
      · refine three_apply u _ _ ?_ ?_
        · show r.val - s = (j 0).val * 4096 + ((j 1).val - 2)
          omega
        · show 1 * 1024 + (j 2).val = 1024 + (j 2).val
          omega
      · refine three_apply u _ _ ?_ ?_
        · show r.val - s = (j 0).val * 4096 + ((j 1).val - 2)
          omega
        · show 2 * 1024 + (j 2).val = 2048 + (j 2).val
          omega
  · rw [if_neg h]
    refine (pad_apply_of_not_inside _ _ _ _ _ _ _ j 1 fun hin => ?_).trans ?_
    · have h2 : 2 ≤ (j 1).val := hin.1
      omega
    · show ((((0#32 : BitVec 32).toInt : ℝ)) : EReal) = 0
      simp

/-- The kernel's padded weights at one of the three rows. -/
theorem padded_apply (w : FVec Ideal S3x1024 .f32) (k : Fin 3) (k' : Fin 8) (hk : k'.val = k.val) (j : Fin 1024) :
    Cert.Kernel7Ideal.Hand.padded w (ix2 k' j) = w (ix2 k j) := by
  unfold Cert.Kernel7Ideal.Hand.padded
  refine pad_apply_of_inside _ _ _ _ _ _ _ _ _ fun b => ?_
  fin_cases b
  · show k'.val = 0 + k.val * (0 + 1)
    omega
  · show j.val = 0 + j.val * (0 + 1)
    omega

/-- The reference's term is what the kernel leaves. -/
theorem composed_eq (u : FVec Ideal S8192x6144 .f32) (w : FVec Ideal S3x1024 .f32) :
    composed u w = Cert.Kernel7Ideal.Hand.result u w := by
  funext i
  have i0 : (i 0).val < 8192 := (i 0).isLt
  have i1 : (i 1).val < 1024 := (i 1).isLt
  have hb : (i 0).val / 4096 < 2 := by omega
  have hr : (i 0).val % 4096 < 4096 := by omega
  refine (Idealize.ShloMosaic.shapeCast_apply _ _ _ (ix3 (⟨(i 0).val / 4096, hb⟩ : Fin 2) (⟨(i 0).val % 4096, hr⟩ : Fin 4096) (⟨(i 1).val, i1⟩ : Fin 1024)) ?_).trans ?_
  · rw [Shape.rowMajor_val_two, Shape.rowMajor_val_three]
    show ((i 0).val / 4096 * 4096 + (i 0).val % 4096) * 1024 + (i 1).val = (i 0).val * 1024 + (i 1).val
    omega
  · refine Cert.Kernel7Ideal.Hand.weighted_congr ?_ ?_ ?_ ?_ ?_ ?_ ?_
    · refine (show _ = three u (ix3 (⟨(i 0).val / 4096, hb⟩ : Fin 2) (⟨(i 0).val % 4096, hr⟩ : Fin 4096) (⟨(i 1).val, by omega⟩ : Fin 3072)) by pointwise).trans ?_
      refine three_apply u _ _ ?_ ?_
      · show (i 0).val = (i 0).val / 4096 * 4096 + (i 0).val % 4096
        omega
      · show 0 * 1024 + (i 1).val = (i 1).val
        omega
    · refine (weight_apply _ _).trans (Eq.trans ?_ (padded_apply w 0 0 rfl (i 1)).symm)
      pointwise
    · refine (show _ = above u (ix3 (⟨(i 0).val / 4096, hb⟩ : Fin 2) (⟨(i 0).val % 4096, by omega⟩ : Fin 4098) (⟨(i 1).val, i1⟩ : Fin 1024)) by pointwise).trans ?_
      exact above_apply u _ (i 0) 2 (by decide) rfl rfl
    · refine (weight_apply _ _).trans (Eq.trans ?_ (padded_apply w 1 1 rfl (i 1)).symm)
      pointwise
    · refine (show _ = above u (ix3 (⟨(i 0).val / 4096, hb⟩ : Fin 2) (⟨1 + (i 0).val % 4096, by omega⟩ : Fin 4098) (⟨(i 1).val, i1⟩ : Fin 1024)) by pointwise).trans ?_
      exact above_apply u _ (i 0) 1 (by decide) (show 1 + (i 0).val % 4096 + 1 = _ by omega) rfl
    · refine (weight_apply _ _).trans (Eq.trans ?_ (padded_apply w 2 2 rfl (i 1)).symm)
      pointwise
    · refine (show _ = above u (ix3 (⟨(i 0).val / 4096, hb⟩ : Fin 2) (⟨2 + (i 0).val % 4096, by omega⟩ : Fin 4098) (⟨(i 1).val, i1⟩ : Fin 1024)) by pointwise).trans ?_
      refine (above_apply u _ (i 0) 0 (by decide) (show 2 + (i 0).val % 4096 + 0 = _ by omega) rfl).trans ?_
      exact if_pos (Nat.zero_le _)

end Cert.Reference7Ideal.Hand

end
-- ==== Proof.Latent.lean ====
/-
  The values of the latent attention: what the region leaves in the second of its two arrays, as a formula of the arrays it reads; the
  formula over the host's lines; and that the reference's term is that formula.
-/
module

public import proofs.«01_k».proof.Proof.Gen.Kernel8Ideal.Frame
public import Idealize.ShloMosaic.Lib.Pipeline.ValueKit
public import Idealize.ShloMosaic.Lib.Pointwise
public import Idealize.ShloMosaic.Lib.KernelVsHost
public import Idealize.ShloMosaic.Lib.ValueLayout
public import proofs.«01_k».proof.Proof.Gen.Reference8Ideal.Run

@[expose] public section

set_option maxRecDepth 16384

noncomputable section

namespace Cert.Kernel8Ideal.Hand

open Cert.Kernel8Ideal Cert.Kernel8Ideal.Gen Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg) (c : Dev nD)

/-- Which block each window that the values need is on: the rows name it; the weights are one block each. -/
theorem index : ∀ t : Fin cfg0.N, win0_0.index t = ![(grid0.coords t 0).val, 0] ∧ win0_1.index t = ![0, 0] ∧ win0_2.index t = ![0, 0] ∧ win0_4.index t = ![0, 0] ∧ win0_10.index t = ![(grid0.coords t 0).val, 0] :=
  (by decide +kernel : ∀ t : Fin grid0.N, win0_0.index t = ![(grid0.coords t 0).val, 0] ∧ win0_1.index t = ![0, 0] ∧ win0_2.index t = ![0, 0] ∧ win0_4.index t = ![0, 0] ∧ win0_10.index t = ![(grid0.coords t 0).val, 0])

/-- The latent columns of a row. -/
def latent (x : Vec Ideal S8192x4096 .bf16) (w : Vec Ideal S4096x512 .bf16) (p : Fin 8192) (r : Fin 512) : EReal :=
  ∑ k : Fin 4096, x (ix2 p k) * w (ix2 k r)

/-- The latent columns over the root of their mean square, weighted by `g`, times the matrix of the values. -/
def values (x : Vec Ideal S8192x4096 .bf16) (w : Vec Ideal S4096x512 .bf16) (g : Vec Ideal S1x512 .f32) (u : Vec Ideal S512x1024 .bf16) :
    Vec Ideal S8192x1024 .bf16 :=
  fun i => ∑ r : Fin 512, latent x w (i 0) r
    * Ideal.rsqrt (Ideal.div (∑ k : Fin 512, latent x w (i 0) k * latent x w (i 0) k) (Ideal.ofBits .f32 0x44000000#32) + Ideal.ofBits .f32 0x358637BD#32)
    * g (ix2 0 r) * u (ix2 r (i 1))

/-- The region fills its second array with that, block by block. -/
theorem array : (dats m 0 c).arrAt 10 cfg0.N = values (V m c main_v19) (V m c main_v1) (V m c main_v20) (V m c main_v17) := by
  refine (dats m 0 c).arrAt_eq_of_covers 10 _ (by decide +kernel) fun t hf y => ?_
  blk_simp
  rw [after0_10]
  frame_out
  pointwise [k0_pay7, k0_pay5, k0_pay4, values, latent]
  blk_point [iblk, index t]

/-- The rows of both batches, one after the other. -/
def rows (x : FVec Ideal S2x4096x4096 .f32) : FVec Ideal S8192x4096 .bf16 :=
  shapeCast S8192x4096 (truncf (F := Ideal) .bf16 x bitsLt_bf16_f32) shapeCasts_S2x4096x4096_S8192x4096

/-- The columns of the input matrix that make the latent columns. -/
def latentColumns (w : FVec Ideal S4096x7496 .f32) : FVec Ideal S4096x512 .bf16 :=
  truncf (F := Ideal) .bf16 (extractStridedSlice S4096x512 ![0, 3840] w slices_S4096x7496_S4096x512_0_3840) bitsLt_bf16_f32

/-- The second half of every head's columns. -/
def valueColumns (u : FVec Ideal S512x2048 .f32) : FVec Ideal S512x1024 .bf16 :=
  truncf (F := Ideal) .bf16 (shapeCast S512x1024 (extractStridedSlice S512x8x128 ![0, 0, 128] (shapeCast S512x8x256 u shapeCasts_S512x2048_S512x8x256)
    slices_S512x8x256_S512x8x128_0_0_128) shapeCasts_S512x8x128_S512x1024) bitsLt_bf16_f32

/-- What the region and the host's lines leave in the result, from the arguments. -/
def result (x : FVec Ideal S2x4096x4096 .f32) (w : FVec Ideal S4096x7496 .f32) (g : FVec Ideal S512 .f32) (u : FVec Ideal S512x2048 .f32) : FVec Ideal S8192x1024 .f32 :=
  extf (F := Ideal) .f32 (values (rows x) (latentColumns w) (shapeCast S1x512 g shapeCasts_S512_S1x512) (valueColumns u)) bitsLt_bf16_f32

/-- So the result's buffer holds it at the end. -/
theorem tail_result : Pipeline.afterTail₀ cfgs (dats m) 0 (V0 m) [hostOps1] c main_v22
    = result (m ((c.tc : Thread nD τ).loc main_arg0)) (m ((c.tc : Thread nD τ).loc main_arg3)) (m ((c.tc : Thread nD τ).loc main_arg4)) (m ((c.tc : Thread nD τ).loc main_arg5)) := by
  have e2 := (Pipeline.withArrays_arr spec0 launch0.win.arr_inj c (V0 m c) (fun w => (dats m 0 c).arrAt w cfg0.N) 10).trans (array m c)
  have e19 : V m c main_v19 = rows (m ((c.tc : Thread nD τ).loc main_arg0)) := by
    simp only [V, V0, hostOps0, List.flatten_cons, List.flatten_nil, List.append_nil, List.cons_append, List.nil_append, StableHlo.TRef.binary, StableHlo.TRef.unary,
      StableHlo.TRef.nullary, StableHlo.TRef.toBuf, StableHlo.TRef.ofBuf, cast_eq]
    after_results <;> rfl
  have e1 : V m c main_v1 = latentColumns (m ((c.tc : Thread nD τ).loc main_arg3)) := by
    simp only [V, V0, hostOps0, List.flatten_cons, List.flatten_nil, List.append_nil, List.cons_append, List.nil_append, StableHlo.TRef.binary, StableHlo.TRef.unary,
      StableHlo.TRef.nullary, StableHlo.TRef.toBuf, StableHlo.TRef.ofBuf, cast_eq]
    after_results <;> rfl
  have e20 : V m c main_v20 = shapeCast S1x512 (m ((c.tc : Thread nD τ).loc main_arg4)) shapeCasts_S512_S1x512 := by
    simp only [V, V0, hostOps0, List.flatten_cons, List.flatten_nil, List.append_nil, List.cons_append, List.nil_append, StableHlo.TRef.binary, StableHlo.TRef.unary,
      StableHlo.TRef.nullary, StableHlo.TRef.toBuf, StableHlo.TRef.ofBuf, cast_eq]
    after_results <;> rfl
  have e17 : V m c main_v17 = valueColumns (m ((c.tc : Thread nD τ).loc main_arg5)) := by
    simp only [V, V0, hostOps0, List.flatten_cons, List.flatten_nil, List.append_nil, List.cons_append, List.nil_append, StableHlo.TRef.binary, StableHlo.TRef.unary,
      StableHlo.TRef.nullary, StableHlo.TRef.toBuf, StableHlo.TRef.ofBuf, cast_eq]
    after_results <;> rfl
  rw [e19, e1, e20, e17] at e2
  have e3 : Pipeline.afterTail₀ cfgs (dats m) 0 (V0 m) [hostOps1] c main_v22
      = extf (F := Ideal) .f32 (Pipeline.withArrays spec0 c (V0 m c) (fun w => (dats m 0 c).arrAt w cfg0.N) (Proc.devRef .tc (Pipeline.arrRef spec0 10))) bitsLt_bf16_f32 := by
    unfold Pipeline.afterTail₀; after_results <;> rfl
  refine e3.trans ?_
  exact congrArg (fun x => extf (F := Ideal) .f32 x bitsLt_bf16_f32) e2

/-- The run: the result holds `result` of the arguments, and the arguments are as they were. -/
theorem run_result : θ_run (defs (F := Ideal)) (onTc (τ := τ) (main (F := Ideal))) ⟨m, fun _ => 0, ρ⟩ (fun r => ∀ c : Dev nD,
      r.2.mem ((c.tc : Thread nD τ).loc main_v22) = result (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v22 (Pipeline.mem_restRefs_of main_v22 (by decide) (by decide))).trans (tail_result m c), h.2 c⟩)
    (θ_run_and (run_main m ρ) (unchanged m ρ))

end Cert.Kernel8Ideal.Hand

namespace Cert.Reference8Ideal.Hand

open Cert.Reference8Ideal Cert.Reference8Ideal.Gen Idealize.ShloMosaic Idealize.ShloMosaic.TcCoe

/-- The reference's latent columns, out of the product with the whole input matrix. -/
def latent (x : FVec Ideal S2x4096x4096 .f32) (w : FVec Ideal S4096x7496 .f32) : FVec Ideal S2x4096x512 .f32 :=
  extractStridedSlice S2x4096x512 ![0, 0, 3840] (Host.dotGeneral dot_S2x4096x4096_S4096x7496_S2x4096x7496_2_0_01_1_n_n none x w) slices_S2x4096x7496_S2x4096x512_0_0_3840

/-- Their norm, and the product with both halves of every head's columns. -/
def both (y : FVec Ideal S2x4096x512 .f32) (g : FVec Ideal S512 .f32) (u : FVec Ideal S512x2048 .f32) : FVec Ideal S2x4096x2048 .f32 :=
  Host.dotGeneral dot_S2x4096x512_S512x2048_S2x4096x2048_2_0_01_1_n_n none (mulf (mulf y (broadcastInDim S2x4096x512 ![0, 1, 2] bcast_S2x4096x1_S2x4096x512_0_1_2
    (Host.rsqrt (addf (Host.divf (broadcastInDim S2x4096x1 ![0, 1] bcast_S2x4096_S2x4096x1_0_1 (Host.reduceAdd (mulf y y) (constant S_ .f32 0x00000000#32) reducesTo_S2x4096x512_S2x4096_d2 h_S_))
      (broadcastInDim S2x4096x1 ![] bcast_S_S2x4096x1 (constant S_ .f32 0x44000000#32))) (broadcastInDim S2x4096x1 ![] bcast_S_S2x4096x1 (constant S_ .f32 0x358637BD#32))))))
    (broadcastInDim S2x4096x512 ![0, 1, 2] bcast_S1x1x512_S2x4096x512_0_1_2 (broadcastInDim S1x1x512 ![2] bcast_S512_S1x1x512_2 g))) u

/-- The reference's array: the second half of every head's columns, row by row. -/
def composed (x : FVec Ideal S2x4096x4096 .f32) (w : FVec Ideal S4096x7496 .f32) (g : FVec Ideal S512 .f32) (u : FVec Ideal S512x2048 .f32) : FVec Ideal S8192x1024 .f32 :=
  shapeCast _ (extractStridedSlice S2x4096x8x128 ![0, 0, 0, 128] (shapeCast _ (both (latent x w) g u) shapeCasts_S2x4096x2048_S2x4096x8x256) slices_S2x4096x8x256_S2x4096x8x128_0_0_0_128) shapeCasts_S2x4096x8x128_S8192x1024

open Cert.Kernel8Ideal.Hand in
/-- The reference's term is what the kernel leaves: the columns may be taken before the products or after them. -/
theorem composed_eq (x : FVec Ideal S2x4096x4096 .f32) (w : FVec Ideal S4096x7496 .f32) (g : FVec Ideal S512 .f32) (u : FVec Ideal S512x2048 .f32) :
    composed x w g u = result x w g u := by
  funext i
  pointwise [composed, both, latent, result, values, Cert.Kernel8Ideal.Hand.latent, rows, latentColumns, valueColumns]

end Cert.Reference8Ideal.Hand

end
-- ==== Proof.lean ====
/-
  The proof of the certificate's claim: the frames of the programs and of their references, and that each program computes the
  same array as its reference. The gather's run (`Run.lean`) and values (`Values.lean`) are stated once at any float values and
  read here at the ideal ones and at the bits; so is the experts' run (`ExpertsRun.lean`). Each other program's values have a module of their own.
-/
module

public import proofs.«01_k».proof.Defs
public import proofs.«01_k».proof.Proof.Values
public import proofs.«01_k».proof.Proof.Gen.Kernel
public import proofs.«01_k».proof.Proof.Gen.ReferenceIdeal.Run
public import proofs.«01_k».proof.Proof.Gen.Reference.Run
public import proofs.«01_k».proof.Proof.Gen.Pre_dest_in_range
public import proofs.«01_k».proof.Proof.Gen.Kernel2.Frame
public import proofs.«01_k».proof.Proof.Merge
public import proofs.«01_k».proof.Proof.Gen.Kernel3.Frame
public import proofs.«01_k».proof.Proof.Combine
public import proofs.«01_k».proof.Proof.Gen.Kernel4.Frame
public import proofs.«01_k».proof.Proof.Input
public import proofs.«01_k».proof.Proof.ExpertsValue
public import proofs.«01_k».proof.Proof.ExpertsReference
public import proofs.«01_k».proof.Proof.Gen.Kernel5.Launch
public import proofs.«01_k».proof.Proof.Gen.Kernel6.Frame
public import proofs.«01_k».proof.Proof.Conditioning
public import proofs.«01_k».proof.Proof.Gen.Kernel7.Frame
public import proofs.«01_k».proof.Proof.Conv
public import proofs.«01_k».proof.Proof.Gen.Kernel8.Frame
public import proofs.«01_k».proof.Proof.Latent

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The gather program's run, read at its arguments and its result: where every word of `dest` names a row of `y`, both arguments
    keep their contents, the result holds the rows of `y` that `dest` names, and every semaphore reads zero. -/
theorem run_taken (m : (ℓ : Loc nD τ sig) → Buf (Elt F) ℓ) (ρ : Dev nD → PrngReg)
    (h : ∀ c : Dev nD, Cert.Pre_dest_in_range.fn (F := F) (m ((c.tc : Thread nD τ).loc main_arg0)) (m ((c.tc : Thread nD τ).loc main_arg1))
      = fun _ => 1#1) :
    θ_run (defs (F := F)) (onTc (τ := τ) (main (F := F))) ⟨m, fun _ => 0, ρ⟩ (fun r => (∀ c : Dev nD,
        r.2.mem ((c.tc : Thread nD τ).loc main_v1) = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  have h1 : ∀ c, V m c main_arg1 = m ((c.tc : Thread nD τ).loc main_arg1) := fun c => by
    unfold V; after_results <;> rfl
  have h0 : ∀ c, V m c main_arg0 = m ((c.tc : Thread nD τ).loc main_arg0) := fun c => by
    unfold V; after_results <;> rfl
  have hv : ∀ c, V m c main_v0 = shapeCast S1310720x128 (m ((c.tc : Thread nD τ).loc main_arg0)) shapeCasts_S40960x4096_S1310720x128 := fun c => by
    unfold V; after_results <;> rfl
  refine (θ_run (defs (F := F)) _ _).mono (fun r hr => ⟨fun c => ⟨?_, ?_, ?_⟩, hr.2⟩)
    (run_main m ρ (fun c j => by unfold tbl; rw [h1 c]; exact word_lt _ _ (h c) _))
  · refine (Pipeline.FramePostRG.written hr.1 c (by decide)).trans ?_
    rw [G_v1]; unfold taken rows tbl; rw [hv c, h1 c]
  · exact ((hr.1.1 c).2 main_arg0 (show main_arg0 ∈ Pipeline.restRefs sig spec0 \ R0 by decide)).trans (h0 c)
  · exact ((hr.1.1 c).2 main_arg1 (show main_arg1 ∈ Pipeline.restRefs sig spec0 \ R0 by decide)).trans (h1 c)

end Cert.KernelIdeal.Hand

namespace Cert.Proof

open Idealize.ShloMosaic Idealize.ShloMosaic.TcCoe Idealize.SL.Sem
open Cert.KernelIdeal.Hand (taken run_taken word_lt)
open Cert.ReferenceIdeal.Hand (composed_eq)

/-- The frame of the gather program at the bits. -/
theorem frame_kernel : Cert.quiescent_Kernel := fun m ρ h =>
  (θ_run Cert.KernelIdeal.defs _ _).mono (fun _ hr => ⟨fun c => (hr.1 c).2, hr.2⟩) (run_taken (F := Bits) m ρ h)

/-- The frame of the gather program at the ideal values. -/
theorem frame_ideal : Cert.quiescent_KernelIdeal := fun m ρ h =>
  (θ_run Cert.KernelIdeal.defs _ _).mono (fun _ hr => ⟨fun c => (hr.1 c).2, hr.2⟩) (run_taken (F := Ideal) m ρ h)

/-- At the ideal values the gather program and the reference end with the same array. -/
theorem same_ideal : Cert.algebraic_KernelIdeal_ReferenceIdeal := fun m ρ m' ρ' h hm =>
  ⟨fun c => taken (F := Ideal) (m ((c.tc : Thread _ _).loc Cert.KernelIdeal.main_arg0)) (m ((c.tc : Thread _ _).loc Cert.KernelIdeal.main_arg1)),
    (θ_run Cert.KernelIdeal.defs _ _).mono (fun _ hr => hr.1) (run_taken (F := Ideal) m ρ h),
    (θ_run Cert.ReferenceIdeal.defs _ _).mono
      (fun _ hr c => ⟨((hr c).1.trans (composed_eq _ _ (fun x => by rw [(hm c).2]; exact word_lt _ _ (h c) x))).trans (by rw [(hm c).1, (hm c).2]), (hr c).2⟩)
      (Cert.ReferenceIdeal.Value.run (F := Ideal) m' ρ')⟩

/-- At the bits too. -/
theorem same_bits : Cert.bitexact_Kernel_Reference := fun m ρ m' ρ' h hm =>
  ⟨fun c => taken (F := Bits) (m ((c.tc : Thread _ _).loc Cert.KernelIdeal.main_arg0)) (m ((c.tc : Thread _ _).loc Cert.KernelIdeal.main_arg1)),
    (θ_run Cert.KernelIdeal.defs _ _).mono (fun _ hr => hr.1) (run_taken (F := Bits) m ρ h),
    (θ_run Cert.Reference.defs _ _).mono
      (fun _ hr c => ⟨((hr c).1.trans (composed_eq _ _ (fun x => by rw [(hm c).2]; exact word_lt _ _ (h c) x))).trans (by rw [(hm c).1, (hm c).2]), (hr c).2⟩)
      (Cert.Reference.Value.run (F := Bits) m' ρ')⟩

/-- The frame of the reference at the ideal values: it declares no semaphore. -/
theorem frame_reference_ideal : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

/-- The frame of the reference at the bits. -/
theorem frame_reference : Cert.quiescent_Reference := fun m ρ _ =>
  (θ_run Cert.Reference.defs _ _).mono (fun r hr => ⟨fun c => (hr c).2, sem_eq_zero_of_no_sems (by decide) r.2⟩)
    (Cert.Reference.Value.run (F := Bits) m ρ)

/-- At the ideal values the program of the merge, its projection and the residual and its reference end with the same array. -/
theorem same_merge : Cert.algebraic_Kernel2Ideal_Reference2Ideal := fun m ρ m' ρ' _ hm =>
  ⟨fun c => Cert.Kernel2Ideal.Hand.result (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) (m ((c.tc : Thread _ _).loc Cert.Kernel2Ideal.main_arg5)) (m ((c.tc : Thread _ _).loc Cert.Kernel2Ideal.main_arg6)) (m ((c.tc : Thread _ _).loc Cert.Kernel2Ideal.main_arg7)) (m ((c.tc : Thread _ _).loc Cert.Kernel2Ideal.main_arg8)) (m ((c.tc : Thread _ _).loc Cert.Kernel2Ideal.main_arg9)) (m ((c.tc : Thread _ _).loc Cert.Kernel2Ideal.main_arg10)),
    Cert.Kernel2Ideal.Hand.run_result m ρ,
    (θ_run Cert.Reference2Ideal.defs _ _).mono
      (fun _ hr c => ⟨((hr c).1.trans (Cert.Kernel2Ideal.Hand.reference_result c m')).trans (by rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2]), (hr c).2⟩)
      (Cert.Reference2Ideal.Value.run (F := Ideal) m' ρ')⟩

/-- The frame of that reference: it declares no semaphore. -/
theorem frame_reference_merge : Cert.quiescent_Reference2Ideal := fun m ρ _ =>
  (θ_run Cert.Reference2Ideal.defs _ _).mono (fun r hr => ⟨fun c => (hr c).2, sem_eq_zero_of_no_sems (by decide) r.2⟩)
    (Cert.Reference2Ideal.Value.run (F := Ideal) m ρ)

/-- At the ideal values the program of the combine and its reference end with the same array. -/
theorem same_combine : Cert.algebraic_Kernel3Ideal_Reference3Ideal := fun m ρ m' ρ' _ hm =>
  ⟨fun c => Cert.Kernel3Ideal.Hand.result (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)),
    Cert.Kernel3Ideal.Hand.run_result m ρ,
    (θ_run Cert.Reference3Ideal.defs _ _).mono
      (fun _ hr c => ⟨((hr c).1.trans (Cert.Kernel3Ideal.Hand.reference_result c m')).trans (by rw [(hm c).1, (hm c).2.1, (hm c).2.2.1, (hm c).2.2.2.1, (hm c).2.2.2.2]), (hr c).2⟩)
      (Cert.Reference3Ideal.Value.run (F := Ideal) m' ρ')⟩

/-- The frame of that reference: it declares no semaphore. -/
theorem frame_reference_combine : Cert.quiescent_Reference3Ideal := fun m ρ _ =>
  (θ_run Cert.Reference3Ideal.defs _ _).mono (fun r hr => ⟨fun c => (hr c).2, sem_eq_zero_of_no_sems (by decide) r.2⟩)
    (Cert.Reference3Ideal.Value.run (F := Ideal) m ρ)

/-- At the ideal values the program of the mixer's input and its reference end with the same array. -/
theorem same_input : Cert.algebraic_Kernel4Ideal_Reference4Ideal := fun m ρ m' ρ' _ hm =>
  ⟨fun c => Cert.Kernel4Ideal.Hand.result (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)),
    Cert.Kernel4Ideal.Hand.run_result m ρ,
    (θ_run Cert.Reference4Ideal.defs _ _).mono
      (fun _ hr c => ⟨((hr c).1.trans (Cert.Kernel4Ideal.Hand.reference_result c m')).trans (by rw [(hm c).1, (hm c).2.1, (hm c).2.2.1, (hm c).2.2.2.1, (hm c).2.2.2.2]), (hr c).2⟩)
      (Cert.Reference4Ideal.Value.run (F := Ideal) m' ρ')⟩

/-- The frame of that reference: it declares no semaphore. -/
theorem frame_reference_input : Cert.quiescent_Reference4Ideal := fun m ρ _ =>
  (θ_run Cert.Reference4Ideal.defs _ _).mono (fun r hr => ⟨fun c => (hr c).2, sem_eq_zero_of_no_sems (by decide) r.2⟩)
    (Cert.Reference4Ideal.Value.run (F := Ideal) m ρ)

set_option maxHeartbeats 1000000 in
/-- The experts' program at the bits and at the ideal values has one body. -/
theorem body_eq : @Cert.Kernel5.cc0_experts Bits _ _ = @Cert.Kernel5Ideal.cc0_experts Bits _ _ := rfl

set_option maxHeartbeats 1000000 in
/-- So its bodies are the same at every label, of which there is one. -/
theorem bodies_eq : Cert.Kernel5.defs₀ (F := Bits) = Cert.Kernel5Ideal.defs₀ (F := Bits) := by
  unfold Cert.Kernel5.defs₀ Cert.Kernel5Ideal.defs₀
  refine congrArg (fun g => Defs.onTc (nD := Cert.Kernel5.nD) (τ := Cert.Kernel5.τ) (sig := Cert.Kernel5.sig) (Λ := Cert.Kernel5.Λ₀) g) ?_
  funext l
  fin_cases l
  funext a
  obtain ⟨t, s⟩ := a
  rfl

set_option maxHeartbeats 1000000 in
/-- So are the procedures with the pipeline's. -/
theorem table_eq : Cert.Kernel5.defs (F := Bits) = Cert.Kernel5Ideal.defs (F := Bits) := by
  unfold Cert.Kernel5.defs Cert.Kernel5Ideal.defs
  rw [bodies_eq]
  rfl

set_option maxHeartbeats 1000000 in
/-- And the host's lines. -/
theorem main_eq : Cert.Kernel5.main (F := Bits) = Cert.Kernel5Ideal.main (F := Bits) := rfl

set_option maxHeartbeats 1000000 in
/-- The frame of the experts' program at the bits: where the words are in range, no block lies outside its array. -/
theorem frame_experts : Cert.quiescent_Kernel5 := fun m ρ h => by
  have hO : Cert.Kernel5Ideal.Hand.Ok (F := Bits) m := Cert.Kernel5Ideal.Hand.ok_of_inRange (Cert.Kernel5Ideal.Hand.inRange_tbl m 0 (h 0))
  have hr := Cert.Kernel5Ideal.Hand.frame (F := Bits) m ρ hO
  rw [table_eq, main_eq]
  exact hr

/-- The frame of the experts' program at the ideal values. -/
theorem frame_experts_ideal : Cert.quiescent_Kernel5Ideal := fun m ρ h =>
  Cert.Kernel5Ideal.Hand.frame (F := Ideal) m ρ (Cert.Kernel5Ideal.Hand.ok_of_inRange (Cert.Kernel5Ideal.Hand.inRange_tbl m 0 (h 0)))

/-- At the ideal values the program of the experts and its reference end with the same array. -/
theorem same_experts : Cert.algebraic_Kernel5Ideal_Reference5Ideal := fun m ρ m' ρ' h hm =>
  ⟨fun c => Cert.Expert.result (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)) (m ((c.tc : Thread _ _).loc Cert.Kernel5Ideal.main_arg5)) (m ((c.tc : Thread _ _).loc Cert.Kernel5Ideal.main_arg6)),
    Cert.Kernel5Ideal.Hand.run_result m ρ (Cert.Kernel5Ideal.Hand.ok_of_inRange (Cert.Kernel5Ideal.Hand.inRange_tbl m 0 (h 0))) (Cert.Kernel5Ideal.Hand.inRange_tbl m 0 (h 0)),
    (θ_run Cert.Reference5Ideal.defs _ _).mono
      (fun _ hr c => ⟨((hr c).1.trans ((Cert.Reference5Ideal.Hand.result_composed m' c).trans (Cert.Reference5Ideal.Hand.composed_eq _ _ _ _ _ _ _
          (fun x => by rw [(hm c).2.1]; exact (Cert.Kernel5Ideal.Hand.words_in_range _ _ _ _ _ _ _ (h c)).1 x)
          (fun x => by rw [(hm c).2.2.1]; exact ((Cert.Kernel5Ideal.Hand.words_in_range _ _ _ _ _ _ _ (h c)).2 x).2)))).trans
            (by rw [(hm c).1, (hm c).2.1, (hm c).2.2.1, (hm c).2.2.2.1, (hm c).2.2.2.2.1, (hm c).2.2.2.2.2.1, (hm c).2.2.2.2.2.2]), (hr c).2⟩)
      (Cert.Reference5Ideal.Value.run (F := Ideal) m' ρ')⟩

/-- The frame of that reference: it declares no semaphore. -/
theorem frame_reference_experts : Cert.quiescent_Reference5Ideal := fun m ρ _ =>
  (θ_run Cert.Reference5Ideal.defs _ _).mono (fun r hr => ⟨fun c => (hr c).2, sem_eq_zero_of_no_sems (by decide) r.2⟩)
    (Cert.Reference5Ideal.Value.run (F := Ideal) m ρ)

/-- At the ideal values the program of the conditioning and its reference end with the same array. -/
theorem same_conditioning : Cert.algebraic_Kernel6Ideal_Reference6Ideal := fun m ρ m' ρ' _ hm =>
  ⟨fun c => Cert.Kernel6Ideal.Hand.result (m ((c.tc : Thread _ _).loc Cert.Kernel6Ideal.main_arg0)) (m ((c.tc : Thread _ _).loc Cert.Kernel6Ideal.main_arg1)) (m ((c.tc : Thread _ _).loc Cert.Kernel6Ideal.main_arg2)),
    Cert.Kernel6Ideal.Hand.run_result m ρ,
    (θ_run Cert.Reference6Ideal.defs _ _).mono
      (fun _ hr c => ⟨((hr c).1.trans (Cert.Reference6Ideal.Hand.composed_eq _ _ _)).trans (by rw [(hm c).1, (hm c).2.1, (hm c).2.2]), (hr c).2⟩)
      (Cert.Reference6Ideal.Value.run (F := Ideal) m' ρ')⟩

/-- The frame of that reference: it declares no semaphore. -/
theorem frame_reference_conditioning : Cert.quiescent_Reference6Ideal := fun m ρ _ =>
  (θ_run Cert.Reference6Ideal.defs _ _).mono (fun r hr => ⟨fun c => (hr c).2, sem_eq_zero_of_no_sems (by decide) r.2⟩)
    (Cert.Reference6Ideal.Value.run (F := Ideal) m ρ)

/-- At the ideal values the program of the convolution and its reference end with the same array. -/
theorem same_conv : Cert.algebraic_Kernel7Ideal_Reference7Ideal := fun m ρ m' ρ' _ hm =>
  ⟨fun c => Cert.Kernel7Ideal.Hand.result (m ((c.tc : Thread _ _).loc Cert.Kernel7Ideal.main_arg0)) (m ((c.tc : Thread _ _).loc Cert.Kernel7Ideal.main_arg1)),
    Cert.Kernel7Ideal.Hand.run_result m ρ,
    (θ_run Cert.Reference7Ideal.defs _ _).mono
      (fun _ hr c => ⟨((hr c).1.trans (Cert.Reference7Ideal.Hand.composed_eq _ _)).trans (by rw [(hm c).1, (hm c).2]), (hr c).2⟩)
      (Cert.Reference7Ideal.Value.run (F := Ideal) m' ρ')⟩

/-- The frame of that reference: it declares no semaphore. -/
theorem frame_reference_conv : Cert.quiescent_Reference7Ideal := fun m ρ _ =>
  (θ_run Cert.Reference7Ideal.defs _ _).mono (fun r hr => ⟨fun c => (hr c).2, sem_eq_zero_of_no_sems (by decide) r.2⟩)
    (Cert.Reference7Ideal.Value.run (F := Ideal) m ρ)

/-- At the ideal values the program of the latent values and its reference end with the same array. -/
theorem same_latent : Cert.algebraic_Kernel8Ideal_Reference8Ideal := fun m ρ m' ρ' _ hm =>
  ⟨fun c => Cert.Kernel8Ideal.Hand.result (m ((c.tc : Thread _ _).loc Cert.Kernel8Ideal.main_arg0)) (m ((c.tc : Thread _ _).loc Cert.Kernel8Ideal.main_arg3)) (m ((c.tc : Thread _ _).loc Cert.Kernel8Ideal.main_arg4)) (m ((c.tc : Thread _ _).loc Cert.Kernel8Ideal.main_arg5)),
    Cert.Kernel8Ideal.Hand.run_result m ρ,
    (θ_run Cert.Reference8Ideal.defs _ _).mono
      (fun _ hr c => ⟨((hr c).1.trans (Cert.Reference8Ideal.Hand.composed_eq _ _ _ _)).trans (by rw [(hm c).1, (hm c).2.2.2.1, (hm c).2.2.2.2.1, (hm c).2.2.2.2.2]), (hr c).2⟩)
      (Cert.Reference8Ideal.Value.run (F := Ideal) m' ρ')⟩

/-- The frame of that reference: it declares no semaphore. -/
theorem frame_reference_latent : Cert.quiescent_Reference8Ideal := fun m ρ _ =>
  (θ_run Cert.Reference8Ideal.defs _ _).mono (fun r hr => ⟨fun c => (hr c).2, sem_eq_zero_of_no_sems (by decide) r.2⟩)
    (Cert.Reference8Ideal.Value.run (F := Ideal) m ρ)

/-- The certificate's claim. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_dest_in_range.Gen.facts, Cert.Pre_blocks_in_range.Gen.facts, frame_kernel, frame_ideal, frame_reference_ideal,
    fun m ρ _ => frame_reference_ideal m ρ trivial, frame_reference,
    fun m ρ _ => Cert.Kernel2.Gen.frame m ρ, fun m ρ _ => Cert.Kernel2Ideal.Gen.frame m ρ, frame_reference_merge,
    fun m ρ _ => Cert.Kernel3.Gen.frame m ρ, fun m ρ _ => Cert.Kernel3Ideal.Gen.frame m ρ, frame_reference_combine,
    fun m ρ _ => Cert.Kernel4.Gen.frame m ρ, fun m ρ _ => Cert.Kernel4Ideal.Gen.frame m ρ, frame_reference_input,
    frame_experts, frame_experts_ideal, frame_reference_experts, fun m ρ _ => frame_reference_experts m ρ trivial,
    fun m ρ _ => Cert.Kernel6.Gen.frame m ρ, fun m ρ _ => Cert.Kernel6Ideal.Gen.frame m ρ, frame_reference_conditioning,
    fun m ρ _ => Cert.Kernel7.Gen.frame m ρ, fun m ρ _ => Cert.Kernel7Ideal.Gen.frame m ρ, frame_reference_conv,
    fun m ρ _ => Cert.Kernel8.Gen.frame m ρ, fun m ρ _ => Cert.Kernel8Ideal.Gen.frame m ρ, frame_reference_latent,
    trivial, same_ideal, same_bits,
    trivial, same_merge,
    trivial, same_combine,
    trivial, same_input,
    trivial, same_experts,
    trivial, same_conditioning,
    trivial, same_conv,
    trivial, same_latent⟩

end Cert.Proof

end
